-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x1024x1024 : Shape := ⟨3, ![2, 1024, 1024]⟩
abbrev S6x1024x512 : Shape := ⟨3, ![6, 1024, 512]⟩
abbrev S8x128 : Shape := ⟨2, ![8, 128]⟩
abbrev S3x8x128 : Shape := ⟨3, ![3, 8, 128]⟩
abbrev S2 : Shape := ⟨1, ![2]⟩
abbrev S6 : Shape := ⟨1, ![6]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S1x1x1 : Shape := ⟨3, ![1, 1, 1]⟩
abbrev S1x8x128 : Shape := ⟨3, ![1, 8, 128]⟩
abbrev S1x3x8x128 : Shape := ⟨4, ![1, 3, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .bf16⟩
  | .local _ .vmem, ⟨1, _⟩ => ⟨S1024x8192, .bf16⟩
  | .local _ .vmem, ⟨2, _⟩ => ⟨S2x1024x1024, .f32⟩
  | .local _ .vmem, ⟨3, _⟩ => ⟨S6x1024x512, .bf16⟩
  | .local _ .vmem, ⟨4, _⟩ => ⟨S6x1024x512, .bf16⟩
  | .local _ .vmem, ⟨5, _⟩ => ⟨S6x1024x512, .bf16⟩
  | .local _ .vmem, ⟨6, _⟩ => ⟨S6x1024x512, .bf16⟩
  | .local _ .vmem, ⟨7, _⟩ => ⟨S8x128, .f32⟩
  | .local _ .vmem, ⟨8, _⟩ => ⟨S3x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
@[reducible] def k0_t1_loop : Scf.Loop 32 :=
  let c0_i32_111 : BitVec 32 := 0#32
  let c4_i32_112 : BitVec 32 := 4#32
  let v126 : BitVec 32 := Scalar.addi c0_i32_111 c4_i32_112
  let c1_i32_113 : BitVec 32 := 1#32
  ⟨c0_i32_111, v126, c1_i32_113⟩
def k0_off1 (d0 : Dev nD) (c0_i32_557 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_556 : BitVec 32 := 1#32
  let v545 : BitVec 32 := Scalar.subi v2 c1_i32_556
  let v546 : BitVec 32 := Scalar.subi v545 c0_i32_557
  let c4_i32_558 : BitVec 32 := 4#32
  let c0_i32_559 : BitVec 32 := 0#32
  let v547 : BitVec 1 := Scalar.cmpi .eq c4_i32_558 c0_i32_559
  let c1_i32_560 : BitVec 32 := 1#32
  let v548 : BitVec 32 := Scalar.select v547 c1_i32_560 c4_i32_558
  let v549 : BitVec 32 := Scalar.remsi v546 v548
  let c0_i32_562 : BitVec 32 := 0#32
  let v551 : BitVec 1 := Scalar.cmpi .slt v549 c0_i32_562
  let c0_i32_563 : BitVec 32 := 0#32
  let v552 : BitVec 1 := Scalar.cmpi .slt v548 c0_i32_563
  let v553 : BitVec 1 := Scalar.xori v551 v552
  let c0_i32_561 : BitVec 32 := 0#32
  let v550 : BitVec 1 := Scalar.cmpi .ne v549 c0_i32_561
  let v554 : BitVec 1 := Scalar.andi v553 v550
  let v555 : BitVec 32 := Scalar.addi v549 v548
  let v556 : BitVec 32 := Scalar.select v554 v555 v549
  let c1024_i32_564 : BitVec 32 := 1024#32
  let v557 : BitVec 32 := Scalar.muli v556 c1024_i32_564
  let v558 : Index := Scalar.indexCast v557
  let c0_565 : Index := 0#32
  ![v558.toNat, 0]
def k0_off2 (k0_t1 : Fin k0_t1_loop.trips) (c0_i32_566 : BitVec 32) : Fin 2 → Nat :=
  let c0_567 : Index := 0#32
  let c0_i32_111 : BitVec 32 := 0#32
  let c1_i32_113 : BitVec 32 := 1#32
  let arg20 : BitVec 32 := Scf.iv c0_i32_111 c1_i32_113 k0_t1
  let c1024_i32_547 : BitVec 32 := 1024#32
  let v539 : BitVec 32 := Scalar.muli arg20 c1024_i32_547
  let v560 : BitVec 32 := Scalar.addi v539 c0_i32_566
  let v561 : Index := Scalar.indexCast v560
  ![0, v561.toNat]
def k0_dev3 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_576 : BitVec 32 := 1#32
  let v568 : BitVec 32 := Scalar.muli v13 c1_i32_576
  let v569 : BitVec 32 := Scalar.addi c0_i32_577 v568
  v569.toNat
def k0_off3 (d0 : Dev nD) (c0_i32_589 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_588 : BitVec 32 := 1#32
  let v581 : BitVec 32 := Scalar.addi v2 c1_i32_588
  let v582 : BitVec 32 := Scalar.addi v581 c0_i32_589
  let c4_i32_590 : BitVec 32 := 4#32
  let c0_i32_591 : BitVec 32 := 0#32
  let v583 : BitVec 1 := Scalar.cmpi .eq c4_i32_590 c0_i32_591
  let c1_i32_592 : BitVec 32 := 1#32
  let v584 : BitVec 32 := Scalar.select v583 c1_i32_592 c4_i32_590
  let v585 : BitVec 32 := Scalar.remsi v582 v584
  let c0_i32_594 : BitVec 32 := 0#32
  let v587 : BitVec 1 := Scalar.cmpi .slt v585 c0_i32_594
  let c0_i32_595 : BitVec 32 := 0#32
  let v588 : BitVec 1 := Scalar.cmpi .slt v584 c0_i32_595
  let v589 : BitVec 1 := Scalar.xori v587 v588
  let c0_i32_593 : BitVec 32 := 0#32
  let v586 : BitVec 1 := Scalar.cmpi .ne v585 c0_i32_593
  let v590 : BitVec 1 := Scalar.andi v589 v586
  let v591 : BitVec 32 := Scalar.addi v585 v584
  let v592 : BitVec 32 := Scalar.select v590 v591 v585
  let c1024_i32_596 : BitVec 32 := 1024#32
  let v593 : BitVec 32 := Scalar.muli v592 c1024_i32_596
  let v594 : Index := Scalar.indexCast v593
  let c0_597 : Index := 0#32
  ![v594.toNat, 0]
def k0_off4 (k0_t1 : Fin k0_t1_loop.trips) (c0_i32_598 : BitVec 32) : Fin 2 → Nat :=
  let c0_599 : Index := 0#32
  let c0_i32_111 : BitVec 32 := 0#32
  let c1_i32_113 : BitVec 32 := 1#32
  let arg20 : BitVec 32 := Scf.iv c0_i32_111 c1_i32_113 k0_t1
  let c4_i32_548 : BitVec 32 := 4#32
  let v540 : BitVec 32 := Scalar.addi arg20 c4_i32_548
  let c1024_i32_549 : BitVec 32 := 1024#32
  let v541 : BitVec 32 := Scalar.muli v540 c1024_i32_549
  let v596 : BitVec 32 := Scalar.addi v541 c0_i32_598
  let v597 : Index := Scalar.indexCast v596
  ![0, v597.toNat]
def k0_dev4 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_608 : BitVec 32 := 1#32
  let v604 : BitVec 32 := Scalar.muli v24 c1_i32_608
  let v605 : BitVec 32 := Scalar.addi c0_i32_609 v604
  v605.toNat
def k0_dev5 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_639 : BitVec 32 := 1#32
  let v640 : BitVec 32 := Scalar.muli v13 c1_i32_639
  let v641 : BitVec 32 := Scalar.addi c0_i32_640 v640
  v641.toNat
def k0_dev6 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_671 : BitVec 32 := 1#32
  let v676 : BitVec 32 := Scalar.muli v24 c1_i32_671
  let v677 : BitVec 32 := Scalar.addi c0_i32_672 v676
  v677.toNat
def k0_cond5 (k0_t1 : Fin k0_t1_loop.trips) : BitVec 1 :=
  let c0_i32_111 : BitVec 32 := 0#32
  let c1_i32_113 : BitVec 32 := 1#32
  let arg20 : BitVec 32 := Scf.iv c0_i32_111 c1_i32_113 k0_t1
  let c3_i32_677 : BitVec 32 := 3#32
  let v686 : BitVec 1 := Scalar.cmpi .slt arg20 c3_i32_677
  let v687 : BitVec 32 := Scalar.extui v686
  let c0_i32_678 : BitVec 32 := 0#32
  let v688 : BitVec 1 := Scalar.cmpi .ne v687 c0_i32_678
  v688

def k0_off5 (k0_t1 : Fin k0_t1_loop.trips) : Fin 2 → Nat :=
  let c0_i32_1180 : BitVec 32 := 0#32
  let c0_i32_111 : BitVec 32 := 0#32
  let c1_i32_113 : BitVec 32 := 1#32
  let arg20 : BitVec 32 := Scf.iv c0_i32_111 c1_i32_113 k0_t1
  let c1_i32_1174 : BitVec 32 := 1#32
  let v1253 : BitVec 32 := Scalar.addi arg20 c1_i32_1174
  let c1024_i32_1175 : BitVec 32 := 1024#32
  let v1254 : BitVec 32 := Scalar.muli v1253 c1024_i32_1175
  ![0, v1254.toNat]
def k0_off6 (k0_t1 : Fin k0_t1_loop.trips) : Fin 2 → Nat :=
  let c0_1190 : Index := 0#32
  let c0_i32_111 : BitVec 32 := 0#32
  let c1_i32_113 : BitVec 32 := 1#32
  let arg20 : BitVec 32 := Scf.iv c0_i32_111 c1_i32_113 k0_t1
  let c1_i32_1174 : BitVec 32 := 1#32
  let v1253 : BitVec 32 := Scalar.addi arg20 c1_i32_1174
  let c1024_i32_1189 : BitVec 32 := 1024#32
  let v1268 : BitVec 32 := Scalar.muli v1253 c1024_i32_1189
  let v1269 : Index := Scalar.indexCast v1268
  ![0, v1269.toNat]
def k0_off7 (k0_t1 : Fin k0_t1_loop.trips) : Fin 2 → Nat :=
  let c0_i32_1198 : BitVec 32 := 0#32
  let c0_i32_111 : BitVec 32 := 0#32
  let c1_i32_113 : BitVec 32 := 1#32
  let arg20 : BitVec 32 := Scf.iv c0_i32_111 c1_i32_113 k0_t1
  let c1_i32_1191 : BitVec 32 := 1#32
  let v1273 : BitVec 32 := Scalar.addi arg20 c1_i32_1191
  let c4_i32_1192 : BitVec 32 := 4#32
  let v1274 : BitVec 32 := Scalar.addi v1273 c4_i32_1192
  let c1024_i32_1193 : BitVec 32 := 1024#32
  let v1275 : BitVec 32 := Scalar.muli v1274 c1024_i32_1193
  ![0, v1275.toNat]
def k0_off8 (k0_t1 : Fin k0_t1_loop.trips) : Fin 2 → Nat :=
  let c0_1208 : Index := 0#32
  let c0_i32_111 : BitVec 32 := 0#32
  let c1_i32_113 : BitVec 32 := 1#32
  let arg20 : BitVec 32 := Scf.iv c0_i32_111 c1_i32_113 k0_t1
  let c1_i32_1191 : BitVec 32 := 1#32
  let v1273 : BitVec 32 := Scalar.addi arg20 c1_i32_1191
  let c4_i32_1192 : BitVec 32 := 4#32
  let v1274 : BitVec 32 := Scalar.addi v1273 c4_i32_1192
  let c1024_i32_1207 : BitVec 32 := 1024#32
  let v1289 : BitVec 32 := Scalar.muli v1274 c1024_i32_1207
  let v1290 : Index := Scalar.indexCast v1289
  ![0, v1290.toNat]
def k0_dev7 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_717 : BitVec 32 := 1#32
  let v727 : BitVec 32 := Scalar.muli v13 c1_i32_717
  let v728 : BitVec 32 := Scalar.addi c0_i32_718 v727
  v728.toNat
def k0_dev8 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_762 : BitVec 32 := 1#32
  let v775 : BitVec 32 := Scalar.muli v24 c1_i32_762
  let v776 : BitVec 32 := Scalar.addi c0_i32_763 v775
  v776.toNat
def k0_dev9 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_806 : BitVec 32 := 1#32
  let v823 : BitVec 32 := Scalar.muli v13 c1_i32_806
  let v824 : BitVec 32 := Scalar.addi c0_i32_807 v823
  v824.toNat
def k0_dev10 (d0 : Dev nD) : Nat :=
  let c0_i32_852 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_851 : BitVec 32 := 1#32
  let v871 : BitVec 32 := Scalar.muli v24 c1_i32_851
  let v872 : BitVec 32 := Scalar.addi c0_i32_852 v871
  v872.toNat
def k0_dev11 (d0 : Dev nD) : Nat :=
  let c0_i32_896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_895 : BitVec 32 := 1#32
  let v919 : BitVec 32 := Scalar.muli v13 c1_i32_895
  let v920 : BitVec 32 := Scalar.addi c0_i32_896 v919
  v920.toNat
def k0_dev12 (d0 : Dev nD) : Nat :=
  let c0_i32_941 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_940 : BitVec 32 := 1#32
  let v967 : BitVec 32 := Scalar.muli v24 c1_i32_940
  let v968 : BitVec 32 := Scalar.addi c0_i32_941 v967
  v968.toNat
def k0_dev13 (d0 : Dev nD) : Nat :=
  let c0_i32_985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_984 : BitVec 32 := 1#32
  let v1015 : BitVec 32 := Scalar.muli v13 c1_i32_984
  let v1016 : BitVec 32 := Scalar.addi c0_i32_985 v1015
  v1016.toNat
def k0_dev14 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1029 : BitVec 32 := 1#32
  let v1063 : BitVec 32 := Scalar.muli v24 c1_i32_1029
  let v1064 : BitVec 32 := Scalar.addi c0_i32_1030 v1063
  v1064.toNat
def k0_off9 (k0_t1 : Fin k0_t1_loop.trips) : Fin 2 → Nat :=
  let c0_i32_1156 : BitVec 32 := 0#32
  let c0_i32_111 : BitVec 32 := 0#32
  let c1_i32_113 : BitVec 32 := 1#32
  let arg20 : BitVec 32 := Scf.iv c0_i32_111 c1_i32_113 k0_t1
  let c1024_i32_547 : BitVec 32 := 1024#32
  let v539 : BitVec 32 := Scalar.muli arg20 c1024_i32_547
  ![0, v539.toNat]
def k0_off10 (k0_t1 : Fin k0_t1_loop.trips) : Fin 2 → Nat :=
  let c0_i32_1161 : BitVec 32 := 0#32
  let c0_i32_111 : BitVec 32 := 0#32
  let c1_i32_113 : BitVec 32 := 1#32
  let arg20 : BitVec 32 := Scf.iv c0_i32_111 c1_i32_113 k0_t1
  let c4_i32_548 : BitVec 32 := 4#32
  let v540 : BitVec 32 := Scalar.addi arg20 c4_i32_548
  let c1024_i32_549 : BitVec 32 := 1024#32
  let v541 : BitVec 32 := Scalar.muli v540 c1024_i32_549
  ![0, v541.toNat]
def k0_dev15 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_223 : BitVec 32 := 1#32
  let v204 : BitVec 32 := Scalar.addi v2 c1_i32_223
  let c4_i32_224 : BitVec 32 := 4#32
  let c0_i32_225 : BitVec 32 := 0#32
  let v205 : BitVec 1 := Scalar.cmpi .eq c4_i32_224 c0_i32_225
  let c1_i32_226 : BitVec 32 := 1#32
  let v206 : BitVec 32 := Scalar.select v205 c1_i32_226 c4_i32_224
  let v207 : BitVec 32 := Scalar.remsi v204 v206
  let c0_i32_228 : BitVec 32 := 0#32
  let v209 : BitVec 1 := Scalar.cmpi .slt v207 c0_i32_228
  let c0_i32_229 : BitVec 32 := 0#32
  let v210 : BitVec 1 := Scalar.cmpi .slt v206 c0_i32_229
  let v211 : BitVec 1 := Scalar.xori v209 v210
  let c0_i32_227 : BitVec 32 := 0#32
  let v208 : BitVec 1 := Scalar.cmpi .ne v207 c0_i32_227
  let v212 : BitVec 1 := Scalar.andi v211 v208
  let v213 : BitVec 32 := Scalar.addi v207 v206
  let v214 : BitVec 32 := Scalar.select v212 v213 v207
  let c1_i32_233 : BitVec 32 := 1#32
  let v215 : BitVec 32 := Scalar.muli v214 c1_i32_233
  let v216 : BitVec 32 := Scalar.addi c0_i32_234 v215
  v216.toNat
def k0_dev16 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_237 : BitVec 32 := 2#32
  let v223 : BitVec 32 := Scalar.addi v2 c2_i32_237
  let c4_i32_238 : BitVec 32 := 4#32
  let c0_i32_239 : BitVec 32 := 0#32
  let v224 : BitVec 1 := Scalar.cmpi .eq c4_i32_238 c0_i32_239
  let c1_i32_240 : BitVec 32 := 1#32
  let v225 : BitVec 32 := Scalar.select v224 c1_i32_240 c4_i32_238
  let v226 : BitVec 32 := Scalar.remsi v223 v225
  let c0_i32_242 : BitVec 32 := 0#32
  let v228 : BitVec 1 := Scalar.cmpi .slt v226 c0_i32_242
  let c0_i32_243 : BitVec 32 := 0#32
  let v229 : BitVec 1 := Scalar.cmpi .slt v225 c0_i32_243
  let v230 : BitVec 1 := Scalar.xori v228 v229
  let c0_i32_241 : BitVec 32 := 0#32
  let v227 : BitVec 1 := Scalar.cmpi .ne v226 c0_i32_241
  let v231 : BitVec 1 := Scalar.andi v230 v227
  let v232 : BitVec 32 := Scalar.addi v226 v225
  let v233 : BitVec 32 := Scalar.select v231 v232 v226
  let c1_i32_247 : BitVec 32 := 1#32
  let v234 : BitVec 32 := Scalar.muli v233 c1_i32_247
  let v235 : BitVec 32 := Scalar.addi c0_i32_248 v234
  v235.toNat
def k0_dev17 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v242 : BitVec 32 := Scalar.addi v2 c3_i32_251
  let c4_i32_252 : BitVec 32 := 4#32
  let c0_i32_253 : BitVec 32 := 0#32
  let v243 : BitVec 1 := Scalar.cmpi .eq c4_i32_252 c0_i32_253
  let c1_i32_254 : BitVec 32 := 1#32
  let v244 : BitVec 32 := Scalar.select v243 c1_i32_254 c4_i32_252
  let v245 : BitVec 32 := Scalar.remsi v242 v244
  let c0_i32_256 : BitVec 32 := 0#32
  let v247 : BitVec 1 := Scalar.cmpi .slt v245 c0_i32_256
  let c0_i32_257 : BitVec 32 := 0#32
  let v248 : BitVec 1 := Scalar.cmpi .slt v244 c0_i32_257
  let v249 : BitVec 1 := Scalar.xori v247 v248
  let c0_i32_255 : BitVec 32 := 0#32
  let v246 : BitVec 1 := Scalar.cmpi .ne v245 c0_i32_255
  let v250 : BitVec 1 := Scalar.andi v249 v246
  let v251 : BitVec 32 := Scalar.addi v245 v244
  let v252 : BitVec 32 := Scalar.select v250 v251 v245
  let c1_i32_261 : BitVec 32 := 1#32
  let v253 : BitVec 32 := Scalar.muli v252 c1_i32_261
  let v254 : BitVec 32 := Scalar.addi c0_i32_262 v253
  v254.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Own.lean ====
/-
Owning a memref at known contents, and what one load, one store and one local copy do to it: the steps a device's run
is put together from, stated of `owns` so that no contents of a whole buffer has to be named.
-/
module

public import Idealize.ShloMosaic.Lib.Transfers
public import Idealize.ShloMosaic.Lib.Memref
public import Idealize.ShloMosaic.Lib.Tactic
public import Idealize.ShloMosaic.Lib.Pipeline.Kit

@[expose] public section

noncomputable section

namespace Cert.OwnSteps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section Views

variable {c : Thread nD τ} {sp : Space} {s s' : Shape} {e : EltTy}

/-- Owning a slice with its unit axes dropped is owning the slice, the contents re-indexed. -/
theorem owns_squeeze (m : Memref sig c.2.kind sp s e) (h : s.Squeezes s') (q : PosShare TreeShare) (X : s.Idx → Val e) :
    (owns c m q X : sProp 𝕄) = owns c (m.squeeze s' h) q (fun y => X (Shape.reshapeEquiv h.numel_eq y)) := by
  unfold owns
  simp only [Memref.view_squeeze, View.set_reshape]
  have hr : ∀ f : m.view.ty.Contents Val, (m.view.reshape s' h.numel_eq).read Val f = (fun y => X (Shape.reshapeEquiv h.numel_eq y)) ↔ m.view.read Val f = X := by
    intro f
    constructor
    · intro hf
      funext i
      have := congrFun hf ((Shape.reshapeEquiv h.numel_eq).symm i)
      simpa [Equiv.apply_symm_apply] using (show m.view.read Val f (Shape.reshapeEquiv h.numel_eq ((Shape.reshapeEquiv h.numel_eq).symm i)) = _ from this)
    · intro hf; funext y; exact congrFun hf _
  have h1 : iprop(∃ f, ⌜m.view.read Val f = X⌝ ∗ (m.view.loc c ↦[m.view.set]{q} f))
      ⊢ (iprop(∃ f, ⌜(m.view.reshape s' h.numel_eq).read Val f = (fun y => X (Shape.reshapeEquiv h.numel_eq y))⌝ ∗ ((m.view.reshape s' h.numel_eq).loc c ↦[m.view.set]{q} f)) : sProp 𝕄) := by
    iintro ⟨%f, %hf, H⟩; iexists f; isplitr; · ipureintro; exact (hr f).2 hf
    iexact H
  have h2 : (iprop(∃ f, ⌜(m.view.reshape s' h.numel_eq).read Val f = (fun y => X (Shape.reshapeEquiv h.numel_eq y))⌝ ∗ ((m.view.reshape s' h.numel_eq).loc c ↦[m.view.set]{q} f)) : sProp 𝕄)
      ⊢ iprop(∃ f, ⌜m.view.read Val f = X⌝ ∗ (m.view.loc c ↦[m.view.set]{q} f)) := by
    iintro ⟨%f, %hf, H⟩; iexists f; isplitr; · ipureintro; exact (hr f).1 hf
    iexact H
  exact BI.equiv_iff.mp ⟨h1, h2⟩

/-- A window of an owned memref, lent for reading: the window at its part of the contents, and the whole back for it. -/
theorem owns_lend (m : Memref sig c.2.kind sp s e) (r : Rect s) (hr : ∀ a, r.stride a = 1) (q : PosShare TreeShare) (X : s.Idx → Val e) :
    (owns c m q X : sProp 𝕄) ⊢ iprop(owns c (m.slice r hr) q (fun j => X (r.emb j)) ∗ (owns c (m.slice r hr) q (fun j => X (r.emb j)) -∗ owns c m q X)) := by
  unfold owns
  iintro ⟨%f, %hf, H⟩
  ihave H := (pointsTo_split_subset (View.set_slice_subset m.view r)).1 $$ H
  icases H with ⟨H1, H2⟩
  isplitl [H1]
  · iexists f; isplitr
    · ipureintro; subst hf; rfl
    iexact H1
  iintro ⟨%g, %hg, H1⟩
  iexists f
  isplitr; · ipureintro; exact hf
  have hc : ∀ i ∈ (m.view.slice r).set, g i = f i := by
    intro i hi
    obtain ⟨x, hx⟩ : ∃ x, (m.view.slice r).emb x = i := by
      obtain ⟨x, -, hx⟩ := Finset.mem_map.mp hi; exact ⟨x, hx⟩
    have h1 : (m.view.slice r).read Val g x = (m.view.slice r).read Val f x := by
      rw [show (m.view.slice r).read Val g = _ from hg]; subst hf; rfl
    rw [View.read_apply, View.read_apply, hx] at h1
    exact (cast_inj _).mp h1
  ihave H1 := (show ((m.slice r hr).view.loc c ↦[(m.slice r hr).view.set]{q} g : sProp 𝕄) ⊢ (m.view.loc c ↦[(m.view.slice r).set]{q} f)
    from Entails.of_eq (pointsTo_congr hc)) $$ H1
  iapply (show _ ⊢ _ from (pointsTo_split_subset (View.set_slice_subset m.view r)).2)
  isplitl [H1] <;> iassumption

/-- A window of an owned memref, lent for writing: the whole comes back at contents that are the window's new ones in it and
    the old ones elsewhere. -/
theorem owns_lend_write (m : Memref sig c.2.kind sp s e) (r : Rect s) (hr : ∀ a, r.stride a = 1) (X : s.Idx → Val e) :
    (owns c m fullShare X : sProp 𝕄) ⊢ iprop(owns c (m.slice r hr) fullShare (fun j => X (r.emb j))
      ∗ (∀ Y, owns c (m.slice r hr) fullShare Y -∗ ∃ Z, ⌜(∀ j, Z (r.emb j) = Y j) ∧ ∀ i, (∀ j, r.emb j ≠ i) → Z i = X i⌝ ∗ owns c m fullShare Z)) := by
  unfold owns
  iintro ⟨%f, %hf, H⟩
  ihave H := (pointsTo_split_subset (View.set_slice_subset m.view r)).1 $$ H
  icases H with ⟨H1, H2⟩
  isplitl [H1]
  · iexists f; isplitr
    · ipureintro; subst hf; rfl
    iexact H1
  iintro %Y ⟨%g, %hg, H1⟩
  iexists (m.view.read Val ((m.view.slice r).write Val f Y Finset.univ))
  isplitr
  · ipureintro
    constructor
    · intro j
      exact congrFun (View.read_write_univ (v := m.view.slice r) (Val := Val) f Y) j
    · intro i hi
      subst hf
      rw [View.read_apply, View.read_apply, View.write_of_not_mem]
      intro hmem
      rw [show (m.view.slice r).setOn Finset.univ = (m.view.slice r).set from rfl] at hmem
      obtain ⟨x, -, hx⟩ := Finset.mem_map.mp hmem
      exact hi x (m.view.emb.injective hx)
  iexists ((m.view.slice r).write Val f Y Finset.univ)
  isplitr; · ipureintro; rfl
  have hc : ∀ i ∈ (m.view.slice r).set, g i = (m.view.slice r).write Val f Y Finset.univ i := by
    intro i hi
    obtain ⟨x, -, hx⟩ := Finset.mem_map.mp hi
    have h1 : (m.view.slice r).read Val g x = (m.view.slice r).read Val ((m.view.slice r).write Val f Y Finset.univ) x := by
      rw [View.read_write_univ]; exact congrFun hg x
    rw [View.read_apply, View.read_apply, hx] at h1
    exact (cast_inj _).mp h1
  have hc2 : ∀ i ∈ m.view.set \ (m.view.slice r).set, f i = (m.view.slice r).write Val f Y Finset.univ i := by
    intro i hi
    rw [View.write_of_not_mem]
    exact (Finset.mem_sdiff.mp hi).2
  ihave H1 := (show ((m.slice r hr).view.loc c ↦[(m.slice r hr).view.set]{fullShare} g : sProp 𝕄)
    ⊢ (m.view.loc c ↦[(m.view.slice r).set]{fullShare} (m.view.slice r).write Val f Y Finset.univ) from Entails.of_eq (pointsTo_congr hc)) $$ H1
  ihave H2 := (show (m.view.loc c ↦[m.view.set \ (m.view.slice r).set]{fullShare} f : sProp 𝕄)
    ⊢ (m.view.loc c ↦[m.view.set \ (m.view.slice r).set]{fullShare} (m.view.slice r).write Val f Y Finset.univ) from Entails.of_eq (pointsTo_congr hc2)) $$ H2
  iapply (show _ ⊢ _ from (pointsTo_split_subset (View.set_slice_subset m.view r)).2)
  isplitl [H1] <;> iassumption

end Views

section Steps

variable [Preorder Lvl] {Λ : Labels} {defs : Defs nD τ sig Val Λ} (𝒱 : Variants) (c : Thread nD τ) (bd : Option 𝒱.V)
variable {α : Type} {Q : α → sProp (MT nD τ sig Ix Val Name U Lvl)} {s s' s₀ : Shape} {e : EltTy}

/-- A load of an owned slice reads its contents. -/
theorem load_slice {cs : CoreSpace} {m : Memref sig c.2.kind cs s e} {r : Rect s} {hl : m.view.LoadsAt r} {hr : ∀ a, r.stride a = 1}
    {k : (r.shape.Idx → Val e) → Prog (TpuEff nD τ sig Val Λ c.2) α} {q : PosShare TreeShare} {X : r.shape.Idx → Val e} :
    (owns c (m.slice r hr) q X : sProp 𝕄) ⊢ iprop((owns c (m.slice r hr) q X -∗ wp frame (wpE defs 𝒱 c bd) Set.univ (k X) Q) -∗ wp frame (wpE defs 𝒱 c bd) Set.univ (.op (.load m r hl) k) Q) := by
  unfold owns
  iintro ⟨%f, %hf, H⟩ Hk
  iapply (wp_load_rect 𝒱 c bd Set.univ (m := m) (r := r) subset_rfl) $$ H
  iintro H
  rw [show (m.access r).read Val f = X from hf]
  iapply Hk
  iexists f; isplitr; · ipureintro; exact hf
  iexact H

/-- A load of a window of an owned memref reads the window's part of its contents. -/
theorem load_window {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄) ⊢ iprop((owns c m q X -∗ wp frame (wpE defs 𝒱 c bd) Set.univ (k (fun j => X (r.emb j))) Q) -∗ wp frame (wpE defs 𝒱 c bd) Set.univ (.op (.load m r hl) k) Q) := by
  unfold owns
  iintro ⟨%f, %hf, H⟩ Hk
  iapply (wp_load_rect 𝒱 c bd Set.univ (m := m) (r := r) (View.set_slice_subset m.view r)) $$ H
  iintro H
  rw [show (m.access r).read Val f = (fun j => X (r.emb j)) from by subst hf; rfl]
  iapply Hk
  iexists f; isplitr; · ipureintro; exact hf
  iexact H

/-- A store to an owned slice puts the stored vector there. -/
theorem store_slice {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1} {hr : ∀ a, r.stride a = 1}
    {k : PUnit → Prog (TpuEff nD τ sig Val Λ c.2) α} {X : r.shape.Idx → Val e} :
    (owns c (m.slice r hr) fullShare X : sProp 𝕄) ⊢ iprop((owns c (m.slice r hr) fullShare w -∗ wp frame (wpE defs 𝒱 c bd) Set.univ (k ⟨⟩) Q) -∗ wp frame (wpE defs 𝒱 c bd) Set.univ (.op (.store m r w Finset.univ hx hm) k) Q) := by
  unfold owns
  iintro ⟨%f, %hf, H⟩ Hk
  iapply (wp_store 𝒱 c bd Set.univ (m := m) (r := r) (Mk := Finset.univ) (show (m.access r).setOn Finset.univ ⊆ (m.slice r hr).view.set from subset_rfl)) $$ H
  iintro H
  iapply Hk
  iexists _; isplitr
  · ipureintro; exact View.read_write_univ (v := m.access r) (Val := Val) f w
  iexact H

/-- A store to a window of an owned memref: the stored vector in the window, the old contents elsewhere. -/
theorem store_window {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1} (hr : ∀ a, r.stride a = 1)
    {k : PUnit → Prog (TpuEff nD τ sig Val Λ c.2) α} {X : s.Idx → Val e} :
    (owns c m fullShare X : sProp 𝕄) ⊢ iprop((∀ Z, ⌜(∀ j, Z (r.emb j) = w j) ∧ ∀ i, (∀ j, r.emb j ≠ i) → Z i = X i⌝ -∗ owns c m fullShare Z -∗ wp frame (wpE defs 𝒱 c bd) Set.univ (k ⟨⟩) Q)
      -∗ wp frame (wpE defs 𝒱 c bd) Set.univ (.op (.store m r w Finset.univ hx hm) k) Q) := by
  iintro H Hk
  ihave H := (owns_lend_write m r hr X) $$ H
  icases H with ⟨H, Hb⟩
  iapply (store_slice 𝒱 c bd (hr := hr)) $$ H
  iintro H
  ihave H := Hb $$ H
  icases H with ⟨%Z, %hZ, H⟩
  iapply Hk $$ %Z %hZ H

/-- An idle load of part of an owned slice. -/
theorem load_within {cs : CoreSpace} {m : Memref sig c.2.kind cs s e} {R r : Rect s} {hl : m.view.LoadsAt r} {hR : ∀ a, R.stride a = 1}
    (f : r.shape.Idx → R.shape.Idx) (hf : ∀ j, r.emb j = R.emb (f j))
    {k : Prog (TpuEff nD τ sig Val Λ c.2) α} {q : PosShare TreeShare} {X : R.shape.Idx → Val e} :
    (owns c (m.slice R hR) q X : sProp 𝕄) ⊢ iprop((owns c (m.slice R hR) q X -∗ wp frame (wpE defs 𝒱 c bd) Set.univ k Q)
      -∗ wp frame (wpE defs 𝒱 c bd) Set.univ (.op (.load m r hl) fun _ => k) Q) := by
  have hsub : (m.view.slice r).set ⊆ (m.slice R hR).view.set := by
    intro i hi
    obtain ⟨x, -, rfl⟩ := Finset.mem_map.mp hi
    exact Finset.mem_map.mpr ⟨f x, Finset.mem_univ _, congrArg m.view.emb (hf x).symm⟩
  unfold owns
  iintro ⟨%g, %hg, H⟩ Hk
  iapply (wp_load_rect 𝒱 c bd Set.univ (m := m) (r := r) hsub) $$ H
  iintro H
  iapply Hk
  iexists g; isplitr; · ipureintro; exact hg
  iexact H

/-- A store to part of an owned slice. -/
theorem store_within {cs : CoreSpace} {m : Memref sig c.2.kind cs s e} {R r : Rect s} {w : r.shape.Idx → Val e} {hx : (m.access r).Stores Finset.univ}
    {hm : (Finset.univ : Finset r.shape.Idx) = Finset.univ ∨ ∀ a, r.stride a = 1} {hR : ∀ a, R.stride a = 1}
    (f : r.shape.Idx → R.shape.Idx) (hf : ∀ j, r.emb j = R.emb (f j))
    {k : PUnit → Prog (TpuEff nD τ sig Val Λ c.2) α} {X : R.shape.Idx → Val e} :
    (owns c (m.slice R hR) fullShare X : sProp 𝕄) ⊢ iprop((∀ Z, ⌜(∀ j, Z (f j) = w j) ∧ ∀ i, (∀ j, f j ≠ i) → Z i = X i⌝ -∗ owns c (m.slice R hR) fullShare Z -∗ wp frame (wpE defs 𝒱 c bd) Set.univ (k ⟨⟩) Q)
      -∗ wp frame (wpE defs 𝒱 c bd) Set.univ (.op (.store m r w Finset.univ hx hm) k) Q) := by
  have hsub : (m.view.slice r).set ⊆ (m.slice R hR).view.set := by
    intro i hi
    obtain ⟨x, -, rfl⟩ := Finset.mem_map.mp hi
    exact Finset.mem_map.mpr ⟨f x, Finset.mem_univ _, congrArg m.view.emb (hf x).symm⟩
  unfold owns
  iintro ⟨%g, %hg, H⟩ Hk
  iapply (wp_store 𝒱 c bd Set.univ (m := m) (r := r) (Mk := Finset.univ) (show (m.access r).setOn Finset.univ ⊆ (m.slice R hR).view.set from hsub)) $$ H
  iintro H
  iapply Hk $$ %((m.slice R hR).view.read Val ((m.view.slice r).write Val g w Finset.univ))
  · ipureintro
    constructor
    · intro j
      have h1 := congrFun (View.read_write_univ (v := m.view.slice r) (Val := Val) g w) j
      rw [View.read_apply] at h1 ⊢
      rw [← h1]
      have h2 : (m.slice R hR).view.emb (f j) = (m.view.slice r).emb j := congrArg m.view.emb (hf j).symm
      rw [h2]
    · intro i hi
      subst hg
      rw [View.read_apply, View.read_apply, View.write_of_not_mem]
      intro hmem
      obtain ⟨x, -, hx⟩ := Finset.mem_map.mp hmem
      exact hi x (R.emb.injective ((hf x).symm.trans (m.view.emb.injective hx)))
  iexists _; isplitr
  · ipureintro; rfl
  iexact H

variable (EC : UEmb Counters (MT nD τ sig Ix Val Name U Lvl))

/-- A local copy issued: from the source owned, the destination owned at any contents and the completion counter at zero, the
    pending copy, which will give the destination back at the source's contents. -/
theorem copy_start [Infinite Name] [EC.LandsIn (upEmb : UEmb _ 𝕄)] {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Transfers.Flight EC c sm ι N iprop(owns c dst fullShare X ∗ owns c src q X) -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold owns
  icases Hs with ⟨%f, %hf, Hs⟩
  icases Hd with ⟨%g, %hg, Hd⟩
  iapply (Transfers.wp_dmaLocal EC 𝒱 c bd ι N hN hN0 (subset_rfl)) $$ [Hs Hd Hv]
  · isplitl [Hs]; · iexact Hs
    isplitl [Hd]; · iexact Hd
    iexact Hv
  iintro HF
  iapply Hk
  iapply (Transfers.Flight_mono EC c ?_) $$ HF
  iintro ⟨Hd, Hs⟩
  isplitl [Hd]
  · iexists _; isplitr
    · ipureintro; exact (View.read_write_univ (v := dst.view) (Val := Val) g _).trans hf
    iexact Hd
  · iexists f; isplitr; · ipureintro; exact hf
    iexact Hs

end Steps

end Cert.OwnSteps

end
-- ==== Proof.Common.lean ====
/-
The protocol of the two rings and of the exchange of maxima: the buffers and semaphores by ring and slot, the contents of
every message, the schedule of the shared semaphores (what each landing hands over), what a device owes at each moment and
the levels that order the waits.
-/
module

public import proofs.«01_k».proof.Proof.Own
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UX : Type := URounds (GSem nD τ sig) Bool
abbrev UU : Type := UR sig nD τ × (UX × Counters)

local notation "𝕄" => MT nD τ sig ℕ (Elt F) ℕ UU ℕ

abbrev EP : Emb (UR sig nD τ) (MT nD τ sig ℕ (Elt F) ℕ UU ℕ) := embL
/-- The rings' rounds: the left half of the right factor. -/
def ER : Emb UX (MT nD τ sig ℕ (Elt F) ℕ UU ℕ) :=
  ((Emb.inl : Emb UX (UX × Counters)).trans (Emb.inr : Emb (UX × Counters) UU)).trans
    (uEmb (nD := nD) (sig := sig) (Ix := ℕ) (Val := Elt F) (Name := ℕ) (U := UU) (Lvl := ℕ)).toEmb
instance ER_landsIn : (ER : Emb UX 𝕄).LandsIn (upEmb : UEmb _ 𝕄) := by unfold ER; infer_instance
abbrev EC : UEmb Counters (MT nD τ sig ℕ (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- The device a message of ring `b` goes to: `false` upwards, `true` downwards; -/
def dst (b : Bool) (c : Dev nD) : Dev nD := bif b then prv c else nxt c
/-- and the one it comes from. -/
def src (b : Bool) (c : Dev nD) : Dev nD := bif b then nxt c else prv c

theorem prv_nxt (c : Dev nD) : prv (nxt c) = c := by revert c; decide
theorem nxt_prv (c : Dev nD) : nxt (prv c) = c := by revert c; decide
theorem src_dst (b : Bool) (c : Dev nD) : src b (dst b c) = c := by revert b c; decide
theorem dst_src (b : Bool) (c : Dev nD) : dst b (src b c) = c := by revert b c; decide

set_option backward.proofsInPublic true in
/-- The device the `k`-th of the maxima goes to; -/
def adst (k : Fin 3) (c : Dev nD) : Dev nD := ⟨(c.val + k.val + 1) % 4, Nat.mod_lt _ (by decide)⟩
set_option backward.proofsInPublic true in
/-- and the one it comes from. -/
def asrc (k : Fin 3) (c : Dev nD) : Dev nD := ⟨(c.val + 3 - k.val) % 4, Nat.mod_lt _ (by decide)⟩
theorem asrc_adst (k : Fin 3) (c : Dev nD) : asrc k (adst k c) = c := by revert k c; decide
theorem adst_asrc (k : Fin 3) (c : Dev nD) : adst k (asrc k c) = c := by revert k c; decide

/-! ## The buffers -/

abbrev xM : Memref sig .tc .hbm S4096x1024 .f32 := Memref.whole main_arg0
abbrev wM : Memref sig .tc .hbm S1024x8192 .f32 := Memref.whole main_arg1
abbrev oM : Memref sig .tc .hbm S1024x8192 .f32 := Memref.whole main_v1
abbrev xbM : Memref sig .tc .vmem S4096x1024 .bf16 := Memref.whole cc0_scratch0
abbrev wbM : Memref sig .tc .vmem S1024x8192 .bf16 := Memref.whole cc0_scratch1
abbrev stM : Memref sig .tc .vmem S2x1024x1024 .f32 := Memref.whole cc0_scratch2
/-- The buffer ring `b` sends from, -/
abbrev sM : Bool → Memref sig .tc .vmem S6x1024x512 .bf16 := fun | false => Memref.whole cc0_scratch3 | true => Memref.whole cc0_scratch4
/-- and the one it lands in. -/
abbrev rM : Bool → Memref sig .tc .vmem S6x1024x512 .bf16 := fun | false => Memref.whole cc0_scratch5 | true => Memref.whole cc0_scratch6
abbrev asM : Memref sig .tc .vmem S8x128 .f32 := Memref.whole cc0_scratch7
abbrev arM : Memref sig .tc .vmem S3x8x128 .f32 := Memref.whole cc0_scratch8

theorem slot_inb (k : Fin 6) : ∀ a, (![k.val, 0, 0] : Fin 3 → ℕ) a + S1x1024x512.size a ≤ S6x1024x512.size a := by
  revert k; decide
theorem aslot_inb (k : Fin 3) : ∀ a, (![k.val, 0, 0] : Fin 3 → ℕ) a + S1x8x128.size a ≤ S3x8x128.size a := by
  revert k; decide
theorem stslot_inb (k : Fin 2) : ∀ a, (![k.val, 0, 0] : Fin 3 → ℕ) a + S1x1024x1024.size a ≤ S2x1024x1024.size a := by
  revert k; decide
/-- Slot `k` of a ring buffer. -/
abbrev slot (M : Memref sig .tc .vmem S6x1024x512 .bf16) (k : Fin 6) : Memref sig .tc .vmem S1x1024x512 .bf16 :=
  M.slice (Rect.unit (s := S6x1024x512) ![k.val, 0, 0] S1x1024x512.size (slot_inb k)) (fun _ => rfl)
/-- Row `k` of the landed maxima. -/
abbrev aslot (k : Fin 3) : Memref sig .tc .vmem S1x8x128 .f32 :=
  arM.slice (Rect.unit (s := S3x8x128) ![k.val, 0, 0] S1x8x128.size (aslot_inb k)) (fun _ => rfl)
/-- Half `k` of the staging buffer. -/
abbrev stslot (k : Fin 2) : Memref sig .tc .vmem S1x1024x1024 .f32 :=
  stM.slice (Rect.unit (s := S2x1024x1024) ![k.val, 0, 0] S1x1024x1024.size (stslot_inb k)) (fun _ => rfl)

/-! ## The semaphores -/

set_option backward.proofsInPublic true in
def sS (b : Bool) (k : Fin 6) : DmaSem sig := bif b then (⟨16 + k.val, by have := k.isLt; show _ < 34; omega⟩ : Fin 34) else (⟨4 + k.val, by have := k.isLt; show _ < 34; omega⟩ : Fin 34)
set_option backward.proofsInPublic true in
def rS (b : Bool) (k : Fin 6) : DmaSem sig := bif b then (⟨22 + k.val, by have := k.isLt; show _ < 34; omega⟩ : Fin 34) else (⟨10 + k.val, by have := k.isLt; show _ < 34; omega⟩ : Fin 34)
set_option backward.proofsInPublic true in
def asS (k : Fin 3) : DmaSem sig := (⟨28 + k.val, by have := k.isLt; show _ < 34; omega⟩ : Fin 34)
set_option backward.proofsInPublic true in
def arS (k : Fin 3) : DmaSem sig := (⟨31 + k.val, by have := k.isLt; show _ < 34; omega⟩ : Fin 34)
abbrev barS : Sem sig := (SemArray.scalar (sig.barrier 0 rfl) : Sems sig S_).sem

abbrev scell (b : Bool) (k : Fin 6) (c : Dev nD) : GSem nD τ sig := ((c : Thread nD τ), .dma (sS b k))
abbrev rcell (b : Bool) (k : Fin 6) (c : Dev nD) : GSem nD τ sig := ((c : Thread nD τ), .dma (rS b k))
abbrev ascell (k : Fin 3) (c : Dev nD) : GSem nD τ sig := ((c : Thread nD τ), .dma (asS k))
abbrev arcell (k : Fin 3) (c : Dev nD) : GSem nD τ sig := ((c : Thread nD τ), .dma (arS k))
abbrev barCell (c : Dev nD) : GSem nD τ sig := ((c : Thread nD τ), .reg barS)

/-- What a transfer semaphore is for. -/
inductive Role where
  | loc
  | snd (b : Bool) (k : Fin 6)
  | rcv (b : Bool) (k : Fin 6)
  | asn (k : Fin 3)
  | arc (k : Fin 3)
deriving DecidableEq

set_option backward.proofsInPublic true in
def role (q : DmaSem sig) : Role :=
  if h : q.val < 4 then .loc
  else if h : q.val < 10 then .snd false ⟨q.val - 4, by omega⟩
  else if h : q.val < 16 then .rcv false ⟨q.val - 10, by omega⟩
  else if h : q.val < 22 then .snd true ⟨q.val - 16, by omega⟩
  else if h : q.val < 28 then .rcv true ⟨q.val - 22, by omega⟩
  else if h : q.val < 31 then .asn ⟨q.val - 28, by omega⟩
  else .arc ⟨(q.val - 31) % 3, Nat.mod_lt _ (by decide)⟩

theorem role_sS (b : Bool) (k : Fin 6) : role (sS b k) = .snd b k := by revert b k; decide
theorem role_rS (b : Bool) (k : Fin 6) : role (rS b k) = .rcv b k := by revert b k; decide
theorem role_asS (k : Fin 3) : role (asS k) = .asn k := by revert k; decide
theorem role_arS (k : Fin 3) : role (arS k) = .arc k := by revert k; decide

/-- What one ring transfer counts for, -/
abbrev N : ℕ := ((slot (rM false) 0).squeeze S1024x512 squeezes_S1x1024x512_S1024x512).view.dmaCredit
/-- and one of the maxima's. -/
abbrev NA : ℕ := ((aslot 0).squeeze S8x128 squeezes_S1x8x128_S8x128).view.dmaCredit
theorem N_pos : 0 < N := View.dmaCredit_pos _ (by decide)
theorem NA_pos : 0 < NA := View.dmaCredit_pos _ (by decide)
theorem N_eq (b : Bool) (k : Fin 6) : ((slot (rM b) k).squeeze S1024x512 squeezes_S1x1024x512_S1024x512).view.dmaCredit = N := by
  cases b <;> rfl
theorem NA_eq (k : Fin 3) : ((aslot k).squeeze S8x128 squeezes_S1x8x128_S8x128).view.dmaCredit = NA := rfl

/-! ## Contents -/

def xC (c : Dev nD) : FVec F S4096x1024 .f32 := (s₀ m ρ).mem ((c : Thread nD τ).loc main_arg0)
def wC (c : Dev nD) : FVec F S1024x8192 .f32 := (s₀ m ρ).mem ((c : Thread nD τ).loc main_arg1)
def xB (c : Dev nD) : FVec F S4096x1024 .bf16 := truncf .bf16 (xC m ρ c) bitsLt_bf16_f32
def wB (c : Dev nD) : FVec F S1024x8192 .bf16 := truncf .bf16 (wC m ρ c) bitsLt_bf16_f32

theorem rows_inb (d : Dev nD) : ∀ a, (![1024 * d.val, 0] : Fin 2 → ℕ) a + S1024x1024.size a ≤ S4096x1024.size a := by
  revert d; decide
theorem cols_inb (t : Fin 8) (u : Fin 2) : ∀ a, (![0, 1024 * t.val + 512 * u.val] : Fin 2 → ℕ) a + S1024x512.size a ≤ S1024x8192.size a := by
  revert t u; decide
theorem tcols_inb (t : Fin 8) : ∀ a, (![0, 1024 * t.val] : Fin 2 → ℕ) a + S1024x1024.size a ≤ S1024x8192.size a := by
  revert t; decide
/-- The rows of chunk `d`, the columns of half a tile, the columns of a tile. -/
abbrev rows (d : Dev nD) : Rect S4096x1024 := Rect.unit (s := S4096x1024) ![1024 * d.val, 0] S1024x1024.size (rows_inb d)
abbrev cols (t : Fin 8) (u : Fin 2) : Rect S1024x8192 := Rect.unit (s := S1024x8192) ![0, 1024 * t.val + 512 * u.val] S1024x512.size (cols_inb t u)
abbrev tcols (t : Fin 8) : Rect S1024x8192 := Rect.unit (s := S1024x8192) ![0, 1024 * t.val] S1024x1024.size (tcols_inb t)

def xch (c d : Dev nD) : FVec F S1024x1024 .bf16 := fun j => xB m ρ c ((rows d).emb j)
def wcl (c : Dev nD) (t : Fin 8) (u : Fin 2) : FVec F S1024x512 .bf16 := fun j => wB m ρ c ((cols t u).emb j)
/-- Device `c`'s contribution to rows `d` and half-tile `(t, u)`. -/
def prt (c d : Dev nD) (t : Fin 8) (u : Fin 2) : FVec F S1024x512 .f32 := k0_pay3 (xch m ρ c d) (wcl m ρ c t u)

set_option backward.proofsInPublic true in
/-- The chunk device `c` adds to at hop `h` of ring `b`. -/
def chk (b : Bool) (c : Dev nD) (h : ℕ) : Dev nD := bif b then ⟨(c.val + 1 + h) % 4, Nat.mod_lt _ (by decide)⟩ else ⟨(c.val + 3 + 3 * h) % 4, Nat.mod_lt _ (by decide)⟩
set_option backward.proofsInPublic true in
/-- The tile ring `b` works on in trip `p`. -/
def tile (b : Bool) (p : ℕ) : Fin 8 := ⟨(p + bif b then 4 else 0) % 8, Nat.mod_lt _ (by decide)⟩

/-- The message device `c` sends at hop `h` of ring `b` in trip `p`, half `u`. -/
def msg (b : Bool) (p : ℕ) (u : Fin 2) : ℕ → Dev nD → FVec F S1x1024x512 .bf16
  | 0, c => k0_pay4 (prt m ρ c (chk b c 0) (tile b p) u)
  | h + 1, c => k0_pay9 (prt m ρ c (chk b c (h + 1)) (tile b p) u) (msg b p u h (src b c))

set_option backward.proofsInPublic true in
def half (k : Fin 6) : Fin 2 := ⟨k.val % 2, Nat.mod_lt _ (by decide)⟩
/-- The message in slot `k`. -/
def mk (b : Bool) (p : ℕ) (k : Fin 6) (c : Dev nD) : FVec F S1x1024x512 .bf16 := msg m ρ b p (half k) (k.val / 2) c
/-- The finished half-tile on device `c`. -/
def acc (b : Bool) (p : ℕ) (u : Fin 2) (c : Dev nD) : FVec F S1024x512 .f32 :=
  k0_pay26 (prt m ρ c (chk b c 3) (tile b p) u) (msg m ρ b p u 2 (src b c))

/-- The running maximum after one more finished half-tile. -/
def mxs (g : F .f32) (A : FVec F S1024x512 .f32) : F .f32 :=
  Scalar.maximumf g (extractAt ![0, 0, 0] (shapeCast S1x1x1 (multiReduction .maximumf [1, 2] S1
    (shapeCast S1x1024x512 (absf A) shapeCasts_S1024x512_S1x1024x512) 0xFF800000#32 reduces_S1x1024x512_S1 (.inl rfl) rfl) shapeCasts_S1_S1x1x1) inpos_S1x1x1_p0_0_0)

/-- Device `c`'s running maximum before trip `p`. -/
def lmx (c : Dev nD) : ℕ → F .f32
  | 0 => Scalar.ofBits .f32 0x00000000#32
  | p + 1 => mxs (mxs (mxs (mxs (lmx c p) (acc m ρ false p 0 c)) (acc m ρ true p 0 c)) (acc m ρ false p 1 c)) (acc m ρ true p 1 c)

/-- The vector of one value. -/
def amx (c : Dev nD) {s : Shape} : FVec F s .f32 := fun _ => lmx m ρ c 4

/-! ## What the landings hand over -/

/-- A slot of a ring buffer owned at contents `X`; at any contents. -/
def slotO (M : Memref sig .tc .vmem S6x1024x512 .bf16) (k : Fin 6) (c : Dev nD) (X : FVec F S1x1024x512 .bf16) : sProp 𝕄 :=
  owns (c : Thread nD τ) (slot M k) fullShare X
def slotA (M : Memref sig .tc .vmem S6x1024x512 .bf16) (k : Fin 6) (c : Dev nD) : sProp 𝕄 := iprop(∃ X, slotO M k c X)
def arO (k : Fin 3) (c : Dev nD) (X : FVec F S1x8x128 .f32) : sProp 𝕄 := owns (c : Thread nD τ) (aslot k) fullShare X
def arA (k : Fin 3) (c : Dev nD) : sProp 𝕄 := iprop(∃ X, arO k c X)

/-- A landing slot given to its writer for round `r`, -/
def DG (b : Bool) (k : Fin 6) (r : ℕ) (c : Dev nD) : sProp 𝕄 := iprop(slotA (rM b) k c ∗ reached ER (rcell b k c) r)
/-- if there is a round `r`; otherwise its owner keeps it. -/
def DS (b : Bool) (k : Fin 6) (r : ℕ) (c : Dev nD) : sProp 𝕄 := if r < 4 then DG b k r c else iprop(emp)
def KP (b : Bool) (k : Fin 6) (r : ℕ) (c : Dev nD) : sProp 𝕄 := if r < 4 then iprop(emp) else slotA (rM b) k c

/-- The row of the landed maxima two devices away, passed on once. -/
def AG (c : Dev nD) (r : ℕ) : sProp 𝕄 := if r = 0 then arA 1 (nxt c) else iprop(emp)

/-- What device `c`'s message in slot `k` of ring `b` hands over besides, in round `r`. -/
def gift (b : Bool) (k : Fin 6) (r : ℕ) (c : Dev nD) : sProp 𝕄 :=
  match b, k with
  | false, 0 => iprop(DG true 3 r c ∗ DG true 4 r c)
  | false, 1 => DG true 5 r c
  | false, 2 => iprop(emp)
  | false, 3 => DS true 0 (r + 1) c
  | false, 4 => DS true 1 (r + 1) c
  | false, 5 => DS true 2 (r + 1) c
  | true, 0 => DG false 4 r c
  | true, 1 => DG false 5 r c
  | true, 2 => DS false 0 (r + 1) c
  | true, 3 => iprop(DS false 1 (r + 1) c ∗ AG c r)
  | true, 4 => DS false 2 (r + 1) c
  | true, 5 => DS false 3 (r + 1) c

def rcvPay (b : Bool) (k : Fin 6) (r : ℕ) (c : Dev nD) : sProp 𝕄 :=
  iprop(slotO (rM b) k c (mk m ρ b r k (src b c)) ∗ gift b k r (src b c))
def sndPay (b : Bool) (k : Fin 6) (c : Dev nD) : sProp 𝕄 := slotA (sM b) k c

/-- The three shares the maximum is lent out at. -/
def ash : Fin 3 → PosShare TreeShare := fun | 0 => fullShare.left | 1 => fullShare.right.left | 2 => fullShare.right.right

def asnPay (k : Fin 3) (c : Dev nD) : sProp 𝕄 := owns (c : Thread nD τ) asM (ash k) (amx m ρ c)
def arcPay (k : Fin 3) (c : Dev nD) : sProp 𝕄 := arO k c (amx m ρ (asrc k c))

/-- What the signal of the device before (`false`) and after (`true`) hands device `c` at entry. -/
def barPay (d : Bool) (c : Dev nD) : sProp 𝕄 :=
  bif d then iprop(DG false 0 0 (nxt c) ∗ DG false 1 0 (nxt c) ∗ DG false 2 0 (nxt c) ∗ DG false 3 0 (nxt c) ∗ arA 0 (nxt c) ∗ arA 1 (nxt c))
  else iprop(DG true 0 0 (prv c) ∗ DG true 1 0 (prv c) ∗ DG true 2 0 (prv c) ∗ arA 2 (prv c))

end Cert.TwoRings

end
-- ==== Proof.Sched.lean ====
/-
The schedule of the shared semaphores, what a device owes at each moment and the levels that order its waits.
-/
module

public import proofs.«01_k».proof.Proof.Common

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The payloads can be kept in an invariant -/

section Storable
omit [FloatOps F]
instance slotO_st (M k c X) : BI.Storable (upEmb : UEmb _ 𝕄) (slotO (F := F) M k c X) := by unfold slotO; infer_instance
instance slotA_st (M k c) : BI.Storable (upEmb : UEmb _ 𝕄) (slotA (F := F) M k c) := by unfold slotA; infer_instance
instance arO_st (k c X) : BI.Storable (upEmb : UEmb _ 𝕄) (arO (F := F) k c X) := by unfold arO; infer_instance
instance arA_st (k c) : BI.Storable (upEmb : UEmb _ 𝕄) (arA (F := F) k c) := by unfold arA; infer_instance
instance DG_st (b k r c) : BI.Storable (upEmb : UEmb _ 𝕄) (DG (F := F) b k r c) := by unfold DG; infer_instance
instance DS_st (b k r c) : BI.Storable (upEmb : UEmb _ 𝕄) (DS (F := F) b k r c) := by unfold DS; split <;> infer_instance
instance AG_st (c r) : BI.Storable (upEmb : UEmb _ 𝕄) (AG (F := F) c r) := by unfold AG; split <;> infer_instance
instance gift_st (b k r c) : BI.Storable (upEmb : UEmb _ 𝕄) (gift (F := F) b k r c) := by unfold gift; split <;> infer_instance
instance barPay_st (d c) : BI.Storable (upEmb : UEmb _ 𝕄) (barPay (F := F) d c) := by unfold barPay; cases d <;> (dsimp only [cond]; infer_instance)
instance sndPay_st (b k c) : BI.Storable (upEmb : UEmb _ 𝕄) (sndPay (F := F) b k c) := by unfold sndPay; infer_instance
end Storable
instance rcvPay_st (b k r c) : BI.Storable (upEmb : UEmb _ 𝕄) (rcvPay (F := F) m ρ b k r c) := by unfold rcvPay; infer_instance
instance asnPay_st (k c) : BI.Storable (upEmb : UEmb _ 𝕄) (asnPay (F := F) m ρ k c) := by unfold asnPay; infer_instance
instance arcPay_st (k c) : BI.Storable (upEmb : UEmb _ 𝕄) (arcPay (F := F) m ρ k c) := by unfold arcPay; infer_instance

/-! ## The schedule -/

def dutiesOf (q : Role) (r : ℕ) : Finset Bool :=
  match q with
  | .loc => ∅
  | .snd _ _ => if r < 4 then {false} else ∅
  | .rcv _ _ => if r < 4 then {false} else ∅
  | .asn _ => if r = 0 then {false} else ∅
  | .arc _ => if r = 0 then {false} else ∅

def amountOfRole (q : Role) : ℕ :=
  match q with
  | .loc => N
  | .snd _ _ => N
  | .rcv _ _ => N
  | .asn _ => NA
  | .arc _ => NA

def payOf (q : Role) (r : ℕ) (c : Dev nD) : sProp 𝕄 :=
  match q with
  | .loc => iprop(emp)
  | .snd b k => sndPay b k c
  | .rcv b k => rcvPay m ρ b k r c
  | .asn k => asnPay m ρ k c
  | .arc k => arcPay m ρ k c

/-- A barrier cell: one round, a duty for each neighbour. A ring transfer's cells: four rounds of one duty. A maximum's: one. -/
def Rd : Rounds.Schedule (GSem nD τ sig) Bool 𝕄 where
  duties g r := match g.2 with
    | .reg _ => if r = 0 then Finset.univ else ∅
    | .dma q => dutiesOf (role q) r
  unitless _ := False
  amount g _ _ := match g.2 with
    | .reg _ => 1
    | .dma q => amountOfRole (role q)
  payload g r d := match g.2 with
    | .reg _ => barPay d g.1.1
    | .dma q => payOf m ρ (role q) r g.1.1
  amount_pos g _ _ _ := by
    rcases g with ⟨g, s | q⟩
    · exact Nat.one_pos
    · show 0 < amountOfRole (role q)
      unfold amountOfRole
      split <;> first | exact N_pos | exact NA_pos

instance Rd_storable (g : GSem nD τ sig) (r : ℕ) (d : Bool) : BI.Storable (upEmb : UEmb _ 𝕄) ((Rd (F := F) m ρ).payload g r d) := by
  rcases g with ⟨g, s | q⟩
  · show BI.Storable upEmb (barPay d g.1); infer_instance
  · show BI.Storable upEmb (payOf m ρ (role q) r g.1)
    unfold payOf; split <;> infer_instance

section Tables
variable (c : Dev nD)

theorem duties_s (b k) {r : ℕ} (hr : r < 4) : (Rd (F := F) m ρ).duties (scell b k c) r = {false} := by
  show dutiesOf (role (sS b k)) r = _; rw [role_sS]; exact if_pos hr
theorem duties_r (b k) {r : ℕ} (hr : r < 4) : (Rd (F := F) m ρ).duties (rcell b k c) r = {false} := by
  show dutiesOf (role (rS b k)) r = _; rw [role_rS]; exact if_pos hr
theorem duties_as (k) : (Rd (F := F) m ρ).duties (ascell k c) 0 = {false} := by
  show dutiesOf (role (asS k)) 0 = _; rw [role_asS]; rfl
theorem duties_ar (k) : (Rd (F := F) m ρ).duties (arcell k c) 0 = {false} := by
  show dutiesOf (role (arS k)) 0 = _; rw [role_arS]; rfl
theorem duties_bar : (Rd (F := F) m ρ).duties (barCell c) 0 = Finset.univ := rfl

theorem duties_s_later (b k) : ∀ r, 4 ≤ r → (Rd (F := F) m ρ).duties (scell b k c) r = ∅ := fun r hr => by
  show dutiesOf (role (sS b k)) r = _; rw [role_sS]; exact if_neg (by omega)
theorem duties_r_later (b k) : ∀ r, 4 ≤ r → (Rd (F := F) m ρ).duties (rcell b k c) r = ∅ := fun r hr => by
  show dutiesOf (role (rS b k)) r = _; rw [role_rS]; exact if_neg (by omega)
theorem duties_as_later (k) : ∀ r, 1 ≤ r → (Rd (F := F) m ρ).duties (ascell k c) r = ∅ := fun r hr => by
  show dutiesOf (role (asS k)) r = _; rw [role_asS]; exact if_neg (by omega)
theorem duties_ar_later (k) : ∀ r, 1 ≤ r → (Rd (F := F) m ρ).duties (arcell k c) r = ∅ := fun r hr => by
  show dutiesOf (role (arS k)) r = _; rw [role_arS]; exact if_neg (by omega)

theorem amount_s (b k) (r : ℕ) (d : Bool) : (Rd (F := F) m ρ).amount (scell b k c) r d = N := by
  show amountOfRole (role (sS b k)) = _; rw [role_sS]; rfl
theorem amount_r (b k) (r : ℕ) (d : Bool) : (Rd (F := F) m ρ).amount (rcell b k c) r d = N := by
  show amountOfRole (role (rS b k)) = _; rw [role_rS]; rfl
theorem amount_as (k) (r : ℕ) (d : Bool) : (Rd (F := F) m ρ).amount (ascell k c) r d = NA := by
  show amountOfRole (role (asS k)) = _; rw [role_asS]; rfl
theorem amount_ar (k) (r : ℕ) (d : Bool) : (Rd (F := F) m ρ).amount (arcell k c) r d = NA := by
  show amountOfRole (role (arS k)) = _; rw [role_arS]; rfl

theorem pay_s (b k) (r : ℕ) (d : Bool) : (Rd (F := F) m ρ).payload (scell b k c) r d = sndPay b k c := by
  show payOf m ρ (role (sS b k)) r c = _; rw [role_sS]; rfl
theorem pay_r (b k) (r : ℕ) (d : Bool) : (Rd (F := F) m ρ).payload (rcell b k c) r d = rcvPay m ρ b k r c := by
  show payOf m ρ (role (rS b k)) r c = _; rw [role_rS]; rfl
theorem pay_as (k) (r : ℕ) (d : Bool) : (Rd (F := F) m ρ).payload (ascell k c) r d = asnPay m ρ k c := by
  show payOf m ρ (role (asS k)) r c = _; rw [role_asS]; rfl
theorem pay_ar (k) (r : ℕ) (d : Bool) : (Rd (F := F) m ρ).payload (arcell k c) r d = arcPay m ρ k c := by
  show payOf m ρ (role (arS k)) r c = _; rw [role_arS]; rfl

theorem expect_s (b k) {r : ℕ} (hr : r < 4) : (Rd (F := F) m ρ).expect (scell b k c) r = N := by
  unfold Schedule.expect Schedule.amountOf; rw [duties_s m ρ c b k hr, Finset.sum_singleton, amount_s]
theorem expect_r (b k) {r : ℕ} (hr : r < 4) : (Rd (F := F) m ρ).expect (rcell b k c) r = N := by
  unfold Schedule.expect Schedule.amountOf; rw [duties_r m ρ c b k hr, Finset.sum_singleton, amount_r]
theorem expect_as (k) : (Rd (F := F) m ρ).expect (ascell k c) 0 = NA := by
  unfold Schedule.expect Schedule.amountOf; rw [duties_as m ρ c k, Finset.sum_singleton, amount_as]
theorem expect_ar (k) : (Rd (F := F) m ρ).expect (arcell k c) 0 = NA := by
  unfold Schedule.expect Schedule.amountOf; rw [duties_ar m ρ c k, Finset.sum_singleton, amount_ar]
theorem expect_bar : (Rd (F := F) m ρ).expect (barCell c) 0 = 2 := by
  unfold Schedule.expect Schedule.amountOf
  rw [duties_bar]; rfl

theorem rest_s (b k) {r : ℕ} (hr : r < 4) : bigSep ((Rd (F := F) m ρ).duties (scell b k c) r \ ∅) (fun d => (Rd (F := F) m ρ).payload (scell b k c) r d) = sndPay b k c := by
  rw [Finset.sdiff_empty, duties_s m ρ c b k hr, bigSep_singleton, pay_s]
theorem rest_r (b k) {r : ℕ} (hr : r < 4) : bigSep ((Rd (F := F) m ρ).duties (rcell b k c) r \ ∅) (fun d => (Rd (F := F) m ρ).payload (rcell b k c) r d) = rcvPay m ρ b k r c := by
  rw [Finset.sdiff_empty, duties_r m ρ c b k hr, bigSep_singleton, pay_r]
theorem rest_as (k) : bigSep ((Rd (F := F) m ρ).duties (ascell k c) 0 \ ∅) (fun d => (Rd (F := F) m ρ).payload (ascell k c) 0 d) = asnPay m ρ k c := by
  rw [Finset.sdiff_empty, duties_as m ρ c k, bigSep_singleton, pay_as]
theorem rest_ar (k) : bigSep ((Rd (F := F) m ρ).duties (arcell k c) 0 \ ∅) (fun d => (Rd (F := F) m ρ).payload (arcell k c) 0 d) = arcPay m ρ k c := by
  rw [Finset.sdiff_empty, duties_ar m ρ c k, bigSep_singleton, pay_ar]
theorem rest_bar : bigSep ((Rd (F := F) m ρ).duties (barCell c) 0 \ ∅) (fun d => (Rd (F := F) m ρ).payload (barCell c) 0 d) = iprop(barPay false c ∗ barPay true c) := by
  rw [Finset.sdiff_empty, duties_bar, bigSep_univ_eq_bigSepL [false, true] (by decide) (by decide), bigSepL_cons_cons, bigSepL_singleton]
  rfl

end Tables

/-! ## What a device owes -/

set_option backward.proofsInPublic true in
/-- The slot of the `i`-th send of a trip (two rings, slot by slot). -/
def kOf (i : ℕ) : Fin 6 := ⟨i / 2 % 6, Nat.mod_lt _ (by decide)⟩
set_option backward.proofsInPublic true in
def aOf (i : ℕ) : Fin 3 := ⟨i % 3, Nat.mod_lt _ (by decide)⟩

/-- The credit of device `c`'s `n`-th transfer: twelve a trip, then the three maxima. -/
def tl (c : Dev nD) (n : ℕ) : CellTallies nD τ sig ℕ :=
  if n < 48 then tallyAt (rcell (n % 2 == 1) (kOf (n % 12)) (dst (n % 2 == 1) c)) (n / 12) N
  else tallyAt (arcell (aOf (n - 48)) (adst (aOf (n - 48)) c)) 0 NA

/-- What is owed from the `n`-th transfer on. -/
def owed (c : Dev nD) (n : ℕ) : CellTallies nD τ sig ℕ := ∑ i ∈ Finset.Ico n 51, tl c i

theorem owed_succ (c : Dev nD) {n : ℕ} (h : n < 51) : owed c n = owed c (n + 1) + tl c n := by
  unfold owed
  have h1 : Finset.Ico n 51 = insert n (Finset.Ico (n + 1) 51) := by
    ext i; simp only [Finset.mem_Ico, Finset.mem_insert]; omega
  rw [h1, Finset.sum_insert (by simp), add_comm]
theorem owed_end (c : Dev nD) : owed c 51 = 0 := by unfold owed; rw [Finset.Ico_self, Finset.sum_empty]

set_option backward.proofsInPublic true in
/-- The number, within a trip, of ring `b`'s send of slot `k`. -/
def jOf (b : Bool) (k : Fin 6) : ℕ := 2 * k.val + bif b then 1 else 0
theorem jOf_lt (b : Bool) (k : Fin 6) : jOf b k < 12 := by revert b k; decide

theorem tl_ring (c : Dev nD) (b : Bool) (k : Fin 6) {p : ℕ} (hp : p < 4) :
    tl c (12 * p + jOf b k) = tallyAt (rcell b k (dst b c)) p N := by
  have hj := jOf_lt b k
  have h1 : ((12 * p + jOf b k) % 2 == 1) = b := by
    have : (12 * p + jOf b k) % 2 = jOf b k % 2 := by omega
    rw [this]; clear this hj; revert b k; decide
  have h2 : (12 * p + jOf b k) % 12 = jOf b k := by omega
  have h3 : (12 * p + jOf b k) / 12 = p := by omega
  have h4 : kOf (jOf b k) = k := by clear h1 h2 h3 hj; revert b k; decide
  unfold tl
  rw [if_pos (by omega), h1, h2, h3, h4]
theorem tl_max (c : Dev nD) (k : Fin 3) : tl c (48 + k.val) = tallyAt (arcell k (adst k c)) 0 NA := by
  have h : aOf (48 + k.val - 48) = k := by revert k; decide
  unfold tl
  rw [if_neg (by omega), h]

/-! ## The levels -/

def L (g : GSem nD τ sig) : Finset ℕ := if g.1.2 = .tc then Finset.range 4 else ∅
def lvOf (q : Role) (ι : ℕ) : ℕ :=
  match q with
  | .loc => 0
  | .snd _ _ => 0
  | .rcv b k => 12 * ι + jOf b k + 2
  | .asn _ => 0
  | .arc k => 50 + k.val
/-- A landing is above everything its sender does before it. -/
def lv (g : GSem nD τ sig) (ι : ℕ) : ℕ := match g.2 with | .reg _ => 1 | .dma q => lvOf (role q) ι

theorem L_of_ne (g : GSem nD τ sig) (h : g.1.2 ≠ .tc) : L g = ∅ := if_neg h
theorem L_tc (c : Dev nD) (sm : SemLoc sig) : L ((c : Thread nD τ), sm) = Finset.range 4 := if_pos rfl

theorem tl_pos {c : Dev nD} {n : ℕ} (hn : n < 51) {g : GSem nD τ sig} {ι : ℕ} (h : 0 < tl c n g ι) : ι ∈ L g ∧ lv g ι = n + 2 := by
  unfold tl at h
  split at h
  · next h48 =>
    rw [tallyAt_apply] at h
    split at h
    · next hg =>
      obtain ⟨rfl, rfl⟩ := hg
      refine ⟨by rw [L_tc]; exact Finset.mem_range.mpr (by omega), ?_⟩
      show lvOf (role (rS _ _)) _ = _
      rw [role_rS]
      show 12 * (n / 12) + jOf (n % 2 == 1) (kOf (n % 12)) + 2 = n + 2
      have : jOf (n % 2 == 1) (kOf (n % 12)) = n % 12 := by
        have h1 : (n % 2 == 1) = (n % 12 % 2 == 1) := by rw [Nat.mod_mod_of_dvd _ (by decide : (2 : ℕ) ∣ 12)]
        rw [h1]
        have h2 : n % 12 < 12 := Nat.mod_lt _ (by decide)
        generalize n % 12 = i at h2
        revert i; decide
      omega
    · exact absurd h (Nat.lt_irrefl 0)
  · next h48 =>
    rw [tallyAt_apply] at h
    split at h
    · next hg =>
      obtain ⟨rfl, rfl⟩ := hg
      refine ⟨by rw [L_tc]; exact Finset.mem_range.mpr (by omega), ?_⟩
      show lvOf (role (arS _)) _ = _
      rw [role_arS]
      show 50 + (n - 48) % 3 = n + 2
      omega
    · exact absurd h (Nat.lt_irrefl 0)

theorem owed_pos {c : Dev nD} {n : ℕ} {g : GSem nD τ sig} {ι : ℕ} (h : 0 < owed c n g ι) : ι ∈ L g ∧ n + 2 ≤ lv g ι := by
  unfold owed at h
  rw [Finset.sum_apply, Finsupp.finset_sum_apply] at h
  obtain ⟨i, hi, hpos⟩ := Finset.exists_ne_zero_of_sum_ne_zero (Nat.pos_iff_ne_zero.mp h)
  obtain ⟨h1, h2⟩ := Finset.mem_Ico.mp hi
  obtain ⟨h3, h4⟩ := tl_pos h2 (Nat.pos_of_ne_zero hpos)
  exact ⟨h3, by omega⟩

/-- A device waits only for what lies below everything it still owes. -/
theorem mayWait (c : Dev nD) (sm : SemLoc sig) (ι n : ℕ) (hι : ι < 4) (h : lv ((c : Thread nD τ), sm) ι < n + 2) :
    (levAts L lv : sProp 𝕄) ⊢ MayWait (c : Thread nD τ) sm ι (owed c n) :=
  MayOwe.of_cut (L := L) (lev := lv) (n + 1)
    (fun p hp => by rw [Finset.mem_singleton.mp hp, L_tc]; exact Finset.mem_range.mpr hι)
    (fun g u hg => (owed_pos hg).1)
    (fun p hp => by rw [Finset.mem_singleton.mp hp]; show lv ((c : Thread nD τ), sm) ι ≤ _; omega)
    (fun g u hg => by have := (owed_pos hg).2; omega)

theorem lv_s (b k c ι) : lv (scell b k c) ι = 0 := by show lvOf (role (sS b k)) ι = _; rw [role_sS]; rfl
theorem lv_r (b k c ι) : lv (rcell b k c) ι = 12 * ι + jOf b k + 2 := by show lvOf (role (rS b k)) ι = _; rw [role_rS]; rfl
theorem lv_as (k c ι) : lv (ascell k c) ι = 0 := by show lvOf (role (asS k)) ι = _; rw [role_asS]; rfl
theorem lv_ar (k c ι) : lv (arcell k c) ι = 50 + k.val := by show lvOf (role (arS k)) ι = _; rw [role_arS]; rfl

/-! ## The shared context: every cell's invariant, and that its first round is reached -/

set_option backward.proofsInPublic true in
/-- The shared semaphores: the thirty transfer semaphores from the fifth on, then the barrier. -/
def csem (i : Fin 31) : SemLoc sig := if h : i.val < 30 then .dma (⟨4 + i.val, by show _ < 34; omega⟩ : Fin 34) else .reg barS
abbrev kcell (ci : Dev nD × Fin 31) : GSem nD τ sig := ((ci.1 : Thread nD τ), csem ci.2)

theorem csem_s (b k) : ∃ i, csem i = .dma (sS b k) := by revert b k; decide
theorem csem_r (b k) : ∃ i, csem i = .dma (rS b k) := by revert b k; decide
theorem csem_as (k) : ∃ i, csem i = .dma (asS k) := by revert k; decide
theorem csem_ar (k) : ∃ i, csem i = .dma (arS k) := by revert k; decide
theorem csem_bar : ∃ i, csem i = .reg barS := ⟨30, rfl⟩
theorem csem_injective : Function.Injective csem := by decide

def Ctx : sProp 𝕄 :=
  iprop(bigSep Finset.univ (fun ci : Dev nD × Fin 31 => iprop((∃ κ, cellInv ER (Rd m ρ) κ (kcell ci)) ∗ reached ER (kcell ci) 0)) ∗ levAts L lv)

instance Ctx_persistent : BI.Persistent (Ctx (F := F) m ρ) := by unfold Ctx; infer_instance

theorem Ctx_cell (ci : Dev nD × Fin 31) : Ctx (F := F) m ρ ⊢ iprop((∃ κ, cellInv ER (Rd m ρ) κ (kcell ci)) ∗ reached ER (kcell ci) 0) := by
  unfold Ctx
  exact sep_elim_left.trans (bigSep_elim (Φ := fun ci : Dev nD × Fin 31 => iprop((∃ κ, cellInv ER (Rd m ρ) κ (kcell ci)) ∗ reached ER (kcell ci) 0)) (Finset.mem_univ ci))
theorem Ctx_s (b k c) : Ctx (F := F) m ρ ⊢ iprop((∃ κ, cellInv ER (Rd m ρ) κ (scell b k c)) ∗ reached ER (scell b k c) 0) := by
  obtain ⟨i, hi⟩ := csem_s b k; have h := Ctx_cell (F := F) m ρ (c, i); unfold kcell at h; rwa [hi] at h
theorem Ctx_r (b k c) : Ctx (F := F) m ρ ⊢ iprop((∃ κ, cellInv ER (Rd m ρ) κ (rcell b k c)) ∗ reached ER (rcell b k c) 0) := by
  obtain ⟨i, hi⟩ := csem_r b k; have h := Ctx_cell (F := F) m ρ (c, i); unfold kcell at h; rwa [hi] at h
theorem Ctx_as (k c) : Ctx (F := F) m ρ ⊢ iprop((∃ κ, cellInv ER (Rd m ρ) κ (ascell k c)) ∗ reached ER (ascell k c) 0) := by
  obtain ⟨i, hi⟩ := csem_as k; have h := Ctx_cell (F := F) m ρ (c, i); unfold kcell at h; rwa [hi] at h
theorem Ctx_ar (k c) : Ctx (F := F) m ρ ⊢ iprop((∃ κ, cellInv ER (Rd m ρ) κ (arcell k c)) ∗ reached ER (arcell k c) 0) := by
  obtain ⟨i, hi⟩ := csem_ar k; have h := Ctx_cell (F := F) m ρ (c, i); unfold kcell at h; rwa [hi] at h
theorem Ctx_bar (c) : Ctx (F := F) m ρ ⊢ iprop((∃ κ, cellInv ER (Rd m ρ) κ (barCell c)) ∗ reached ER (barCell c) 0) := by
  obtain ⟨i, hi⟩ := csem_bar; have h := Ctx_cell (F := F) m ρ (c, i); unfold kcell at h; rwa [hi] at h
theorem Ctx_lev : Ctx (F := F) m ρ ⊢ levAts L lv := by unfold Ctx; exact sep_elim_right

end Cert.TwoRings

end
-- ==== Proof.Steps.lean ====
/-
One send, one wait for a send, one landing: each as a single step from the resources of one slot of one ring to those
after it.
-/
module

public import proofs.«01_k».proof.Proof.Sched

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The state of one slot -/

/-- What the device still owes from its `n`-th transfer on. -/
def Own (n : ℕ) (c : Dev nD) : sProp 𝕄 := iprop(∃ W, owes (c : Thread nD τ) (owed c n) W)

/-- The duties of the sends from trip `p` on. -/
def TS (b : Bool) (k : Fin 6) (p : ℕ) (c : Dev nD) : sProp 𝕄 :=
  bigSep (Finset.Ico p 4) fun r => iprop(dutyTok ER (scell b k c) r false ∗ dutyTok ER (rcell b k (dst b c)) r false)
/-- The credits of the landings from trip `p` on. -/
def CR (b : Bool) (k : Fin 6) (p : ℕ) (c : Dev nD) : sProp 𝕄 :=
  bigSep (Finset.Ico p 4) fun r => cred (tallyAt (rcell b k c) r N)
/-- A send slot whose last send is done, its buffer apart; -/
def SR (b : Bool) (k : Fin 6) (p : ℕ) (c : Dev nD) : sProp 𝕄 :=
  iprop(atPos ER (scell b k c) p ∅ 0 ∗ reached ER (scell b k c) p ∗ TS b k p c)
/-- a send slot as trip `p` finds it: free at first, else with the send of the trip before in flight. -/
def SI (b : Bool) (k : Fin 6) (p : ℕ) (c : Dev nD) : sProp 𝕄 :=
  if p = 0 then iprop(slotA (sM b) k c ∗ SR b k 0 c)
  else iprop(atPos ER (scell b k c) (p - 1) ∅ 0 ∗ cred (tallyAt (scell b k c) (p - 1) N) ∗ TS b k p c)
/-- A landing slot as trip `p` finds it, its buffer apart. -/
def RI (b : Bool) (k : Fin 6) (p : ℕ) (c : Dev nD) : sProp 𝕄 :=
  iprop(atPos ER (rcell b k c) p ∅ 0 ∗ CR b k p c)

omit [FloatOps F] in
theorem TS_step (b k c) {p : ℕ} (hp : p < 4) :
    (TS b k p c : sProp 𝕄) = iprop((dutyTok ER (scell b k c) p false ∗ dutyTok ER (rcell b k (dst b c)) p false) ∗ TS b k (p + 1) c) := by
  unfold TS
  have h1 : Finset.Ico p 4 = insert p (Finset.Ico (p + 1) 4) := by
    ext i; simp only [Finset.mem_Ico, Finset.mem_insert]; omega
  rw [h1, bigSep_insert (by simp)]; rfl
omit [FloatOps F] in
theorem CR_step (b k c) {p : ℕ} (hp : p < 4) :
    (CR b k p c : sProp 𝕄) = iprop(cred (tallyAt (rcell b k c) p N) ∗ CR b k (p + 1) c) := by
  unfold CR
  have h1 : Finset.Ico p 4 = insert p (Finset.Ico (p + 1) 4) := by
    ext i; simp only [Finset.mem_Ico, Finset.mem_insert]; omega
  rw [h1, bigSep_insert (by simp)]; rfl

/-! ## The steps -/

section
variable {α : Type} {Q : α → sProp (MT nD τ sig ℕ (Elt F) ℕ UU ℕ)}

/-- A send of ring `b` from slot `k` in trip `p`: the message and what it gives besides leave the device. -/
theorem send_step (b : Bool) (k : Fin 6) {p : ℕ} (hp : p < 4) (c n : Dev nD) (hn : n = dst b c)
    {qs qr : DmaSem sig} (hqs : qs = sS b k) (hqr : qr = rS b k)
    {hsc : ((slot (rM b) k).squeeze S1024x512 squeezes_S1x1024x512_S1024x512 : Memref sig (Dev.tc n : Thread nD τ).2.kind .vmem S1024x512 .bf16).view.ref.isScScratch = false}
    {hsrc : ((slot (sM b) k).squeeze S1024x512 squeezes_S1x1024x512_S1024x512).view.WordExact}
    {hdst : ((slot (rM b) k).squeeze S1024x512 squeezes_S1x1024x512_S1024x512).view.WordExact}
    {hsem : DmaTarget.Typed .vmem (.dma qr) (.remote (Dev.tc n : Thread nD τ) ((slot (rM b) k).squeeze S1024x512 squeezes_S1x1024x512_S1024x512) (.dma qs) hsc)}
    {kt : PUnit → Prog (TpuEff nD τ sig (Elt F) Λ₀ .tc) α} {X : FVec F S1x1024x512 .bf16} (hX : X = mk m ρ b p k c) :
    iprop(Ctx m ρ ∗ slotO (sM b) k c X ∗ SR b k p c ∗ DG b k p (dst b c) ∗ gift b k p c ∗ Own (12 * p + jOf b k) c)
      ⊢ iprop(((SI b k (p + 1) c ∗ Own (12 * p + jOf b k + 1) c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma ((slot (sM b) k).squeeze S1024x512 squeezes_S1x1024x512_S1024x512)
                (.remote (Dev.tc n : Thread nD τ) ((slot (rM b) k).squeeze S1024x512 squeezes_S1x1024x512_S1024x512) (.dma qs) hsc) (.dma qr) hsrc hdst hsem) kt) Q) := by
  subst hn hqs hqr hX
  unfold SR DG Own
  rw [TS_step b k c hp]
  unfold slotA slotO
  rw [OwnSteps.owns_squeeze (c := (c : Thread nD τ)) (slot (sM b) k) squeezes_S1x1024x512_S1024x512 fullShare]
  iintro ⟨#HC, Hs, ⟨Hat, #Hr, ⟨Ht1, Ht2⟩, HT⟩, ⟨⟨%Y, Hd⟩, #Hrd⟩, Hg, ⟨%W, HO⟩⟩ Hk
  ihave #HI := (Ctx_s m ρ b k c) $$ HC
  icases HI with ⟨⟨%κ₁, #HI1⟩, -⟩
  ihave #HI' := (Ctx_r m ρ b k (dst b c)) $$ HC
  icases HI' with ⟨⟨%κ₂, #HI2⟩, -⟩
  ihave Hd := (Entails.of_eq (OwnSteps.owns_squeeze (c := (dst b c : Thread nD τ)) (slot (rM b) k) squeezes_S1x1024x512_S1024x512 fullShare Y)) $$ Hd
  unfold owns
  icases Hs with ⟨%fs, %hfs, Hs⟩
  icases Hd with ⟨%fd, %hfd, Hd⟩
  iapply (Rounds.wp_send_pointsTo_with 𝒱₀ ER (Rd m ρ) (c : Thread nD τ) none (κ₁ := κ₁) (κ₂ := κ₂) (r₁ := p) (r₂ := p) (d₁ := false) (d₂ := false) (fd := fd)
    (F := gift b k p c)
    (by rw [duties_s m ρ c b k hp]; exact Finset.mem_singleton_self _) (by rw [duties_r m ρ (dst b c) b k hp]; exact Finset.mem_singleton_self _)
    p p N (by exact N_eq b k) (amount_s m ρ c b k p false) (amount_r m ρ (dst b c) b k p false) (owed c (12 * p + jOf b k + 1))
    (show owed c (12 * p + jOf b k) = owed c (12 * p + jOf b k + 1) + tallyAt (rcell b k (dst b c)) p N by rw [owed_succ c (by have := jOf_lt b k; omega), tl_ring c b k hp]) (W := W)
    (by
      rw [pay_s]; unfold sndPay slotA slotO
      iintro H
      iexists (mk m ρ b p k c)
      iapply (show _ ⊢ _ from Entails.of_eq (OwnSteps.owns_squeeze (c := (c : Thread nD τ)) (slot (sM b) k) squeezes_S1x1024x512_S1024x512 fullShare (mk m ρ b p k c)).symm)
      unfold owns
      iexists fs; isplitr; · ipureintro; exact hfs
      iexact H)
    (by
      rw [pay_r]; unfold rcvPay slotO; rw [src_dst]
      iintro ⟨H, Hg⟩
      isplitr [Hg]
      · iapply (show _ ⊢ _ from Entails.of_eq (OwnSteps.owns_squeeze (c := (dst b c : Thread nD τ)) (slot (rM b) k) squeezes_S1x1024x512_S1024x512 fullShare (mk m ρ b p k c)).symm)
        unfold owns
        iexists _; isplitr
        · ipureintro; exact (View.read_write_univ (v := ((slot (rM b) k).squeeze S1024x512 squeezes_S1x1024x512_S1024x512).view) (Val := Elt F) fd _).trans hfs
        iexact H
      iexact Hg)) $$ [Hs Hd Hg HO Ht1 Ht2]
  · isplitr; · iexact HI1
    isplitr; · iexact HI2
    isplitl [Hs]; · iexact Hs
    isplitl [Hd Hg]
    · isplitl [Hd]; · iexact Hd
      iexact Hg
    isplitl [HO]; · iexact HO
    isplitl [Ht1]; · iexact Ht1
    isplitr; · iexact Hr
    isplitl [Ht2]; · iexact Ht2
    iexact Hrd
  iintro ⟨Hc, HO⟩
  iapply Hk
  isplitr [HO]
  · unfold SI
    rw [if_neg (Nat.succ_ne_zero p), Nat.add_sub_cancel]
    isplitl [Hat]; · iexact Hat
    isplitl [Hc]; · iexact Hc
    iexact HT
  · iexists W; iexact HO

/-- The wait for an own send of the trip before: the slot is free again. -/
theorem swait_step (b : Bool) (k : Fin 6) {p n : ℕ} (hp : p < 4) (c : Dev nD) {q : DmaSem sig} (hq : q = sS b k)
    {sp sp' : Space} {s s' : Shape} {e e' : EltTy} {ms : Memref sig .tc sp s e} {md : Memref sig .tc sp' s' e'} {h1 : ms.view.WordExact} {h2 : md.view.WordExact} (hN : md.view.dmaCredit = N)
    {kt : PUnit → Prog (TpuEff nD τ sig (Elt F) Λ₀ .tc) α} :
    iprop(Ctx m ρ ∗ SI b k (p + 1) c ∗ Own n c)
      ⊢ iprop(((slotA (sM b) k c ∗ SR b k (p + 1) c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q ms md h1 h2) kt) Q) := by
  subst hq
  unfold SI
  rw [if_neg (Nat.succ_ne_zero p), Nat.add_sub_cancel]
  unfold Own
  iintro ⟨#HC, ⟨Hat, Hc, HT⟩, ⟨%W, HO⟩⟩ Hk
  ihave #HI := (Ctx_s m ρ b k c) $$ HC
  icases HI with ⟨⟨%κ, #HI1⟩, -⟩
  ihave #Hlev := (Ctx_lev m ρ) $$ HC
  iapply (Rounds.wp_wait_rest_token 𝒱₀ ER (Rd m ρ) (c : Thread nD τ) none (κ := κ)
      (wpE_waitDma2_eq 𝒱₀ (c : Thread nD τ) none Set.univ) (Set.mem_univ _) p (O := owed c n) (W := W) (R := p) (m := 0) (T := ∅)
      (by rw [Nat.zero_add, hN, expect_s m ρ c b k hp])) $$ [Hc HO Hat]
  · isplitr; · iexact HI1
    isplitl [Hc]
    · rw [hN]; iexact Hc
    isplitl [HO]; · iexact HO
    isplitr
    · iapply (mayWait c (.dma (sS b k)) p n hp (by rw [show lv ((c : Thread nD τ), .dma (sS b k)) p = 0 from lv_s b k c p]; omega))
      iexact Hlev
    iexact Hat
  iintro ⟨HO, Hat, #Hr, Hpay⟩
  ihave Hp := (Entails.of_eq (rest_s m ρ c b k hp)) $$ Hpay
  iapply Hk
  unfold sndPay SR
  isplitl [Hp]; · iexact Hp
  isplitr [HO]
  · isplitl [Hat]; · iexact Hat
    isplitr; · iexact Hr
    iexact HT
  · iexists _; iexact HO

/-- The wait for a landing: the message, and what it gave besides. -/
theorem rwait_step (b : Bool) (k : Fin 6) {p n : ℕ} (hp : p < 4) (hn : 12 * p + jOf b k < n) (c : Dev nD) {q : DmaSem sig} (hq : q = rS b k)
    {sp sp' : Space} {s s' : Shape} {e e' : EltTy} {ms : Memref sig .tc sp s e} {md : Memref sig .tc sp' s' e'} {h1 : ms.view.WordExact} {h2 : md.view.WordExact} (hN : md.view.dmaCredit = N)
    {kt : PUnit → Prog (TpuEff nD τ sig (Elt F) Λ₀ .tc) α} :
    iprop(Ctx m ρ ∗ RI b k p c ∗ Own n c)
      ⊢ iprop(((RI b k (p + 1) c ∗ reached ER (rcell b k c) (p + 1) ∗ slotO (rM b) k c (mk m ρ b p k (src b c)) ∗ gift b k p (src b c) ∗ Own n c)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q ms md h1 h2) kt) Q) := by
  subst hq
  unfold RI
  rw [CR_step b k c hp]
  unfold Own
  iintro ⟨#HC, ⟨Hat, Hc, HT⟩, ⟨%W, HO⟩⟩ Hk
  ihave #HI := (Ctx_r m ρ b k c) $$ HC
  icases HI with ⟨⟨%κ, #HI1⟩, -⟩
  ihave #Hlev := (Ctx_lev m ρ) $$ HC
  iapply (Rounds.wp_wait_rest_token 𝒱₀ ER (Rd m ρ) (c : Thread nD τ) none (κ := κ)
      (wpE_waitDma2_eq 𝒱₀ (c : Thread nD τ) none Set.univ) (Set.mem_univ _) p (O := owed c n) (W := W) (R := p) (m := 0) (T := ∅)
      (by rw [Nat.zero_add, hN, expect_r m ρ c b k hp])) $$ [Hc HO Hat]
  · isplitr; · iexact HI1
    isplitl [Hc]
    · rw [hN]; iexact Hc
    isplitl [HO]; · iexact HO
    isplitr
    · iapply (mayWait c (.dma (rS b k)) p n hp (by rw [show lv ((c : Thread nD τ), .dma (rS b k)) p = _ from lv_r b k c p]; omega))
      iexact Hlev
    iexact Hat
  iintro ⟨HO, Hat, #Hr, Hpay⟩
  ihave Hp := (Entails.of_eq (rest_r m ρ c b k hp)) $$ Hpay
  iapply Hk
  unfold rcvPay
  icases Hp with ⟨Hs, Hg⟩
  isplitl [Hat HT]
  · isplitl [Hat]; · iexact Hat
    iexact HT
  isplitr; · iexact Hr
  isplitl [Hs]; · iexact Hs
  isplitl [Hg]; · iexact Hg
  iexists _; iexact HO

/-- The wait for a send of the trip before, taken in every trip but the first. -/
theorem guard_step (b : Bool) (k : Fin 6) {p n : ℕ} (hp : p < 4) (c : Dev nD) {q : DmaSem sig} (hq : q = sS b k) {cond : Prop} [Decidable cond] (hc : cond ↔ 0 < p)
    {sp sp' : Space} {s s' : Shape} {e e' : EltTy} {ms : Memref sig .tc sp s e} {md : Memref sig .tc sp' s' e'} {h1 : ms.view.WordExact} {h2 : md.view.WordExact} (hN : md.view.dmaCredit = N)
    {kt : Prog (TpuEff nD τ sig (Elt F) Λ₀ .tc) α} :
    iprop(Ctx m ρ ∗ SI b k p c ∗ Own n c)
      ⊢ iprop(((slotA (sM b) k c ∗ SR b k p c ∗ Own n c) -∗ wp frame (wpE (defs₀ (F := F)) 𝒱₀ (c : Thread nD τ) none) Set.univ kt Q)
          -∗ wp frame (wpE (defs₀ (F := F)) 𝒱₀ (c : Thread nD τ) none) Set.univ (if h : cond then .op (.waitDma2 q ms md h1 h2) (fun _ => kt) else kt) Q) := by
  rcases p with _ | p
  · rw [dif_neg (fun h => absurd (hc.mp h) (Nat.lt_irrefl 0))]
    unfold SI
    rw [if_pos rfl]
    iintro ⟨#HC, ⟨Hs, HR⟩, HO⟩ Hk
    iapply Hk
    isplitl [Hs]; · iexact Hs
    isplitl [HR]; · iexact HR
    iexact HO
  · rw [dif_pos (hc.mpr (Nat.succ_pos p))]
    exact swait_step m ρ b k (p := p) (by omega) c hq hN (kt := fun _ => kt)

end

end Cert.TwoRings

end
-- ==== Proof.Access.lean ====
/-
The loads and stores of the kernel as steps over what is owned: rows of the activations, columns of the weights, a slot of a
ring, half of a staging slot; and the local copies through the staging buffer.
-/
module

public import proofs.«01_k».proof.Proof.Steps

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The two operands on chip -/

/-- The activations, narrowed. -/
def XB (c : Dev nD) : sProp 𝕄 := owns (c : Thread nD τ) xbM fullShare (xB m ρ c)
/-- The weights, narrowed on the tiles that `P` holds of. -/
def WP (P : Fin 8 → Prop) (c : Dev nD) : sProp 𝕄 :=
  iprop(∃ Z, ⌜∀ t : Fin 8, P t → ∀ j, Z ((tcols t).emb j) = wB m ρ c ((tcols t).emb j)⌝ ∗ owns (c : Thread nD τ) wbM fullShare Z)
/-- The weights, narrowed as far as the tiles of trip `p`. -/
def WB (p : ℕ) (c : Dev nD) : sProp 𝕄 := WP m ρ (fun t => t.val % 4 ≤ p) c
/-- The activations, narrowed on the chunks that `P` holds of. -/
def XP (P : Dev nD → Prop) (c : Dev nD) : sProp 𝕄 :=
  iprop(∃ Z, ⌜∀ d : Dev nD, P d → ∀ j, Z ((rows d).emb j) = xB m ρ c ((rows d).emb j)⌝ ∗ owns (c : Thread nD τ) xbM fullShare Z)

theorem tile_mod (b : Bool) (p : ℕ) : (tile b p).val % 4 = p % 4 := by
  cases b <;> simp only [tile, cond_true, cond_false] <;> omega

/-- A half-tile's columns are columns of the tile. -/
theorem cols_tcols (t : Fin 8) (u : Fin 2) (j : S1024x512.Idx) : ∃ i, (tcols t).emb i = (cols t u).emb j := by
  have h1 : (j 1).val < 512 := (j 1).isLt
  refine ⟨fun a => match a with | 0 => j 0 | 1 => (⟨512 * u.val + (j 1).val, by show _ < 1024; have := u.isLt; omega⟩ : Fin 1024), ?_⟩
  funext a
  apply Fin.ext
  fin_cases a
  · show 0 + 1 * (j 0).val = 0 + 1 * (j 0).val; rfl
  · show 1024 * t.val + 1 * (512 * u.val + (j 1).val) = 1024 * t.val + 512 * u.val + 1 * (j 1).val; omega

section
variable {α : Type} {Q : α → sProp (MT nD τ sig ℕ (Elt F) ℕ UU ℕ)}

/-- A load of the rows of chunk `d`. -/
theorem loadx_step (c d : Dev nD) {off : Fin 2 → ℕ} (hoff : off = ![1024 * d.val, 0]) {inb} {hl}
    {kt : Vec F S1024x1024 .bf16 → Prog (TpuEff nD τ sig (Elt F) Λ₀ .tc) α} :
    (XB m ρ c : sProp 𝕄) ⊢ iprop((XB m ρ c -∗ wp frame (wpE (defs₀ (F := F)) 𝒱₀ (c : Thread nD τ) none) Set.univ (kt (xch m ρ c d)) Q)
      -∗ wp frame (wpE (defs₀ (F := F)) 𝒱₀ (c : Thread nD τ) none) Set.univ
          (.op (.load xbM (Rect.unit (s := S4096x1024) off S1024x1024.size inb).toLoadRect hl) kt) Q) := by
  subst hoff
  exact OwnSteps.load_window (Ix := ℕ) (Val := Elt F) (Name := ℕ) (U := UU) (Lvl := ℕ) (defs := defs₀ (F := F)) 𝒱₀ (c : Thread nD τ) none (m := xbM) (r := rows d) (q := fullShare) (X := xB m ρ c) (k := kt)

/-- A load of the columns of half-tile `(t, u)`, narrowed already. -/
theorem loadw_step (c : Dev nD) (t : Fin 8) (u : Fin 2) {p : ℕ} (ht : t.val % 4 ≤ p) {off : Fin 2 → ℕ} (hoff : off = ![0, 1024 * t.val + 512 * u.val]) {inb} {hl}
    {kt : Vec F S1024x512 .bf16 → Prog (TpuEff nD τ sig (Elt F) Λ₀ .tc) α} :
    (WB m ρ p c : sProp 𝕄) ⊢ iprop((WB m ρ p c -∗ wp frame (wpE (defs₀ (F := F)) 𝒱₀ (c : Thread nD τ) none) Set.univ (kt (wcl m ρ c t u)) Q)
      -∗ wp frame (wpE (defs₀ (F := F)) 𝒱₀ (c : Thread nD τ) none) Set.univ
          (.op (.load wbM (Rect.unit (s := S1024x8192) off S1024x512.size inb).toLoadRect hl) kt) Q) := by
  subst hoff
  unfold WB WP
  iintro ⟨%Z, %hZ, H⟩ Hk
  iapply (OwnSteps.load_window (Ix := ℕ) (Val := Elt F) (Name := ℕ) (U := UU) (Lvl := ℕ) (defs := defs₀ (F := F)) 𝒱₀ (c : Thread nD τ) none (m := wbM) (X := Z)) $$ H
  iintro H
  rw [show (fun j => Z ((cols t u).emb j)) = wcl m ρ c t u from by
    funext j
    obtain ⟨i, hi⟩ := cols_tcols t u j
    show Z ((cols t u).emb j) = wB m ρ c ((cols t u).emb j)
    rw [← hi]; exact hZ t ht i]
  iapply Hk
  iexists Z; isplitr; · ipureintro; exact hZ
  iexact H

/-- A load of a slot. -/
theorem loads_step (c : Dev nD) {M : Memref sig .tc .vmem S6x1024x512 .bf16} {k : Fin 6} {X : FVec F S1x1024x512 .bf16} {hl}
    {kt : Vec F S1x1024x512 .bf16 → Prog (TpuEff nD τ sig (Elt F) Λ₀ .tc) α} :
    (slotO M k c X : sProp 𝕄) ⊢ iprop((slotO M k c X -∗ wp frame (wpE (defs₀ (F := F)) 𝒱₀ (c : Thread nD τ) none) Set.univ (kt X) Q)
      -∗ wp frame (wpE (defs₀ (F := F)) 𝒱₀ (c : Thread nD τ) none) Set.univ
          (.op (.load M (Rect.unit (s := S6x1024x512) ![k.val, 0, 0] S1x1024x512.size (slot_inb k)).toLoadRect hl) kt) Q) :=
  OwnSteps.load_slice (Ix := ℕ) (Val := Elt F) (Name := ℕ) (U := UU) (Lvl := ℕ) (defs := defs₀ (F := F)) 𝒱₀ (c : Thread nD τ) none

/-- A slot overwritten, after an idle load of it. -/
theorem put_step (c : Dev nD) {M : Memref sig .tc .vmem S6x1024x512 .bf16} {k : Fin 6} {w X : FVec F S1x1024x512 .bf16} (hw : w = X) {hl} {hx} {hm}
    {kt : PUnit → Prog (TpuEff nD τ sig (Elt F) Λ₀ .tc) α} :
    (slotA M k c : sProp 𝕄) ⊢ iprop((slotO M k c X -∗ wp frame (wpE (defs₀ (F := F)) 𝒱₀ (c : Thread nD τ) none) Set.univ (kt ⟨⟩) Q)
      -∗ wp frame (wpE (defs₀ (F := F)) 𝒱₀ (c : Thread nD τ) none) Set.univ
          (.op (.load M (Rect.unit (s := S6x1024x512) ![k.val, 0, 0] S1x1024x512.size (slot_inb k)).toLoadRect hl) fun _ =>
            .op (.store M (Rect.unit (s := S6x1024x512) ![k.val, 0, 0] S1x1024x512.size (slot_inb k)) w Finset.univ hx hm) kt) Q) := by
  subst hw
  unfold slotA slotO
  iintro ⟨%X, H⟩ Hk
  iapply (OwnSteps.load_slice (Ix := ℕ) (Val := Elt F) (Name := ℕ) (U := UU) (Lvl := ℕ) (defs := defs₀ (F := F)) 𝒱₀ (c : Thread nD τ) none (hr := fun _ => rfl)) $$ H
  iintro H
  iapply (OwnSteps.store_slice (Ix := ℕ) (Val := Elt F) (Name := ℕ) (U := UU) (Lvl := ℕ) (defs := defs₀ (F := F)) 𝒱₀ (c : Thread nD τ) none (hr := fun _ => rfl)) $$ H
  iintro H
  iapply Hk
  iexact H

end

end Cert.TwoRings

end
-- ==== Proof.Stage.lean ====
/-
The staging buffer: local copies through it, the narrowed operands filled from it, a finished tile put together in it.
-/
module

public import proofs.«01_k».proof.Proof.Access
public import Idealize.ShloMosaic.Lib.Pipeline.Value

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

set_option backward.proofsInPublic true in
/-- The semaphores of the local copies: two for fetches, two for write-backs. -/
def lS (k : Fin 4) : DmaSem sig := (⟨k.val, by have := k.isLt; show _ < 34; omega⟩ : Fin 34)
theorem lv_l (k : Fin 4) (c : Dev nD) (ι : ℕ) : lv ((c : Thread nD τ), .dma (lS k)) ι = 0 := by
  show lvOf (role (lS k)) ι = 0
  rw [show role (lS k) = .loc from by revert k; decide]; rfl

/-- A staging slot, as a matrix. -/
abbrev stq (s : Fin 2) : Memref sig .tc .vmem S1024x1024 .f32 := (stslot s).squeeze S1024x1024 squeezes_S1x1024x1024_S1024x1024
/-- A tile of the result. -/
abbrev otile (t : Fin 8) : Memref sig .tc .hbm S1024x1024 .f32 := oM.slice (tcols t) (fun _ => rfl)
/-- What one local copy counts for. -/
abbrev NT : ℕ := (stq 0).view.dmaCredit
theorem NT_pos : 0 < NT := View.dmaCredit_pos _ (by decide)

def stQ (s : Fin 2) (c : Dev nD) (Y : FVec F S1024x1024 .f32) : sProp 𝕄 := owns (c : Thread nD τ) (stq s) fullShare Y
def stA (s : Fin 2) (c : Dev nD) : sProp 𝕄 := iprop(∃ Y, stQ s c Y)
def oQ (t : Fin 8) (c : Dev nD) (Y : FVec F S1024x1024 .f32) : sProp 𝕄 := owns (c : Thread nD τ) (otile t) fullShare Y
def lv0 (k : Fin 4) (c : Dev nD) : sProp 𝕄 := semVal ((c : Thread nD τ), .dma (lS k)) 0

theorem stQ_slot (s : Fin 2) (c : Dev nD) (Z : FVec F S1x1024x1024 .f32) :
    (owns (c : Thread nD τ) (stslot s) fullShare Z : sProp 𝕄) = stQ s c (shapeCast S1024x1024 Z shapeCasts_S1x1024x1024_S1024x1024) :=
  by
  unfold stQ
  exact OwnSteps.owns_squeeze (Val := Elt F) (c := (c : Thread nD τ)) (stslot s) squeezes_S1x1024x1024_S1024x1024 fullShare Z

theorem cast_there_back (Y : FVec F S1024x1024 .f32) :
    shapeCast S1024x1024 (shapeCast S1x1024x1024 Y shapeCasts_S1024x1024_S1x1024x1024) shapeCasts_S1x1024x1024_S1024x1024 = Y :=
  shapeCast_shapeCast _ _ _

theorem slot_stQ (s : Fin 2) (c : Dev nD) (Y : FVec F S1024x1024 .f32) :
    (stQ s c Y : sProp 𝕄) = owns (c : Thread nD τ) (stslot s) fullShare (shapeCast S1x1024x1024 Y shapeCasts_S1024x1024_S1x1024x1024) := by
  rw [stQ_slot, cast_there_back]

/-! ## Local copies -/

/-- A local copy under way. -/
def CP {sp sp' : Space} (src : Memref sig .tc sp S1024x1024 .f32) (dd : Memref sig .tc sp' S1024x1024 .f32) (q : PosShare TreeShare) (k : Fin 4) (c : Dev nD)
    (X : FVec F S1024x1024 .f32) : sProp 𝕄 :=
  Transfers.Flight EC (c : Thread nD τ) (.dma (lS k)) 0 NT iprop(owns (c : Thread nD τ) dd fullShare X ∗ owns (c : Thread nD τ) src q X)

section
variable {α : Type} {Q : α → sProp (MT nD τ sig ℕ (Elt F) ℕ UU ℕ)}

theorem cp_start (k : Fin 4) (c : Dev nD) {sp sp' : Space} {src : Memref sig .tc sp S1024x1024 .f32} {dd : Memref sig .tc sp' S1024x1024 .f32} (q : PosShare TreeShare)
    {X : FVec F S1024x1024 .f32} {qs : DmaSem sig} (hq : qs = lS k) (hN : dd.view.amount (.dma (lS k)) = NT)
    {hsrc : src.view.WordExact} {hdst : dd.view.WordExact} {hsem : DmaTarget.Typed (nD := nD) (p := (c : Thread nD τ).2) sp (.dma qs) (.here dd)}
    {kt : PUnit → Prog (TpuEff nD τ sig (Elt F) Λ₀ .tc) α} :
    iprop(owns (c : Thread nD τ) src q X ∗ (∃ Y, owns (c : Thread nD τ) dd fullShare Y) ∗ lv0 k c : sProp 𝕄)
      ⊢ iprop((CP src dd q k c X -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma src (.here dd) (.dma qs) hsrc hdst hsem) kt) Q) := by
  subst hq
  unfold CP lv0
  iintro ⟨Hs, ⟨%Y, Hd⟩, Hv⟩ Hk
  iapply (OwnSteps.copy_start (defs := defs₀ (F := F)) 𝒱₀ (c : Thread nD τ) none EC 0 NT hN NT_pos) $$ [Hs Hd Hv]
  · isplitl [Hs]; · iexact Hs
    isplitl [Hd]; · iexact Hd
    iexact Hv
  iintro HF
  iapply Hk
  iexact HF

theorem cp_wait (k : Fin 4) {n : ℕ} (c : Dev nD) {sp sp' : Space} {src : Memref sig .tc sp S1024x1024 .f32} {dd : Memref sig .tc sp' S1024x1024 .f32} {q : PosShare TreeShare}
    {X : FVec F S1024x1024 .f32} {qs : DmaSem sig} (hq : qs = lS k)
    {spw spw' : Space} {s s' : Shape} {e e' : EltTy} {ms : Memref sig .tc spw s e} {md : Memref sig .tc spw' s' e'} {h1 : ms.view.WordExact} {h2 : md.view.WordExact} (hN : md.view.dmaCredit = NT)
    {kt : PUnit → Prog (TpuEff nD τ sig (Elt F) Λ₀ .tc) α} :
    iprop(Ctx m ρ ∗ CP src dd q k c X ∗ Own n c)
      ⊢ iprop(((owns (c : Thread nD τ) dd fullShare X ∗ owns (c : Thread nD τ) src q X ∗ lv0 k c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs ms md h1 h2) kt) Q) := by
  subst hq
  unfold CP Own lv0
  iintro ⟨#HC, HF, ⟨%W, HO⟩⟩ Hk
  ihave #Hlev := (Ctx_lev m ρ) $$ HC
  iapply (Transfers.wp_waitLocalO EC 𝒱₀ (c : Thread nD τ) none (defs := defs₀ (F := F)) 0 hN (O := owed c n) (W := W)) $$ [HF HO]
  · isplitl [HF]; · iexact HF
    isplitl [HO]; · iexact HO
    iapply (mayWait c (.dma (lS k)) 0 n (by omega) (by rw [lv_l]; omega))
    iexact Hlev
  iintro ⟨⟨Hd, Hs⟩, Hv, HO⟩
  iapply Hk
  isplitl [Hd]; · iexact Hd
  isplitl [Hs]; · iexact Hs
  isplitl [Hv]; · iexact Hv
  iexists _; iexact HO

/-! ## The staging slots -/

/-- A load of a staging slot. -/
theorem ldst_step (c : Dev nD) {s : Fin 2} {Y : FVec F S1024x1024 .f32} {hl}
    {kt : Vec F S1x1024x1024 .f32 → Prog (TpuEff nD τ sig (Elt F) Λ₀ .tc) α} :
    (stQ s c Y : sProp 𝕄) ⊢ iprop((stQ s c Y -∗ wp frame (wpE (defs₀ (F := F)) 𝒱₀ (c : Thread nD τ) none) Set.univ (kt (shapeCast S1x1024x1024 Y shapeCasts_S1024x1024_S1x1024x1024)) Q)
      -∗ wp frame (wpE (defs₀ (F := F)) 𝒱₀ (c : Thread nD τ) none) Set.univ
          (.op (.load stM (Rect.unit (s := S2x1024x1024) ![s.val, 0, 0] S1x1024x1024.size (stslot_inb s)).toLoadRect hl) kt) Q) := by
  rw [slot_stQ]
  iintro H Hk
  iapply (OwnSteps.load_slice (Val := Elt F) (defs := defs₀ (F := F)) 𝒱₀ (c : Thread nD τ) none (hr := fun _ => rfl)) $$ H
  iintro H
  iapply Hk $$ H

/-- A staging slot overwritten. -/
theorem putst_step (c : Dev nD) {s : Fin 2} {w : FVec F S1x1024x1024 .f32} (Y : FVec F S1024x1024 .f32) (hw : w = shapeCast S1x1024x1024 Y shapeCasts_S1024x1024_S1x1024x1024) {hl} {hx} {hm}
    {kt : PUnit → Prog (TpuEff nD τ sig (Elt F) Λ₀ .tc) α} :
    (stA s c : sProp 𝕄) ⊢ iprop((stQ s c Y -∗ wp frame (wpE (defs₀ (F := F)) 𝒱₀ (c : Thread nD τ) none) Set.univ (kt ⟨⟩) Q)
      -∗ wp frame (wpE (defs₀ (F := F)) 𝒱₀ (c : Thread nD τ) none) Set.univ
          (.op (.load stM (Rect.unit (s := S2x1024x1024) ![s.val, 0, 0] S1x1024x1024.size (stslot_inb s)).toLoadRect hl) fun _ =>
            .op (.store stM (Rect.unit (s := S2x1024x1024) ![s.val, 0, 0] S1x1024x1024.size (stslot_inb s)) w Finset.univ hx hm) kt) Q) := by
  subst hw
  unfold stA
  iintro ⟨%Y', H⟩ Hk
  ihave H := (Entails.of_eq (slot_stQ s c Y')) $$ H
  iapply (OwnSteps.load_slice (Val := Elt F) (defs := defs₀ (F := F)) 𝒱₀ (c : Thread nD τ) none (hr := fun _ => rfl)) $$ H
  iintro H
  iapply (OwnSteps.store_slice (Val := Elt F) (defs := defs₀ (F := F)) 𝒱₀ (c : Thread nD τ) none (hr := fun _ => rfl)) $$ H
  iintro H
  ihave H := (Entails.of_eq (slot_stQ s c Y).symm) $$ H
  iapply Hk $$ H

/-! ## Filling the narrowed operands -/

theorem tcols_ne {t t' : Fin 8} (h : t ≠ t') (i j : S1024x1024.Idx) : (tcols t).emb i ≠ (tcols t').emb j := by
  intro he
  have h1 : 1024 * t.val + 1 * (i 1).val = 1024 * t'.val + 1 * (j 1).val := congrArg (fun x : S1024x8192.Idx => (x 1).val) he
  have h2 : (i 1).val < 1024 := (i 1).isLt
  have h3 : (j 1).val < 1024 := (j 1).isLt
  exact h (Fin.ext (by omega))
theorem rows_ne {d d' : Dev nD} (h : d ≠ d') (i j : S1024x1024.Idx) : (rows d).emb i ≠ (rows d').emb j := by
  intro he
  have h1 : 1024 * d.val + 1 * (i 0).val = 1024 * d'.val + 1 * (j 0).val := congrArg (fun x : S4096x1024.Idx => (x 0).val) he
  have h2 : (i 0).val < 1024 := (i 0).isLt
  have h3 : (j 0).val < 1024 := (j 0).isLt
  exact h (Fin.ext (by omega))

/-- One more tile of the weights narrowed. -/
theorem putw_step (c : Dev nD) (t : Fin 8) {P : Fin 8 → Prop} {off : Fin 2 → ℕ} (hoff : off = ![0, 1024 * t.val]) {inb}
    {w : FVec F S1024x1024 .bf16} (hw : w = fun j => wB m ρ c ((tcols t).emb j)) {hl} {hx} {hm}
    {kt : PUnit → Prog (TpuEff nD τ sig (Elt F) Λ₀ .tc) α} :
    (WP m ρ P c : sProp 𝕄) ⊢ iprop((WP m ρ (fun t' => P t' ∨ t' = t) c -∗ wp frame (wpE (defs₀ (F := F)) 𝒱₀ (c : Thread nD τ) none) Set.univ (kt ⟨⟩) Q)
      -∗ wp frame (wpE (defs₀ (F := F)) 𝒱₀ (c : Thread nD τ) none) Set.univ
          (.op (.load wbM (Rect.unit (s := S1024x8192) off S1024x1024.size inb).toLoadRect hl) fun _ =>
            .op (.store wbM (Rect.unit (s := S1024x8192) off S1024x1024.size inb) w Finset.univ hx hm) kt) Q) := by
  subst hoff hw
  unfold WP
  iintro ⟨%Z, %hZ, H⟩ Hk
  iapply (OwnSteps.load_window (Val := Elt F) (defs := defs₀ (F := F)) 𝒱₀ (c : Thread nD τ) none (m := wbM) (X := Z)) $$ H
  iintro H
  iapply (OwnSteps.store_window (Val := Elt F) (defs := defs₀ (F := F)) 𝒱₀ (c : Thread nD τ) none (m := wbM) (X := Z) (fun _ => rfl)) $$ H
  iintro %Z' %hZ' H
  iapply Hk
  iexists Z'; isplitr
  · ipureintro
    intro t' ht' j
    by_cases h : t' = t
    · subst h; exact hZ'.1 j
    · rw [hZ'.2 _ (fun i he => tcols_ne (Ne.symm h) i j he)]
      exact hZ t' (ht'.resolve_right h) j
  iexact H

/-- One more chunk of the activations narrowed. -/
theorem putx_step (c d : Dev nD) {P : Dev nD → Prop} {off : Fin 2 → ℕ} (hoff : off = ![1024 * d.val, 0]) {inb}
    {w : FVec F S1024x1024 .bf16} (hw : w = fun j => xB m ρ c ((rows d).emb j)) {hl} {hx} {hm}
    {kt : PUnit → Prog (TpuEff nD τ sig (Elt F) Λ₀ .tc) α} :
    (XP m ρ P c : sProp 𝕄) ⊢ iprop((XP m ρ (fun d' => P d' ∨ d' = d) c -∗ wp frame (wpE (defs₀ (F := F)) 𝒱₀ (c : Thread nD τ) none) Set.univ (kt ⟨⟩) Q)
      -∗ wp frame (wpE (defs₀ (F := F)) 𝒱₀ (c : Thread nD τ) none) Set.univ
          (.op (.load xbM (Rect.unit (s := S4096x1024) off S1024x1024.size inb).toLoadRect hl) fun _ =>
            .op (.store xbM (Rect.unit (s := S4096x1024) off S1024x1024.size inb) w Finset.univ hx hm) kt) Q) := by
  subst hoff hw
  unfold XP
  iintro ⟨%Z, %hZ, H⟩ Hk
  iapply (OwnSteps.load_window (Val := Elt F) (defs := defs₀ (F := F)) 𝒱₀ (c : Thread nD τ) none (m := xbM) (X := Z)) $$ H
  iintro H
  iapply (OwnSteps.store_window (Val := Elt F) (defs := defs₀ (F := F)) 𝒱₀ (c : Thread nD τ) none (m := xbM) (X := Z) (fun _ => rfl)) $$ H
  iintro %Z' %hZ' H
  iapply Hk
  iexists Z'; isplitr
  · ipureintro
    intro d' hd' j
    by_cases h : d' = d
    · subst h; exact hZ'.1 j
    · rw [hZ'.2 _ (fun i he => rows_ne (Ne.symm h) i j he)]
      exact hZ d' (hd'.resolve_right h) j
  iexact H

/-! ## A finished tile -/

/-- Two half-tiles side by side. -/
def glue (A B : FVec F S1024x512 .f32) : FVec F S1024x1024 .f32 := fun i =>
  if h : (i 1).val < 512 then A (fun a => match a with | 0 => i 0 | 1 => (⟨(i 1).val, h⟩ : Fin 512))
  else B (fun a => match a with | 0 => i 0 | 1 => (⟨(i 1).val - 512, by have h1 : (i 1).val < 1024 := (i 1).isLt; omega⟩ : Fin 512))

/-- Where half `u` lies in a staging slot. -/
def hidx (u : Fin 2) : S1x1024x512.Idx → S1x1024x1024.Idx := fun j a =>
  match a with
  | 0 => j 0
  | 1 => j 1
  | 2 => (⟨512 * u.val + (j 2).val, by have h1 : (j 2).val < 512 := (j 2).isLt; have := u.isLt; show _ < 1024; omega⟩ : Fin 1024)

/-- A staging slot with its left half at `A`. -/
def SH (s : Fin 2) (A : FVec F S1024x512 .f32) (c : Dev nD) : sProp 𝕄 :=
  iprop(∃ Z, ⌜∀ j, Z (hidx 0 j) = shapeCast S1x1024x512 A shapeCasts_S1024x512_S1x1024x512 j⌝ ∗ owns (c : Thread nD τ) (stslot s) fullShare Z)

theorem half_inb (s : Fin 2) (u : Fin 2) : ∀ a, (![s.val, 0, 512 * u.val] : Fin 3 → ℕ) a + S1x1024x512.size a ≤ S2x1024x1024.size a := by
  revert s u; decide
theorem hidx_emb (s u : Fin 2) (j : S1x1024x512.Idx) :
    (Rect.unit (s := S2x1024x1024) ![s.val, 0, 512 * u.val] S1x1024x512.size (half_inb s u)).emb j
      = (Rect.unit (s := S2x1024x1024) ![s.val, 0, 0] S1x1024x1024.size (stslot_inb s)).emb (hidx u j) := by
  funext a
  apply Fin.ext
  fin_cases a
  · rfl
  · rfl
  · show 512 * u.val + 1 * (j 2).val = 0 + 1 * (512 * u.val + (j 2).val); omega

theorem half0_step (c : Dev nD) {s : Fin 2} {A : FVec F S1024x512 .f32} {w : FVec F S1x1024x512 .f32} (hw : w = shapeCast S1x1024x512 A shapeCasts_S1024x512_S1x1024x512) {hl} {hx} {hm}
    {kt : PUnit → Prog (TpuEff nD τ sig (Elt F) Λ₀ .tc) α} :
    (stA s c : sProp 𝕄) ⊢ iprop((SH s A c -∗ wp frame (wpE (defs₀ (F := F)) 𝒱₀ (c : Thread nD τ) none) Set.univ (kt ⟨⟩) Q)
      -∗ wp frame (wpE (defs₀ (F := F)) 𝒱₀ (c : Thread nD τ) none) Set.univ
          (.op (.load stM (Rect.unit (s := S2x1024x1024) ![s.val, 0, 512 * (0 : Fin 2).val] S1x1024x512.size (half_inb s 0)).toLoadRect hl) fun _ =>
            .op (.store stM (Rect.unit (s := S2x1024x1024) ![s.val, 0, 512 * (0 : Fin 2).val] S1x1024x512.size (half_inb s 0)) w Finset.univ hx hm) kt) Q) := by
  subst hw
  unfold stA
  iintro ⟨%Y', H⟩ Hk
  ihave H := (Entails.of_eq (slot_stQ s c Y')) $$ H
  iapply (OwnSteps.load_within (Val := Elt F) (defs := defs₀ (F := F)) 𝒱₀ (c : Thread nD τ) none (hR := fun _ => rfl) (hidx 0) (hidx_emb s 0)) $$ H
  iintro H
  iapply (OwnSteps.store_within (Val := Elt F) (defs := defs₀ (F := F)) 𝒱₀ (c : Thread nD τ) none (hR := fun _ => rfl) (hidx 0) (hidx_emb s 0)) $$ H
  iintro %Z %hZ H
  iapply Hk
  unfold SH
  iexists Z; isplitr; · ipureintro; exact hZ.1
  iexact H

theorem half1_step (c : Dev nD) {s : Fin 2} {A B : FVec F S1024x512 .f32} {w : FVec F S1x1024x512 .f32} (hw : w = shapeCast S1x1024x512 B shapeCasts_S1024x512_S1x1024x512) {hl} {hx} {hm}
    {kt : PUnit → Prog (TpuEff nD τ sig (Elt F) Λ₀ .tc) α} :
    (SH s A c : sProp 𝕄) ⊢ iprop((stQ s c (glue A B) -∗ wp frame (wpE (defs₀ (F := F)) 𝒱₀ (c : Thread nD τ) none) Set.univ (kt ⟨⟩) Q)
      -∗ wp frame (wpE (defs₀ (F := F)) 𝒱₀ (c : Thread nD τ) none) Set.univ
          (.op (.load stM (Rect.unit (s := S2x1024x1024) ![s.val, 0, 512 * (1 : Fin 2).val] S1x1024x512.size (half_inb s 1)).toLoadRect hl) fun _ =>
            .op (.store stM (Rect.unit (s := S2x1024x1024) ![s.val, 0, 512 * (1 : Fin 2).val] S1x1024x512.size (half_inb s 1)) w Finset.univ hx hm) kt) Q) := by
  subst hw
  unfold SH
  iintro ⟨%Z, %hZ, H⟩ Hk
  iapply (OwnSteps.load_within (Val := Elt F) (defs := defs₀ (F := F)) 𝒱₀ (c : Thread nD τ) none (hR := fun _ => rfl) (hidx 1) (hidx_emb s 1)) $$ H
  iintro H
  iapply (OwnSteps.store_within (Val := Elt F) (defs := defs₀ (F := F)) 𝒱₀ (c : Thread nD τ) none (hR := fun _ => rfl) (hidx 1) (hidx_emb s 1)) $$ H
  iintro %Z' %hZ' H
  ihave H := (Entails.of_eq (stQ_slot s c Z')) $$ H
  have hG : shapeCast S1024x1024 Z' shapeCasts_S1x1024x1024_S1024x1024 = glue A B := by
    funext y
    have hc : shapeCast S1024x1024 Z' shapeCasts_S1x1024x1024_S1024x1024 y = Z' (Fin.cons (⟨0, Nat.one_pos⟩ : Fin 1) y) :=
      shapeCast_dropUnit_apply (![1024, 1024]) Z' shapeCasts_S1x1024x1024_S1024x1024 y
    rw [hc]
    unfold glue
    have h1024 : (y 1).val < 1024 := (y 1).isLt
    by_cases h : (y 1).val < 512
    · rw [dif_pos h]
      let j : S1x1024x512.Idx := Fin.cons (⟨0, Nat.one_pos⟩ : Fin 1) (fun a => match a with | 0 => y 0 | 1 => (⟨(y 1).val, h⟩ : Fin 512))
      have hj : (Fin.cons (⟨0, Nat.one_pos⟩ : Fin 1) y : S1x1024x1024.Idx) = hidx 0 j := by
        funext a; apply Fin.ext; fin_cases a
        · rfl
        · rfl
        · show (y 1).val = 512 * 0 + (y 1).val; omega
      rw [hj, hZ'.2, hZ j]
      · refine (shapeCast_addUnit_apply (![1024, 512]) A shapeCasts_S1024x512_S1x1024x512 j).trans (congrArg A ?_)
        funext a; fin_cases a <;> rfl
      · intro j' he
        have h2 : 512 * 1 + (j' 2).val = 512 * 0 + (y 1).val := congrArg (fun x : S1x1024x1024.Idx => (x 2).val) he
        omega
    · rw [dif_neg h]
      let j : S1x1024x512.Idx := Fin.cons (⟨0, Nat.one_pos⟩ : Fin 1) (fun a => match a with | 0 => y 0 | 1 => (⟨(y 1).val - 512, by omega⟩ : Fin 512))
      have hj : (Fin.cons (⟨0, Nat.one_pos⟩ : Fin 1) y : S1x1024x1024.Idx) = hidx 1 j := by
        funext a; apply Fin.ext; fin_cases a
        · rfl
        · rfl
        · show (y 1).val = 512 * 1 + ((y 1).val - 512); omega
      rw [hj, hZ'.1 j]
      refine (shapeCast_addUnit_apply (![1024, 512]) B shapeCasts_S1024x512_S1x1024x512 j).trans (congrArg B ?_)
      funext a; fin_cases a <;> rfl
  ihave H := (Entails.of_eq (congrArg (stQ s c) hG)) $$ H
  iapply Hk $$ H

end

theorem WP_mono {P P' : Fin 8 → Prop} (c : Dev nD) (h : ∀ t, P' t → P t) : (WP m ρ P c : sProp 𝕄) ⊢ WP m ρ P' c := by
  unfold WP
  iintro ⟨%Z, %hZ, H⟩
  iexists Z; isplitr; · ipureintro; exact fun t ht => hZ t (h t ht)
  iexact H
theorem XP_all {P : Dev nD → Prop} (c : Dev nD) (h : ∀ d, P d) : (XP m ρ P c : sProp 𝕄) ⊢ XB m ρ c := by
  unfold XP XB
  iintro ⟨%Z, %hZ, H⟩
  have hE : Z = xB m ρ c := by
    funext i
    have h0 : (i 0).val < 4096 := (i 0).isLt
    let d : Dev nD := (⟨(i 0).val / 1024, by omega⟩ : Fin 4)
    let j : S1024x1024.Idx := fun a => match a with | 0 => (⟨(i 0).val % 1024, Nat.mod_lt _ (by decide)⟩ : Fin 1024) | 1 => i 1
    have := hZ d (h _) j
    rw [show (rows d).emb j = i from by
      funext a; apply Fin.ext; fin_cases a
      · show 1024 * ((i 0).val / 1024) + 1 * ((i 0).val % 1024) = (i 0).val; omega
      · show 0 + 1 * (i 1).val = (i 1).val; omega] at this
    exact this
  subst hE
  iexact H

end Cert.TwoRings

end
-- ==== Proof.Hop.lean ====
/-
What one message hands over besides its contents, and the steps of a trip: a send, a landing, the read of a landed slot.
-/
module

public import proofs.«01_k».proof.Proof.Stage

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem guard_iff (t : Fin k0_t1_loop.trips) : Scalar.cmpi .ne (Scalar.extui (Scalar.cmpi .sgt (Scf.iv 0#32 1#32 t) 0#32) : BitVec 32) 0#32 = 1#1 ↔ 0 < t.val := by
  revert t; decide
theorem t_lt (t : Fin k0_t1_loop.trips) : t.val < 4 := by revert t; decide
theorem cond5_iff (t : Fin k0_t1_loop.trips) : k0_cond5 t = 1#1 ↔ t.val < 3 := by revert t; decide

omit [FloatOps F] in
theorem DS_lt (b : Bool) (k : Fin 6) {r : ℕ} (hr : r < 4) (c : Dev nD) : (DS b k r c : sProp 𝕄) ⊢ DG b k r c := by
  unfold DS; rw [if_pos hr]

/-- A landed message, and that its round is over. -/
def LD (b : Bool) (k : Fin 6) (p : ℕ) (c : Dev nD) : sProp 𝕄 :=
  iprop(slotO (rM b) k c (mk m ρ b p k (src b c)) ∗ reached ER (rcell b k c) (p + 1))

theorem LD_late (b : Bool) (k : Fin 6) (p : ℕ) (c : Dev nD) : (LD m ρ b k p c : sProp 𝕄) ⊢ DG b k (p + 1) c := by
  unfold LD DG slotA
  iintro ⟨H, Hr⟩
  isplitl [H]; · iexists _; iexact H
  iexact Hr
theorem LD_early (b : Bool) (k : Fin 6) (p : ℕ) (c : Dev nD) : (LD m ρ b k p c : sProp 𝕄) ⊢ iprop(DS b k (p + 1) c ∗ KP b k (p + 1) c) := by
  unfold DS KP
  by_cases h : p + 1 < 4
  · rw [if_pos h, if_pos h]
    iintro H
    isplitl; · iapply (LD_late m ρ b k p c) $$ H
    iempintro
  · rw [if_neg h, if_neg h]
    unfold LD slotA
    iintro ⟨H, -⟩
    isplitr; · iempintro
    iexists _; iexact H

/-- The row of the landed maxima that device `c` may write to two devices on, in whosever hands it is on the way: the next
    device's at first, then the one after it. -/
def AX (c : Dev nD) (p : ℕ) : sProp 𝕄 := if p = 0 then arA 1 (nxt c) else arA 1 (nxt (nxt c))
def AK (c : Dev nD) (p : ℕ) : sProp 𝕄 := if p = 0 then iprop(emp) else arA 1 (nxt (nxt c))
omit [FloatOps F] in
theorem AX_split (c : Dev nD) (p : ℕ) : (AX c p : sProp 𝕄) ⊢ iprop(AG c p ∗ AK c p) := by
  unfold AX AG AK
  by_cases h : p = 0
  · rw [if_pos h, if_pos h, if_pos h]; iintro H; isplitl; · iexact H
    iempintro
  · rw [if_neg h, if_neg h, if_neg h]; iintro H; isplitr; · iempintro
    iexact H
omit [FloatOps F] in
theorem AX_join (c : Dev nD) (p : ℕ) : (iprop(AG (nxt c) p ∗ AK c p) : sProp 𝕄) ⊢ AX c (p + 1) := by
  unfold AX AG AK
  rw [if_neg (Nat.succ_ne_zero p)]
  by_cases h : p = 0
  · rw [if_pos h, if_pos h]; iintro ⟨H, -⟩; iexact H
  · rw [if_neg h, if_neg h]; iintro ⟨-, H⟩; iexact H

section
variable {α : Type} {Q : α → sProp (MT nD τ sig ℕ (Elt F) ℕ UU ℕ)}

/-- `send_step`, what is handed over and what is written to given as they are held. -/
theorem send_with (b : Bool) (k : Fin 6) {p n0 n1 : ℕ} (hp : p < 4) (c : Dev nD) (G D : sProp (MT nD τ sig ℕ (Elt F) ℕ UU ℕ)) (hG : G ⊢ gift b k p c) (hD : D ⊢ DG b k p (dst b c))
    (h0 : n0 = 12 * p + jOf b k) (h1 : n1 = 12 * p + jOf b k + 1)
    {n : Dev nD} (hn : n = dst b c)
    {qs qr : DmaSem sig} (hqs : qs = sS b k) (hqr : qr = rS b k)
    {hsc : ((slot (rM b) k).squeeze S1024x512 squeezes_S1x1024x512_S1024x512 : Memref sig (Dev.tc n : Thread nD τ).2.kind .vmem S1024x512 .bf16).view.ref.isScScratch = false}
    {hsrc : ((slot (sM b) k).squeeze S1024x512 squeezes_S1x1024x512_S1024x512).view.WordExact}
    {hdst : ((slot (rM b) k).squeeze S1024x512 squeezes_S1x1024x512_S1024x512).view.WordExact}
    {hsem : DmaTarget.Typed .vmem (.dma qr) (.remote (Dev.tc n : Thread nD τ) ((slot (rM b) k).squeeze S1024x512 squeezes_S1x1024x512_S1024x512) (.dma qs) hsc)}
    {kt : PUnit → Prog (TpuEff nD τ sig (Elt F) Λ₀ .tc) α} :
    iprop(Ctx m ρ ∗ slotO (sM b) k c (mk m ρ b p k c) ∗ SR b k p c ∗ Own n0 c ∗ D ∗ G)
      ⊢ iprop(((SI b k (p + 1) c ∗ Own n1 c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma ((slot (sM b) k).squeeze S1024x512 squeezes_S1x1024x512_S1024x512)
                (.remote (Dev.tc n : Thread nD τ) ((slot (rM b) k).squeeze S1024x512 squeezes_S1x1024x512_S1024x512) (.dma qs) hsc) (.dma qr) hsrc hdst hsem) kt) Q) := by
  subst h0 h1
  iintro ⟨HC, HS, HR, HO, HD, HG⟩
  iapply (send_step m ρ b k hp c n hn hqs hqr (X := mk m ρ b p k c) rfl)
  isplitl [HC]; · iexact HC
  isplitl [HS]; · iexact HS
  isplitl [HR]; · iexact HR
  isplitl [HD]; · iapply hD $$ HD
  isplitl [HG]; · iapply hG $$ HG
  iexact HO

/-- `rwait_step`, the landing kept together. -/
theorem land_with (b : Bool) (k : Fin 6) {p n : ℕ} (hp : p < 4) (hn : 12 * p + jOf b k < n) (c : Dev nD) (G : sProp (MT nD τ sig ℕ (Elt F) ℕ UU ℕ)) (hG : gift b k p (src b c) ⊢ G)
    {q : DmaSem sig} (hq : q = rS b k)
    {sp sp' : Space} {s s' : Shape} {e e' : EltTy} {ms : Memref sig .tc sp s e} {md : Memref sig .tc sp' s' e'} {h1 : ms.view.WordExact} {h2 : md.view.WordExact} (hN : md.view.dmaCredit = N)
    {kt : PUnit → Prog (TpuEff nD τ sig (Elt F) Λ₀ .tc) α} :
    iprop(Ctx m ρ ∗ RI b k p c ∗ Own n c)
      ⊢ iprop(((RI b k (p + 1) c ∗ LD m ρ b k p c ∗ Own n c ∗ G) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q ms md h1 h2) kt) Q) := by
  iintro H Hk
  iapply (rwait_step m ρ b k hp hn c hq hN) $$ H
  iintro ⟨HR, Hr, HS, HG, HO⟩
  iapply Hk
  unfold LD
  isplitl [HR]; · iexact HR
  isplitl [HS Hr]; · isplitl [HS] <;> iassumption
  isplitl [HO]; · iexact HO
  iapply hG $$ HG

/-- The read of a landed slot that goes to the next trip's writer now, -/
theorem readE_step (b : Bool) (k : Fin 6) {p : ℕ} (c : Dev nD) {hl}
    {kt : Vec F S1x1024x512 .bf16 → Prog (TpuEff nD τ sig (Elt F) Λ₀ .tc) α} :
    (LD m ρ b k p c : sProp 𝕄) ⊢ iprop((DS b k (p + 1) c ∗ KP b k (p + 1) c -∗ wp frame (wpE (defs₀ (F := F)) 𝒱₀ (c : Thread nD τ) none) Set.univ (kt (mk m ρ b p k (src b c))) Q)
      -∗ wp frame (wpE (defs₀ (F := F)) 𝒱₀ (c : Thread nD τ) none) Set.univ
          (.op (.load (rM b) (Rect.unit (s := S6x1024x512) ![k.val, 0, 0] S1x1024x512.size (slot_inb k)).toLoadRect hl) kt) Q) := by
  unfold LD
  iintro ⟨H, Hr⟩ Hk
  iapply (loads_step c) $$ H
  iintro H
  iapply Hk
  iapply (LD_early m ρ b k p c)
  unfold LD
  isplitl [H] <;> iassumption
/-- and of one that its owner keeps till the next trip. -/
theorem readL_step (b : Bool) (k : Fin 6) {p : ℕ} (c : Dev nD) {hl}
    {kt : Vec F S1x1024x512 .bf16 → Prog (TpuEff nD τ sig (Elt F) Λ₀ .tc) α} :
    (LD m ρ b k p c : sProp 𝕄) ⊢ iprop((DG b k (p + 1) c -∗ wp frame (wpE (defs₀ (F := F)) 𝒱₀ (c : Thread nD τ) none) Set.univ (kt (mk m ρ b p k (src b c))) Q)
      -∗ wp frame (wpE (defs₀ (F := F)) 𝒱₀ (c : Thread nD τ) none) Set.univ
          (.op (.load (rM b) (Rect.unit (s := S6x1024x512) ![k.val, 0, 0] S1x1024x512.size (slot_inb k)).toLoadRect hl) kt) Q) := by
  unfold LD
  iintro ⟨H, Hr⟩ Hk
  iapply (loads_step c) $$ H
  iintro H
  iapply Hk
  iapply (LD_late m ρ b k p c)
  unfold LD
  isplitl [H] <;> iassumption

end

end Cert.TwoRings

end
-- ==== Proof.Copies.lean ====
/-
The copies between the arguments in main memory, the staging slots and the result, a tile at a time.
-/
module

public import proofs.«01_k».proof.Proof.Hop

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- A tile of the weights and a chunk of the activations, where they lie and what they hold. -/
abbrev wtile (t : Fin 8) : Memref sig .tc .hbm S1024x1024 .f32 := wM.slice (tcols t) (fun _ => rfl)
abbrev xtile (d : Dev nD) : Memref sig .tc .hbm S1024x1024 .f32 := xM.slice (rows d) (fun _ => rfl)
def wtC (c : Dev nD) (t : Fin 8) : FVec F S1024x1024 .f32 := fun j => wC m ρ c ((tcols t).emb j)
def xtC (c d : Dev nD) : FVec F S1024x1024 .f32 := fun j => xC m ρ c ((rows d).emb j)

/-- The arguments, at a share. -/
def WH (q : PosShare TreeShare) (c : Dev nD) : sProp 𝕄 := owns (c : Thread nD τ) wM q (wC m ρ c)
def XH (q : PosShare TreeShare) (c : Dev nD) : sProp 𝕄 := owns (c : Thread nD τ) xM q (xC m ρ c)
def oA (t : Fin 8) (c : Dev nD) : sProp 𝕄 := iprop(∃ Y, oQ t c Y)

/-- A tile of the weights on its way into a staging slot; -/
def WF (s : Fin 2) (t : Fin 8) (q : PosShare TreeShare) (k : Fin 4) (c : Dev nD) : sProp 𝕄 :=
  iprop(CP (wtile t) (stq s) q k c (wtC m ρ c t) ∗ (owns (c : Thread nD τ) (wtile t) q (wtC m ρ c t) -∗ WH m ρ q c))
/-- a chunk of the activations on its way; -/
def XF (s : Fin 2) (d : Dev nD) (q : PosShare TreeShare) (k : Fin 4) (c : Dev nD) : sProp 𝕄 :=
  iprop(CP (xtile d) (stq s) q k c (xtC m ρ c d) ∗ (owns (c : Thread nD τ) (xtile d) q (xtC m ρ c d) -∗ XH m ρ q c))
/-- a staging slot on its way out; a tile of the result on its way back in. -/
def OF (s : Fin 2) (t : Fin 8) (k : Fin 4) (c : Dev nD) (Y : FVec F S1024x1024 .f32) : sProp 𝕄 := CP (stq s) (otile t) fullShare k c Y
def IF (s : Fin 2) (t : Fin 8) (k : Fin 4) (c : Dev nD) (Y : FVec F S1024x1024 .f32) : sProp 𝕄 := CP (otile t) (stq s) fullShare k c Y

section
variable {α : Type} {Q : α → sProp (MT nD τ sig ℕ (Elt F) ℕ UU ℕ)}

theorem w_start (s : Fin 2) (t : Fin 8) (q : PosShare TreeShare) (k : Fin 4) (c : Dev nD) {off : Fin 2 → ℕ} (hoff : off = ![0, 1024 * t.val]) {inb}
    {qs : DmaSem sig} (hq : qs = lS k) {hsrc} {hdst} {hsem}
    {kt : PUnit → Prog (TpuEff nD τ sig (Elt F) Λ₀ .tc) α} :
    iprop(WH m ρ q c ∗ stA s c ∗ lv0 k c : sProp 𝕄)
      ⊢ iprop((WF m ρ s t q k c -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (wM.slice (Rect.unit (s := S1024x8192) off S1024x1024.size inb) (fun _ => rfl)) (.here (stq s)) (.dma qs) hsrc hdst hsem) kt) Q) := by
  subst hoff
  unfold WF WH stA stQ
  iintro ⟨H, Hs, Hv⟩ Hk
  ihave H := (OwnSteps.owns_lend (Val := Elt F) (c := (c : Thread nD τ)) wM (tcols t) (fun _ => rfl) q (wC m ρ c)) $$ H
  icases H with ⟨H, Hb⟩
  iapply (cp_start k c (src := wtile t) (dd := stq s) q (X := wtC m ρ c t) hq (by rfl)) $$ [H Hs Hv]
  · isplitl [H]; · iexact H
    isplitl [Hs] <;> iassumption
  iintro HF
  iapply Hk
  isplitl [HF]; · iexact HF
  iexact Hb

theorem w_wait {s : Fin 2} {t : Fin 8} {q : PosShare TreeShare} (k : Fin 4) {n : ℕ} (c : Dev nD)
    {qs : DmaSem sig} (hq : qs = lS k)
    {spw spw' : Space} {s1 s2 : Shape} {e e' : EltTy} {ms : Memref sig .tc spw s1 e} {md : Memref sig .tc spw' s2 e'} {h1 : ms.view.WordExact} {h2 : md.view.WordExact} (hN : md.view.dmaCredit = NT)
    {kt : PUnit → Prog (TpuEff nD τ sig (Elt F) Λ₀ .tc) α} :
    iprop(Ctx m ρ ∗ WF m ρ s t q k c ∗ Own n c)
      ⊢ iprop(((stQ s c (wtC m ρ c t) ∗ WH m ρ q c ∗ lv0 k c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs ms md h1 h2) kt) Q) := by
  unfold WF stQ
  iintro ⟨HC, ⟨HF, Hb⟩, HO⟩ Hk
  iapply (cp_wait m ρ k c hq hN) $$ [HC HF HO]
  · isplitl [HC]; · iexact HC
    isplitl [HF] <;> iassumption
  iintro ⟨Hd, Hs, Hv, HO⟩
  iapply Hk
  isplitl [Hd]; · iexact Hd
  isplitl [Hs Hb]; · iapply Hb $$ Hs
  isplitl [Hv] <;> iassumption

theorem x_start (s : Fin 2) (d : Dev nD) (q : PosShare TreeShare) (k : Fin 4) (c : Dev nD) {off : Fin 2 → ℕ} (hoff : off = ![1024 * d.val, 0]) {inb}
    {qs : DmaSem sig} (hq : qs = lS k) {hsrc} {hdst} {hsem}
    {kt : PUnit → Prog (TpuEff nD τ sig (Elt F) Λ₀ .tc) α} :
    iprop(XH m ρ q c ∗ stA s c ∗ lv0 k c : sProp 𝕄)
      ⊢ iprop((XF m ρ s d q k c -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xM.slice (Rect.unit (s := S4096x1024) off S1024x1024.size inb) (fun _ => rfl)) (.here (stq s)) (.dma qs) hsrc hdst hsem) kt) Q) := by
  subst hoff
  unfold XF XH stA stQ
  iintro ⟨H, Hs, Hv⟩ Hk
  ihave H := (OwnSteps.owns_lend (Val := Elt F) (c := (c : Thread nD τ)) xM (rows d) (fun _ => rfl) q (xC m ρ c)) $$ H
  icases H with ⟨H, Hb⟩
  iapply (cp_start k c (src := xtile d) (dd := stq s) q (X := xtC m ρ c d) hq (by rfl)) $$ [H Hs Hv]
  · isplitl [H]; · iexact H
    isplitl [Hs] <;> iassumption
  iintro HF
  iapply Hk
  isplitl [HF]; · iexact HF
  iexact Hb

theorem x_wait {s : Fin 2} {d : Dev nD} {q : PosShare TreeShare} (k : Fin 4) {n : ℕ} (c : Dev nD)
    {qs : DmaSem sig} (hq : qs = lS k)
    {spw spw' : Space} {s1 s2 : Shape} {e e' : EltTy} {ms : Memref sig .tc spw s1 e} {md : Memref sig .tc spw' s2 e'} {h1 : ms.view.WordExact} {h2 : md.view.WordExact} (hN : md.view.dmaCredit = NT)
    {kt : PUnit → Prog (TpuEff nD τ sig (Elt F) Λ₀ .tc) α} :
    iprop(Ctx m ρ ∗ XF m ρ s d q k c ∗ Own n c)
      ⊢ iprop(((stQ s c (xtC m ρ c d) ∗ XH m ρ q c ∗ lv0 k c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs ms md h1 h2) kt) Q) := by
  unfold XF stQ
  iintro ⟨HC, ⟨HF, Hb⟩, HO⟩ Hk
  iapply (cp_wait m ρ k c hq hN) $$ [HC HF HO]
  · isplitl [HC]; · iexact HC
    isplitl [HF] <;> iassumption
  iintro ⟨Hd, Hs, Hv, HO⟩
  iapply Hk
  isplitl [Hd]; · iexact Hd
  isplitl [Hs Hb]; · iapply Hb $$ Hs
  isplitl [Hv] <;> iassumption

theorem o_start (s : Fin 2) (t : Fin 8) (k : Fin 4) (c : Dev nD) (Y : FVec F S1024x1024 .f32) {off : Fin 2 → ℕ} (hoff : off = ![0, 1024 * t.val]) {inb}
    {qs : DmaSem sig} (hq : qs = lS k) {hsrc} {hdst} {hsem}
    {kt : PUnit → Prog (TpuEff nD τ sig (Elt F) Λ₀ .tc) α} :
    iprop(stQ s c Y ∗ oA t c ∗ lv0 k c : sProp 𝕄)
      ⊢ iprop((OF s t k c Y -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (stq s) (.here (oM.slice (Rect.unit (s := S1024x8192) off S1024x1024.size inb) (fun _ => rfl))) (.dma qs) hsrc hdst hsem) kt) Q) := by
  subst hoff
  unfold OF stQ oA oQ
  iintro ⟨H, Hs, Hv⟩ Hk
  iapply (cp_start k c (src := stq s) (dd := otile t) fullShare (X := Y) hq (by rfl)) $$ [H Hs Hv]
  · isplitl [H]; · iexact H
    isplitl [Hs] <;> iassumption
  iexact Hk

theorem o_wait {s : Fin 2} {t : Fin 8} {Y : FVec F S1024x1024 .f32} (k : Fin 4) {n : ℕ} (c : Dev nD)
    {qs : DmaSem sig} (hq : qs = lS k)
    {spw spw' : Space} {s1 s2 : Shape} {e e' : EltTy} {ms : Memref sig .tc spw s1 e} {md : Memref sig .tc spw' s2 e'} {h1 : ms.view.WordExact} {h2 : md.view.WordExact} (hN : md.view.dmaCredit = NT)
    {kt : PUnit → Prog (TpuEff nD τ sig (Elt F) Λ₀ .tc) α} :
    iprop(Ctx m ρ ∗ OF s t k c Y ∗ Own n c)
      ⊢ iprop(((stA s c ∗ oQ t c Y ∗ lv0 k c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs ms md h1 h2) kt) Q) := by
  unfold OF stA stQ oQ
  iintro ⟨HC, HF, HO⟩ Hk
  iapply (cp_wait m ρ k c hq hN) $$ [HC HF HO]
  · isplitl [HC]; · iexact HC
    isplitl [HF] <;> iassumption
  iintro ⟨Hd, Hs, Hv, HO⟩
  iapply Hk
  isplitl [Hs]; · iexists Y; iexact Hs
  isplitl [Hd]; · iexact Hd
  isplitl [Hv] <;> iassumption

theorem i_start (s : Fin 2) (t : Fin 8) (k : Fin 4) (c : Dev nD) (Y : FVec F S1024x1024 .f32) {off : Fin 2 → ℕ} (hoff : off = ![0, 1024 * t.val]) {inb}
    {qs : DmaSem sig} (hq : qs = lS k) {hsrc} {hdst} {hsem}
    {kt : PUnit → Prog (TpuEff nD τ sig (Elt F) Λ₀ .tc) α} :
    iprop(oQ t c Y ∗ stA s c ∗ lv0 k c : sProp 𝕄)
      ⊢ iprop((IF s t k c Y -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oM.slice (Rect.unit (s := S1024x8192) off S1024x1024.size inb) (fun _ => rfl)) (.here (stq s)) (.dma qs) hsrc hdst hsem) kt) Q) := by
  subst hoff
  unfold IF stA stQ oQ
  iintro ⟨H, Hs, Hv⟩ Hk
  iapply (cp_start k c (src := otile t) (dd := stq s) fullShare (X := Y) hq (by rfl)) $$ [H Hs Hv]
  · isplitl [H]; · iexact H
    isplitl [Hs] <;> iassumption
  iexact Hk

theorem i_wait {s : Fin 2} {t : Fin 8} {Y : FVec F S1024x1024 .f32} (k : Fin 4) {n : ℕ} (c : Dev nD)
    {qs : DmaSem sig} (hq : qs = lS k)
    {spw spw' : Space} {s1 s2 : Shape} {e e' : EltTy} {ms : Memref sig .tc spw s1 e} {md : Memref sig .tc spw' s2 e'} {h1 : ms.view.WordExact} {h2 : md.view.WordExact} (hN : md.view.dmaCredit = NT)
    {kt : PUnit → Prog (TpuEff nD τ sig (Elt F) Λ₀ .tc) α} :
    iprop(Ctx m ρ ∗ IF s t k c Y ∗ Own n c)
      ⊢ iprop(((stQ s c Y ∗ oA t c ∗ lv0 k c ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qs ms md h1 h2) kt) Q) := by
  unfold IF oA stQ oQ
  iintro ⟨HC, HF, HO⟩ Hk
  iapply (cp_wait m ρ k c hq hN) $$ [HC HF HO]
  · isplitl [HC]; · iexact HC
    isplitl [HF] <;> iassumption
  iintro ⟨Hd, Hs, Hv, HO⟩
  iapply Hk
  isplitl [Hd]; · iexact Hd
  isplitl [Hs]; · iexists Y; iexact Hs
  isplitl [Hv] <;> iassumption

end

/-- A return, its value named. -/
theorem ret_as {α : Type} {Φ : α → sProp (MT nD τ sig ℕ (Elt F) ℕ UU ℕ)} (c : Dev nD) {a b : α} (h : a = b) :
    Φ b ⊢ wp frame (wpE (defs₀ (F := F)) 𝒱₀ (c : Thread nD τ) none) Set.univ (.ret a) Φ := by
  subst h
  rw [wp_ret]
  iintro H
  imodintro
  iexact H

/-- A tile fetched and narrowed is the tile of the narrowed weights; -/
theorem wtC_narrow (c : Dev nD) (t : Fin 8) :
    k0_pay1 (shapeCast S1x1024x1024 (wtC m ρ c t) shapeCasts_S1024x1024_S1x1024x1024) = fun j => wB m ρ c ((tcols t).emb j) := by
  unfold k0_pay1
  simp only [shapeCast_self, cast_there_back]
  rfl
/-- likewise the activations. -/
theorem xtC_narrow (c d : Dev nD) :
    k0_pay1 (shapeCast S1x1024x1024 (xtC m ρ c d) shapeCasts_S1024x1024_S1x1024x1024) = fun j => xB m ρ c ((rows d).emb j) := by
  unfold k0_pay1
  simp only [shapeCast_self, cast_there_back]
  rfl

/-- The trips' tiles are narrowed one trip ahead. -/
theorem WB_next (c : Dev nD) (t : Fin k0_t1_loop.trips) (h : t.val < 3) :
    (WP m ρ (fun t' => (t'.val % 4 ≤ t.val ∨ t' = tile false (t.val + 1)) ∨ t' = tile true (t.val + 1)) c : sProp 𝕄) ⊢ WB m ρ (t.val + 1) c :=
  WP_mono m ρ c (fun t' ht => by revert t t'; decide)
theorem WB_last (c : Dev nD) (t : Fin k0_t1_loop.trips) (h : ¬ t.val < 3) : (WB m ρ t.val c : sProp 𝕄) ⊢ WB m ρ (t.val + 1) c :=
  WP_mono m ρ c (fun t' ht => by have := t_lt t; have := t'.isLt; omega)

end Cert.TwoRings

end
-- ==== Proof.TripA.lean ====
/-
The first half of a trip, a stretch of the body at a time: what each stretch takes, leaves and returns.
-/
module

public import proofs.«01_k».proof.Proof.Copies

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The finished tile of ring `b` on device `c` in trip `p`. -/
def otl (b : Bool) (p : ℕ) (c : Dev nD) : FVec F S1024x1024 .f32 := glue (acc m ρ b p 0 c) (acc m ρ b p 1 c)

theorem part2_run (c : Dev nD) (t : Fin k0_t1_loop.trips) (v2 : BitVec 32)  {Φ : (Σ' (_ : BitVec 32) (_ : BitVec 32), BitVec 32) → sProp (MT nD τ sig ℕ (Elt F) ℕ UU ℕ)} :
    iprop(Ctx m ρ ∗ SI false 0 t.val c ∗ Own (12 * t.val + 0) c ∗ XB m ρ c ∗ WB m ρ t.val c)
      ⊢ iprop((∀ r1 : BitVec 32, ∀ r2 : BitVec 32, (SR false 0 t.val c ∗ Own (12 * t.val + 0) c ∗ XB m ρ c ∗ WB m ρ t.val c ∗ slotO (sM false) 0 c (mk m ρ false t.val 0 c)) -∗ Φ ⟨Scf.iv 0#32 1#32 t, r1, r2⟩)
        -∗ wp frame (wpE (defs₀ (F := F)) 𝒱₀ (c : Thread nD τ) none) Set.univ (k0_part2 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 0#32 1#32 t) Φ) := by
  simp only [k0_part2_eq_skeleton]
  unfold k0_part2_skel
  simp only [Prog.lift, Prog.bind_op, Prog.bind_ret, Prog.pure_eq_ret]
  iintro ⟨#HC, H1, H2, H6, H7⟩ Hk
  iapply (guard_step m ρ false 0 (t_lt t) c (by decide) (guard_iff t) (by rfl)) $$ [H1 H2]
  · isplitr; · iexact HC
    isplitl [H1]; · iexact H1
    iexact H2
  iintro ⟨H3, H4, H5⟩
  iapply (loadx_step m ρ c (chk false c 0) (by revert c; decide)) $$ H6
  iintro H6
  iapply (loadw_step m ρ c (tile false t.val) 0 (by rw [tile_mod]; exact Nat.mod_le _ _) (by revert t; decide)) $$ H7
  iintro H7
  iapply (put_step c (k := 0) (X := mk m ρ false t.val 0 c) rfl) $$ H3
  iintro H8
  rw [wp_ret]
  imodintro
  iapply Hk
  isplitl [H4]; · iexact H4
  isplitl [H5]; · iexact H5
  isplitl [H6]; · iexact H6
  isplitl [H7]; · iexact H7
  iexact H8

theorem part3_run (c : Dev nD) (t : Fin k0_t1_loop.trips) (v2 v13 v541 : BitVec 32)  {Φ : (FVec F S1024x512 .f32) → sProp (MT nD τ sig ℕ (Elt F) ℕ UU ℕ)} :
    iprop(Ctx m ρ ∗ slotO (sM false) 0 c (mk m ρ false t.val 0 c) ∗ SR false 0 t.val c ∗ Own (12 * t.val + 0) c ∗ DS false 0 t.val (dst false c) ∗ DG true 3 t.val c ∗ DG true 4 t.val c ∗ SI true 0 t.val c ∗ XB m ρ c ∗ WB m ρ t.val c)
      ⊢ iprop(((SI false 0 (t.val + 1) c ∗ slotA (sM true) 0 c ∗ SR true 0 t.val c ∗ Own (12 * t.val + 1) c ∗ XB m ρ c ∗ WB m ρ t.val c) -∗ Φ (prt m ρ c (chk true c 0) (tile true t.val) 0))
        -∗ wp frame (wpE (defs₀ (F := F)) 𝒱₀ (c : Thread nD τ) none) Set.univ (k0_part3 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 t (Scf.iv 0#32 1#32 t) v541) Φ) := by
  simp only [k0_part3_eq_skeleton]
  unfold k0_part3_skel
  simp only [Prog.lift, Prog.bind_op, Prog.bind_ret, Prog.pure_eq_ret]
  iintro ⟨#HC, H1, H2, H3, H4, H5, H6, H9, H13, H14⟩ Hk
  iapply (send_with m ρ false 0 (n0 := 12 * t.val + 0) (n1 := 12 * t.val + 1) (t_lt t) c iprop(DG true 3 t.val c ∗ DG true 4 t.val c) (DS false 0 t.val (dst false c)) .rfl (DS_lt false 0 (t_lt t) _) (by rfl) (by rfl) (by revert c; decide) (by decide) (by decide)) $$ [H1 H2 H3 H4 H5 H6]
  · isplitr; · iexact HC
    isplitl [H1]; · iexact H1
    isplitl [H2]; · iexact H2
    isplitl [H3]; · iexact H3
    isplitl [H4]; · iexact H4
    isplitl [H5]; · iexact H5
    iexact H6
  iintro ⟨H7, H8⟩
  iapply (guard_step m ρ true 0 (t_lt t) c (by decide) (guard_iff t) (by rfl)) $$ [H9 H8]
  · isplitr; · iexact HC
    isplitl [H9]; · iexact H9
    iexact H8
  iintro ⟨H10, H11, H12⟩
  iapply (loadx_step m ρ c (chk true c 0) (by revert c; decide)) $$ H13
  iintro H13
  iapply (loadw_step m ρ c (tile true t.val) 0 (by rw [tile_mod]; exact Nat.mod_le _ _) (by revert t; decide)) $$ H14
  iintro H14
  iapply (ret_as c (b := (prt m ρ c (chk true c 0) (tile true t.val) 0)) (by rfl))
  iapply Hk
  isplitl [H7]; · iexact H7
  isplitl [H10]; · iexact H10
  isplitl [H11]; · iexact H11
  isplitl [H12]; · iexact H12
  isplitl [H13]; · iexact H13
  iexact H14

theorem part4_run (c : Dev nD) (t : Fin k0_t1_loop.trips) (v2 v24 : BitVec 32)  {Φ : (Σ' (_ : BitVec 32), BitVec 32) → sProp (MT nD τ sig ℕ (Elt F) ℕ UU ℕ)} :
    iprop(Ctx m ρ ∗ slotA (sM true) 0 c ∗ SR true 0 t.val c ∗ Own (12 * t.val + 1) c ∗ DS true 0 t.val (dst true c) ∗ DG false 4 t.val c ∗ SI false 1 t.val c)
      ⊢ iprop((∀ r1 : BitVec 32, ∀ r2 : BitVec 32, (SI true 0 (t.val + 1) c ∗ slotA (sM false) 1 c ∗ SR false 1 t.val c ∗ Own (12 * t.val + 2) c) -∗ Φ ⟨r1, r2⟩)
        -∗ wp frame (wpE (defs₀ (F := F)) 𝒱₀ (c : Thread nD τ) none) Set.univ (k0_part4 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 (Scf.iv 0#32 1#32 t) (prt m ρ c (chk true c 0) (tile true t.val) 0)) Φ) := by
  simp only [k0_part4_eq_skeleton]
  unfold k0_part4_skel
  simp only [Prog.lift, Prog.bind_op, Prog.bind_ret, Prog.pure_eq_ret]
  iintro ⟨#HC, H1, H3, H4, H5, H6, H9⟩ Hk
  iapply (put_step c (k := 0) (X := mk m ρ true t.val 0 c) rfl) $$ H1
  iintro H2
  iapply (send_with m ρ true 0 (n0 := 12 * t.val + 1) (n1 := 12 * t.val + 2) (t_lt t) c iprop(DG false 4 t.val c) (DS true 0 t.val (dst true c)) .rfl (DS_lt true 0 (t_lt t) _) (by rfl) (by rfl) (by revert c; decide) (by decide) (by decide)) $$ [H2 H3 H4 H5 H6]
  · isplitr; · iexact HC
    isplitl [H2]; · iexact H2
    isplitl [H3]; · iexact H3
    isplitl [H4]; · iexact H4
    isplitl [H5]; · iexact H5
    iexact H6
  iintro ⟨H7, H8⟩
  iapply (guard_step m ρ false 1 (t_lt t) c (by decide) (guard_iff t) (by rfl)) $$ [H9 H8]
  · isplitr; · iexact HC
    isplitl [H9]; · iexact H9
    iexact H8
  iintro ⟨H10, H11, H12⟩
  rw [wp_ret]
  imodintro
  iapply Hk
  isplitl [H7]; · iexact H7
  isplitl [H10]; · iexact H10
  isplitl [H11]; · iexact H11
  iexact H12

theorem part5_run (c : Dev nD) (t : Fin k0_t1_loop.trips) (v2 v13 v539 v628 c1024 : BitVec 32)  {Φ : (Σ' (_ : BitVec 32), BitVec 32) → sProp (MT nD τ sig ℕ (Elt F) ℕ UU ℕ)} :
    iprop(Ctx m ρ ∗ XB m ρ c ∗ WB m ρ t.val c ∗ slotA (sM false) 1 c ∗ SR false 1 t.val c ∗ Own (12 * t.val + 2) c ∗ DS false 1 t.val (dst false c) ∗ DG true 5 t.val c ∗ SI true 1 t.val c)
      ⊢ iprop((∀ r1 : BitVec 32, ∀ r2 : BitVec 32, (XB m ρ c ∗ WB m ρ t.val c ∗ SI false 1 (t.val + 1) c ∗ slotA (sM true) 1 c ∗ SR true 1 t.val c ∗ Own (12 * t.val + 3) c) -∗ Φ ⟨r1, r2⟩)
        -∗ wp frame (wpE (defs₀ (F := F)) 𝒱₀ (c : Thread nD τ) none) Set.univ (k0_part5 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 t (Scf.iv 0#32 1#32 t) v539 v628 c1024) Φ) := by
  simp only [k0_part5_eq_skeleton]
  unfold k0_part5_skel
  simp only [Prog.lift, Prog.bind_op, Prog.bind_ret, Prog.pure_eq_ret]
  iintro ⟨#HC, H1, H2, H3, H5, H6, H7, H8, H11⟩ Hk
  iapply (loadx_step m ρ c (chk false c 0) (by revert c; decide)) $$ H1
  iintro H1
  iapply (loadw_step m ρ c (tile false t.val) 1 (by rw [tile_mod]; exact Nat.mod_le _ _) (by revert t; decide)) $$ H2
  iintro H2
  iapply (put_step c (k := 1) (X := mk m ρ false t.val 1 c) rfl) $$ H3
  iintro H4
  iapply (send_with m ρ false 1 (n0 := 12 * t.val + 2) (n1 := 12 * t.val + 3) (t_lt t) c iprop(DG true 5 t.val c) (DS false 1 t.val (dst false c)) .rfl (DS_lt false 1 (t_lt t) _) (by rfl) (by rfl) (by revert c; decide) (by decide) (by decide)) $$ [H4 H5 H6 H7 H8]
  · isplitr; · iexact HC
    isplitl [H4]; · iexact H4
    isplitl [H5]; · iexact H5
    isplitl [H6]; · iexact H6
    isplitl [H7]; · iexact H7
    iexact H8
  iintro ⟨H9, H10⟩
  iapply (guard_step m ρ true 1 (t_lt t) c (by decide) (guard_iff t) (by rfl)) $$ [H11 H10]
  · isplitr; · iexact HC
    isplitl [H11]; · iexact H11
    iexact H10
  iintro ⟨H12, H13, H14⟩
  rw [wp_ret]
  imodintro
  iapply Hk
  isplitl [H1]; · iexact H1
  isplitl [H2]; · iexact H2
  isplitl [H9]; · iexact H9
  isplitl [H12]; · iexact H12
  isplitl [H13]; · iexact H13
  iexact H14

theorem part6_run (c : Dev nD) (t : Fin k0_t1_loop.trips) (v2 v24 v541 v656 v657 : BitVec 32)  {Φ : (Σ' (_ : BitVec 32), BitVec 32) → sProp (MT nD τ sig ℕ (Elt F) ℕ UU ℕ)} :
    iprop(Ctx m ρ ∗ XB m ρ c ∗ WB m ρ t.val c ∗ slotA (sM true) 1 c ∗ SR true 1 t.val c ∗ Own (12 * t.val + 3) c ∗ DS true 1 t.val (dst true c) ∗ DG false 5 t.val c ∗ WH m ρ fullShare c ∗ lv0 0 c ∗ lv0 1 c ∗ stA 0 c ∗ stA 1 c)
      ⊢ iprop((∀ r1 : BitVec 32, ∀ r2 : BitVec 32, (XB m ρ c ∗ SI true 1 (t.val + 1) c ∗ WB m ρ (t.val + 1) c ∗ WH m ρ fullShare c ∗ lv0 0 c ∗ lv0 1 c ∗ stA 0 c ∗ stA 1 c ∗ Own (12 * t.val + 4) c) -∗ Φ ⟨r1, r2⟩)
        -∗ wp frame (wpE (defs₀ (F := F)) 𝒱₀ (c : Thread nD τ) none) Set.univ (k0_part6 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 t (Scf.iv 0#32 1#32 t) v541 v656 v657) Φ) := by
  simp only [k0_part6_eq_skeleton]
  unfold k0_part6_skel
  simp only [Prog.lift, Prog.bind_op, Prog.bind_ret, Prog.pure_eq_ret]
  iintro ⟨#HC, H1, H2, H3, H5, H6, H7, H8, H11, H12, H13, H14, H15⟩ Hk
  iapply (loadx_step m ρ c (chk true c 0) (by revert c; decide)) $$ H1
  iintro H1
  iapply (loadw_step m ρ c (tile true t.val) 1 (by rw [tile_mod]; exact Nat.mod_le _ _) (by revert t; decide)) $$ H2
  iintro H2
  iapply (put_step c (k := 1) (X := mk m ρ true t.val 1 c) rfl) $$ H3
  iintro H4
  iapply (send_with m ρ true 1 (n0 := 12 * t.val + 3) (n1 := 12 * t.val + 4) (t_lt t) c iprop(DG false 5 t.val c) (DS true 1 t.val (dst true c)) .rfl (DS_lt true 1 (t_lt t) _) (by rfl) (by rfl) (by revert c; decide) (by decide) (by decide)) $$ [H4 H5 H6 H7 H8]
  · isplitr; · iexact HC
    isplitl [H4]; · iexact H4
    isplitl [H5]; · iexact H5
    isplitl [H6]; · iexact H6
    isplitl [H7]; · iexact H7
    iexact H8
  iintro ⟨H9, H10⟩
  by_cases h5 : k0_cond5 t = 1#1
  · rw [dif_pos h5]
    simp only [k0_part1_eq_skeleton]
    unfold k0_part1_skel
    simp only [Prog.lift, Prog.bind_op, Prog.bind_ret, Prog.pure_eq_ret]
    iapply (w_start m ρ 0 (tile false (t.val + 1)) fullShare 0 c (by revert t; decide) (by decide)) $$ [H11 H14 H12]
    · isplitl [H11]; · iexact H11
      isplitl [H14] <;> iassumption
    iintro HF
    iapply (w_wait m ρ 0 c (by decide) (by rfl)) $$ [HF H10]
    · isplitr; · iexact HC
      isplitl [HF] <;> iassumption
    iintro ⟨HS, H17, H18, H22⟩
    iapply (ldst_step c (s := 0)) $$ HS
    iintro HS
    ihave H2 := (show (WB m ρ t.val c : sProp 𝕄) ⊢ WP m ρ (fun t' => t'.val % 4 ≤ t.val) c from .rfl) $$ H2
    iapply (putw_step m ρ c (tile false (t.val + 1)) (by revert t; decide) (wtC_narrow m ρ c _)) $$ H2
    iintro H2
    iapply (w_start m ρ 1 (tile true (t.val + 1)) fullShare 1 c (by revert t; decide) (by decide)) $$ [H17 H15 H13]
    · isplitl [H17]; · iexact H17
      isplitl [H15] <;> iassumption
    iintro HF
    iapply (w_wait m ρ 1 c (by decide) (by rfl)) $$ [HF H22]
    · isplitr; · iexact HC
      isplitl [HF] <;> iassumption
    iintro ⟨HS', H17, H19, H22⟩
    iapply (ldst_step c (s := 1)) $$ HS'
    iintro HS'
    iapply (putw_step m ρ c (tile true (t.val + 1)) (by revert t; decide) (wtC_narrow m ρ c _)) $$ H2
    iintro H2
    ihave H16 := (WB_next m ρ c t ((cond5_iff t).mp h5)) $$ H2
    ihave H20 := (show (stQ 0 c (wtC m ρ c (tile false (t.val + 1))) : sProp 𝕄) ⊢ stA 0 c from by unfold stA; iintro H; iexists _; iexact H) $$ HS
    ihave H21 := (show (stQ 1 c (wtC m ρ c (tile true (t.val + 1))) : sProp 𝕄) ⊢ stA 1 c from by unfold stA; iintro H; iexists _; iexact H) $$ HS'
    rw [wp_ret]
    imodintro
    iapply Hk
    isplitl [H1]; · iexact H1
    isplitl [H9]; · iexact H9
    isplitl [H16]; · iexact H16
    isplitl [H17]; · iexact H17
    isplitl [H18]; · iexact H18
    isplitl [H19]; · iexact H19
    isplitl [H20]; · iexact H20
    isplitl [H21]; · iexact H21
    iexact H22
  · rw [dif_neg h5]
    ihave H16 := (WB_last m ρ c t (fun h => h5 ((cond5_iff t).mpr h))) $$ H2
    rw [wp_ret]
    imodintro
    iapply Hk
    isplitl [H1]; · iexact H1
    isplitl [H9]; · iexact H9
    isplitl [H16]; · iexact H16
    isplitl [H11]; · iexact H11
    isplitl [H12]; · iexact H12
    isplitl [H13]; · iexact H13
    isplitl [H14]; · iexact H14
    isplitl [H15]; · iexact H15
    iexact H10

theorem part7_run (c : Dev nD) (t : Fin k0_t1_loop.trips) (v13 v539 v689 c1 : BitVec 32)  {Φ : (FVec F S1024x512 .f32) → sProp (MT nD τ sig ℕ (Elt F) ℕ UU ℕ)} :
    iprop(Ctx m ρ ∗ XB m ρ c ∗ WB m ρ (t.val + 1) c ∗ RI false 0 t.val c ∗ Own (12 * t.val + 4) c ∗ SI false 2 t.val c)
      ⊢ iprop(((XB m ρ c ∗ WB m ρ (t.val + 1) c ∗ RI false 0 (t.val + 1) c ∗ LD m ρ false 0 t.val c ∗ DG true 3 t.val (dst true c) ∗ DG true 4 t.val (dst true c) ∗ slotA (sM false) 2 c ∗ SR false 2 t.val c ∗ Own (12 * t.val + 4) c) -∗ Φ (prt m ρ c (chk false c 1) (tile false t.val) 0))
        -∗ wp frame (wpE (defs₀ (F := F)) 𝒱₀ (c : Thread nD τ) none) Set.univ (k0_part7 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v13 t (Scf.iv 0#32 1#32 t) v539 v689 c1) Φ) := by
  simp only [k0_part7_eq_skeleton]
  unfold k0_part7_skel
  simp only [Prog.lift, Prog.bind_op, Prog.bind_ret, Prog.pure_eq_ret]
  iintro ⟨#HC, H1, H2, H3, H4, H10⟩ Hk
  iapply (loadx_step m ρ c (chk false c 1) (by revert c; decide)) $$ H1
  iintro H1
  iapply (loadw_step m ρ c (tile false t.val) 0 (by rw [tile_mod]; exact (Nat.mod_le _ _).trans (Nat.le_succ _)) (by revert t; decide)) $$ H2
  iintro H2
  iapply (land_with m ρ false 0 (n := 12 * t.val + 4) (t_lt t) (by show 12 * t.val + 0 < 12 * t.val + 4; omega) c iprop(DG true 3 t.val (dst true c) ∗ DG true 4 t.val (dst true c)) .rfl (by decide) (by rfl)) $$ [H3 H4]
  · isplitr; · iexact HC
    isplitl [H3]; · iexact H3
    iexact H4
  iintro ⟨H5, H6, H7, ⟨H8, H9⟩⟩
  iapply (guard_step m ρ false 2 (t_lt t) c (by decide) (guard_iff t) (by rfl)) $$ [H10 H7]
  · isplitr; · iexact HC
    isplitl [H10]; · iexact H10
    iexact H7
  iintro ⟨H11, H12, H13⟩
  iapply (ret_as c (b := (prt m ρ c (chk false c 1) (tile false t.val) 0)) (by rfl))
  iapply Hk
  isplitl [H1]; · iexact H1
  isplitl [H2]; · iexact H2
  isplitl [H5]; · iexact H5
  isplitl [H6]; · iexact H6
  isplitl [H8]; · iexact H8
  isplitl [H9]; · iexact H9
  isplitl [H11]; · iexact H11
  isplitl [H12]; · iexact H12
  iexact H13

theorem part8_run (c : Dev nD) (t : Fin k0_t1_loop.trips) (v2 v13 : BitVec 32)  {Φ : (Σ' (_ : Vec F S1024x1024 .bf16), BitVec 32) → sProp (MT nD τ sig ℕ (Elt F) ℕ UU ℕ)} :
    iprop(Ctx m ρ ∗ LD m ρ false 0 t.val c ∗ slotA (sM false) 2 c ∗ SR false 2 t.val c ∗ Own (12 * t.val + 4) c ∗ DS false 2 t.val (dst false c) ∗ XB m ρ c)
      ⊢ iprop((∀ r1 : BitVec 32, (DS false 0 (t.val + 1) c ∗ KP false 0 (t.val + 1) c ∗ SI false 2 (t.val + 1) c ∗ Own (12 * t.val + 5) c ∗ XB m ρ c) -∗ Φ ⟨xch m ρ c (chk true c 1), r1⟩)
        -∗ wp frame (wpE (defs₀ (F := F)) 𝒱₀ (c : Thread nD τ) none) Set.univ (k0_part8 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 (prt m ρ c (chk false c 1) (tile false t.val) 0)) Φ) := by
  simp only [k0_part8_eq_skeleton]
  unfold k0_part8_skel
  simp only [Prog.lift, Prog.bind_op, Prog.bind_ret, Prog.pure_eq_ret]
  iintro ⟨#HC, H1, H4, H6, H7, H8, H11⟩ Hk
  iapply (readE_step m ρ false 0 c) $$ H1
  iintro ⟨H2, H3⟩
  iapply (put_step c (k := 2) (X := mk m ρ false t.val 2 c) rfl) $$ H4
  iintro H5
  iapply (send_with m ρ false 2 (n0 := 12 * t.val + 4) (n1 := 12 * t.val + 5) (t_lt t) c iprop(emp) (DS false 2 t.val (dst false c)) .rfl (DS_lt false 2 (t_lt t) _) (by rfl) (by rfl) (by revert c; decide) (by decide) (by decide)) $$ [H5 H6 H7 H8]
  · isplitr; · iexact HC
    isplitl [H5]; · iexact H5
    isplitl [H6]; · iexact H6
    isplitl [H7]; · iexact H7
    isplitl [H8]; · iexact H8
    iempintro
  iintro ⟨H9, H10⟩
  iapply (loadx_step m ρ c (chk true c 1) (by revert c; decide)) $$ H11
  iintro H11
  rw [wp_ret]
  imodintro
  iapply Hk
  isplitl [H2]; · iexact H2
  isplitl [H3]; · iexact H3
  isplitl [H9]; · iexact H9
  isplitl [H10]; · iexact H10
  iexact H11

theorem part9_run (c : Dev nD) (t : Fin k0_t1_loop.trips) (v24 v541 c0 : BitVec 32)  {Φ : (PUnit) → sProp (MT nD τ sig ℕ (Elt F) ℕ UU ℕ)} :
    iprop(Ctx m ρ ∗ WB m ρ (t.val + 1) c ∗ RI true 0 t.val c ∗ Own (12 * t.val + 5) c ∗ SI true 2 t.val c)
      ⊢ iprop(((WB m ρ (t.val + 1) c ∗ RI true 0 (t.val + 1) c ∗ DG false 4 t.val (dst false c) ∗ SR true 2 t.val c ∗ Own (12 * t.val + 5) c ∗ DS true 0 (t.val + 1) c ∗ KP true 0 (t.val + 1) c ∗ slotO (sM true) 2 c (mk m ρ true t.val 2 c)) -∗ Φ ⟨⟩)
        -∗ wp frame (wpE (defs₀ (F := F)) 𝒱₀ (c : Thread nD τ) none) Set.univ (k0_part9 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 v24 t (Scf.iv 0#32 1#32 t) v541 (xch m ρ c (chk true c 1)) c0) Φ) := by
  simp only [k0_part9_eq_skeleton]
  unfold k0_part9_skel
  simp only [Prog.lift, Prog.bind_op, Prog.bind_ret, Prog.pure_eq_ret]
  iintro ⟨#HC, H1, H2, H3, H8⟩ Hk
  iapply (loadw_step m ρ c (tile true t.val) 0 (by rw [tile_mod]; exact (Nat.mod_le _ _).trans (Nat.le_succ _)) (by revert t; decide)) $$ H1
  iintro H1
  iapply (land_with m ρ true 0 (n := 12 * t.val + 5) (t_lt t) (by show 12 * t.val + 1 < 12 * t.val + 5; omega) c iprop(DG false 4 t.val (dst false c)) .rfl (by decide) (by rfl)) $$ [H2 H3]
  · isplitr; · iexact HC
    isplitl [H2]; · iexact H2
    iexact H3
  iintro ⟨H4, H5, H6, H7⟩
  iapply (guard_step m ρ true 2 (t_lt t) c (by decide) (guard_iff t) (by rfl)) $$ [H8 H6]
  · isplitr; · iexact HC
    isplitl [H8]; · iexact H8
    iexact H6
  iintro ⟨H9, H10, H11⟩
  iapply (readE_step m ρ true 0 c) $$ H5
  iintro ⟨H12, H13⟩
  iapply (put_step c (k := 2) (X := mk m ρ true t.val 2 c) rfl) $$ H9
  iintro H14
  iapply (ret_as c (b := ⟨⟩) (by rfl))
  iapply Hk
  isplitl [H1]; · iexact H1
  isplitl [H4]; · iexact H4
  isplitl [H7]; · iexact H7
  isplitl [H10]; · iexact H10
  isplitl [H11]; · iexact H11
  isplitl [H12]; · iexact H12
  isplitl [H13]; · iexact H13
  iexact H14

theorem part10_run (c : Dev nD) (t : Fin k0_t1_loop.trips) (v2 v13 v539 : BitVec 32)  {Φ : (FVec F S1024x512 .f32) → sProp (MT nD τ sig ℕ (Elt F) ℕ UU ℕ)} :
    iprop(Ctx m ρ ∗ slotO (sM true) 2 c (mk m ρ true t.val 2 c) ∗ SR true 2 t.val c ∗ Own (12 * t.val + 5) c ∗ DS true 2 t.val (dst true c) ∗ DS false 0 (t.val + 1) c ∗ XB m ρ c ∗ WB m ρ (t.val + 1) c)
      ⊢ iprop(((SI true 2 (t.val + 1) c ∗ Own (12 * t.val + 6) c ∗ XB m ρ c ∗ WB m ρ (t.val + 1) c) -∗ Φ (prt m ρ c (chk false c 1) (tile false t.val) 1))
        -∗ wp frame (wpE (defs₀ (F := F)) 𝒱₀ (c : Thread nD τ) none) Set.univ (k0_part10 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 t v539) Φ) := by
  simp only [k0_part10_eq_skeleton]
  unfold k0_part10_skel
  simp only [Prog.lift, Prog.bind_op, Prog.bind_ret, Prog.pure_eq_ret]
  iintro ⟨#HC, H1, H2, H3, H4, H5, H8, H9⟩ Hk
  iapply (send_with m ρ true 2 (n0 := 12 * t.val + 5) (n1 := 12 * t.val + 6) (t_lt t) c iprop(DS false 0 (t.val + 1) c) (DS true 2 t.val (dst true c)) .rfl (DS_lt true 2 (t_lt t) _) (by rfl) (by rfl) (by revert c; decide) (by decide) (by decide)) $$ [H1 H2 H3 H4 H5]
  · isplitr; · iexact HC
    isplitl [H1]; · iexact H1
    isplitl [H2]; · iexact H2
    isplitl [H3]; · iexact H3
    isplitl [H4]; · iexact H4
    iexact H5
  iintro ⟨H6, H7⟩
  iapply (loadx_step m ρ c (chk false c 1) (by revert c; decide)) $$ H8
  iintro H8
  iapply (loadw_step m ρ c (tile false t.val) 1 (by rw [tile_mod]; exact (Nat.mod_le _ _).trans (Nat.le_succ _)) (by revert t; decide)) $$ H9
  iintro H9
  iapply (ret_as c (b := (prt m ρ c (chk false c 1) (tile false t.val) 1)) (by rfl))
  iapply Hk
  isplitl [H6]; · iexact H6
  isplitl [H7]; · iexact H7
  isplitl [H8]; · iexact H8
  iexact H9

theorem part11_run (c : Dev nD) (t : Fin k0_t1_loop.trips) (v2 v13 : BitVec 32)  {Φ : (Σ' (_ : BitVec 32) (_ : BitVec 32), BitVec 1) → sProp (MT nD τ sig ℕ (Elt F) ℕ UU ℕ)} :
    iprop(Ctx m ρ ∗ RI false 1 t.val c ∗ Own (12 * t.val + 6) c ∗ SI false 3 t.val c ∗ DS false 3 t.val (dst false c) ∗ DS true 0 (t.val + 1) c)
      ⊢ iprop((∀ r1 : BitVec 32, ∀ r2 : BitVec 32, ∀ r3 : BitVec 1, (RI false 1 (t.val + 1) c ∗ DG true 5 t.val (dst true c) ∗ DS false 1 (t.val + 1) c ∗ KP false 1 (t.val + 1) c ∗ SI false 3 (t.val + 1) c ∗ Own (12 * t.val + 7) c) -∗ Φ ⟨r1, r2, r3⟩)
        -∗ wp frame (wpE (defs₀ (F := F)) 𝒱₀ (c : Thread nD τ) none) Set.univ (k0_part11 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 (Scf.iv 0#32 1#32 t) (prt m ρ c (chk false c 1) (tile false t.val) 1)) Φ) := by
  simp only [k0_part11_eq_skeleton]
  unfold k0_part11_skel
  simp only [Prog.lift, Prog.bind_op, Prog.bind_ret, Prog.pure_eq_ret]
  iintro ⟨#HC, H1, H2, H7, H14, H15⟩ Hk
  iapply (land_with m ρ false 1 (n := 12 * t.val + 6) (t_lt t) (by show 12 * t.val + 2 < 12 * t.val + 6; omega) c iprop(DG true 5 t.val (dst true c)) .rfl (by decide) (by rfl)) $$ [H1 H2]
  · isplitr; · iexact HC
    isplitl [H1]; · iexact H1
    iexact H2
  iintro ⟨H3, H4, H5, H6⟩
  iapply (guard_step m ρ false 3 (t_lt t) c (by decide) (guard_iff t) (by rfl)) $$ [H7 H5]
  · isplitr; · iexact HC
    isplitl [H7]; · iexact H7
    iexact H5
  iintro ⟨H8, H9, H10⟩
  iapply (readE_step m ρ false 1 c) $$ H4
  iintro ⟨H11, H12⟩
  iapply (put_step c (k := 3) (X := mk m ρ false t.val 3 c) rfl) $$ H8
  iintro H13
  iapply (send_with m ρ false 3 (n0 := 12 * t.val + 6) (n1 := 12 * t.val + 7) (t_lt t) c iprop(DS true 0 (t.val + 1) c) (DS false 3 t.val (dst false c)) .rfl (DS_lt false 3 (t_lt t) _) (by rfl) (by rfl) (by revert c; decide) (by decide) (by decide)) $$ [H13 H9 H10 H14 H15]
  · isplitr; · iexact HC
    isplitl [H13]; · iexact H13
    isplitl [H9]; · iexact H9
    isplitl [H10]; · iexact H10
    isplitl [H14]; · iexact H14
    iexact H15
  iintro ⟨H16, H17⟩
  rw [wp_ret]
  imodintro
  iapply Hk
  isplitl [H3]; · iexact H3
  isplitl [H6]; · iexact H6
  isplitl [H11]; · iexact H11
  isplitl [H12]; · iexact H12
  isplitl [H16]; · iexact H16
  iexact H17

theorem part12_run (c : Dev nD) (t : Fin k0_t1_loop.trips) (v24 v541 v836 v837 : BitVec 32) (v838 : BitVec 1) {Φ : (FVec F S1024x512 .bf16) → sProp (MT nD τ sig ℕ (Elt F) ℕ UU ℕ)} :
    iprop(Ctx m ρ ∗ XB m ρ c ∗ WB m ρ (t.val + 1) c ∗ RI true 1 t.val c ∗ Own (12 * t.val + 7) c ∗ SI true 3 t.val c)
      ⊢ iprop(((XB m ρ c ∗ WB m ρ (t.val + 1) c ∗ RI true 1 (t.val + 1) c ∗ DG false 5 t.val (dst false c) ∗ slotA (sM true) 3 c ∗ SR true 3 t.val c ∗ Own (12 * t.val + 7) c ∗ DS true 1 (t.val + 1) c ∗ KP true 1 (t.val + 1) c) -∗ Φ (k0_pay13 (xch m ρ c (chk true c 1)) (wcl m ρ c (tile true t.val) 1) (mk m ρ true t.val 1 (src true c))))
        -∗ wp frame (wpE (defs₀ (F := F)) 𝒱₀ (c : Thread nD τ) none) Set.univ (k0_part12 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v24 t (Scf.iv 0#32 1#32 t) v541 v836 v837 v838) Φ) := by
  simp only [k0_part12_eq_skeleton]
  unfold k0_part12_skel
  simp only [Prog.lift, Prog.bind_op, Prog.bind_ret, Prog.pure_eq_ret]
  iintro ⟨#HC, H1, H2, H3, H4, H9⟩ Hk
  iapply (loadx_step m ρ c (chk true c 1) (by revert c; decide)) $$ H1
  iintro H1
  iapply (loadw_step m ρ c (tile true t.val) 1 (by rw [tile_mod]; exact (Nat.mod_le _ _).trans (Nat.le_succ _)) (by revert t; decide)) $$ H2
  iintro H2
  iapply (land_with m ρ true 1 (n := 12 * t.val + 7) (t_lt t) (by show 12 * t.val + 3 < 12 * t.val + 7; omega) c iprop(DG false 5 t.val (dst false c)) .rfl (by decide) (by rfl)) $$ [H3 H4]
  · isplitr; · iexact HC
    isplitl [H3]; · iexact H3
    iexact H4
  iintro ⟨H5, H6, H7, H8⟩
  iapply (guard_step m ρ true 3 (t_lt t) c (by decide) (guard_iff t) (by rfl)) $$ [H9 H7]
  · isplitr; · iexact HC
    isplitl [H9]; · iexact H9
    iexact H7
  iintro ⟨H10, H11, H12⟩
  iapply (readE_step m ρ true 1 c) $$ H6
  iintro ⟨H13, H14⟩
  iapply (ret_as c (b := (k0_pay13 (xch m ρ c (chk true c 1)) (wcl m ρ c (tile true t.val) 1) (mk m ρ true t.val 1 (src true c)))) (by rfl))
  iapply Hk
  isplitl [H1]; · iexact H1
  isplitl [H2]; · iexact H2
  isplitl [H5]; · iexact H5
  isplitl [H8]; · iexact H8
  isplitl [H10]; · iexact H10
  isplitl [H11]; · iexact H11
  isplitl [H12]; · iexact H12
  isplitl [H13]; · iexact H13
  iexact H14

theorem part13_run (c : Dev nD) (t : Fin k0_t1_loop.trips) (v2 v24 v539 : BitVec 32)  {Φ : (FVec F S1024x512 .f32) → sProp (MT nD τ sig ℕ (Elt F) ℕ UU ℕ)} :
    iprop(Ctx m ρ ∗ slotA (sM true) 3 c ∗ SR true 3 t.val c ∗ Own (12 * t.val + 7) c ∗ DG true 3 t.val (dst true c) ∗ DS false 1 (t.val + 1) c ∗ AG c t.val ∗ XB m ρ c ∗ WB m ρ (t.val + 1) c)
      ⊢ iprop(((SI true 3 (t.val + 1) c ∗ Own (12 * t.val + 8) c ∗ XB m ρ c ∗ WB m ρ (t.val + 1) c) -∗ Φ (prt m ρ c (chk false c 2) (tile false t.val) 0))
        -∗ wp frame (wpE (defs₀ (F := F)) 𝒱₀ (c : Thread nD τ) none) Set.univ (k0_part13 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 t v539 (k0_pay13 (xch m ρ c (chk true c 1)) (wcl m ρ c (tile true t.val) 1) (mk m ρ true t.val 1 (src true c)))) Φ) := by
  simp only [k0_part13_eq_skeleton]
  unfold k0_part13_skel
  simp only [Prog.lift, Prog.bind_op, Prog.bind_ret, Prog.pure_eq_ret]
  iintro ⟨#HC, H1, H3, H4, H5, H6, H7, H10, H11⟩ Hk
  iapply (put_step c (k := 3) (X := mk m ρ true t.val 3 c) rfl) $$ H1
  iintro H2
  iapply (send_with m ρ true 3 (n0 := 12 * t.val + 7) (n1 := 12 * t.val + 8) (t_lt t) c iprop(DS false 1 (t.val + 1) c ∗ AG c t.val) (DG true 3 t.val (dst true c)) .rfl .rfl (by rfl) (by rfl) (by revert c; decide) (by decide) (by decide)) $$ [H2 H3 H4 H5 H6 H7]
  · isplitr; · iexact HC
    isplitl [H2]; · iexact H2
    isplitl [H3]; · iexact H3
    isplitl [H4]; · iexact H4
    isplitl [H5]; · iexact H5
    isplitl [H6]; · iexact H6
    iexact H7
  iintro ⟨H8, H9⟩
  iapply (loadx_step m ρ c (chk false c 2) (by revert c; decide)) $$ H10
  iintro H10
  iapply (loadw_step m ρ c (tile false t.val) 0 (by rw [tile_mod]; exact (Nat.mod_le _ _).trans (Nat.le_succ _)) (by revert t; decide)) $$ H11
  iintro H11
  iapply (ret_as c (b := (prt m ρ c (chk false c 2) (tile false t.val) 0)) (by rfl))
  iapply Hk
  isplitl [H8]; · iexact H8
  isplitl [H9]; · iexact H9
  isplitl [H10]; · iexact H10
  iexact H11

end Cert.TwoRings

end
-- ==== Proof.TripB.lean ====
/-
The second half of a trip, likewise.
-/
module

public import proofs.«01_k».proof.Proof.TripA

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem part14_run (c : Dev nD) (t : Fin k0_t1_loop.trips) (v13 : BitVec 32)  {Φ : (PUnit) → sProp (MT nD τ sig ℕ (Elt F) ℕ UU ℕ)} :
    iprop(Ctx m ρ ∗ RI false 2 t.val c ∗ Own (12 * t.val + 8) c ∗ SI false 4 t.val c)
      ⊢ iprop(((RI false 2 (t.val + 1) c ∗ SR false 4 t.val c ∗ Own (12 * t.val + 8) c ∗ DS false 2 (t.val + 1) c ∗ KP false 2 (t.val + 1) c ∗ slotO (sM false) 4 c (mk m ρ false t.val 4 c)) -∗ Φ ⟨⟩)
        -∗ wp frame (wpE (defs₀ (F := F)) 𝒱₀ (c : Thread nD τ) none) Set.univ (k0_part14 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 v13 (Scf.iv 0#32 1#32 t) (prt m ρ c (chk false c 2) (tile false t.val) 0)) Φ) := by
  simp only [k0_part14_eq_skeleton]
  unfold k0_part14_skel
  simp only [Prog.lift, Prog.bind_op, Prog.bind_ret, Prog.pure_eq_ret]
  iintro ⟨#HC, H1, H2, H6⟩ Hk
  iapply (land_with m ρ false 2 (n := 12 * t.val + 8) (t_lt t) (by show 12 * t.val + 4 < 12 * t.val + 8; omega) c iprop(emp) .rfl (by decide) (by rfl)) $$ [H1 H2]
  · isplitr; · iexact HC
    isplitl [H1]; · iexact H1
    iexact H2
  iintro ⟨H3, H4, H5, -⟩
  iapply (guard_step m ρ false 4 (t_lt t) c (by decide) (guard_iff t) (by rfl)) $$ [H6 H5]
  · isplitr; · iexact HC
    isplitl [H6]; · iexact H6
    iexact H5
  iintro ⟨H7, H8, H9⟩
  iapply (readE_step m ρ false 2 c) $$ H4
  iintro ⟨H10, H11⟩
  iapply (put_step c (k := 4) (X := mk m ρ false t.val 4 c) rfl) $$ H7
  iintro H12
  iapply (ret_as c (b := ⟨⟩) (by rfl))
  iapply Hk
  isplitl [H3]; · iexact H3
  isplitl [H8]; · iexact H8
  isplitl [H9]; · iexact H9
  isplitl [H10]; · iexact H10
  isplitl [H11]; · iexact H11
  iexact H12

theorem part15_run (c : Dev nD) (t : Fin k0_t1_loop.trips) (v2 v24 v541 : BitVec 32)  {Φ : (Σ' (_ : FVec F S1024x512 .f32), BitVec 32) → sProp (MT nD τ sig ℕ (Elt F) ℕ UU ℕ)} :
    iprop(Ctx m ρ ∗ slotO (sM false) 4 c (mk m ρ false t.val 4 c) ∗ SR false 4 t.val c ∗ Own (12 * t.val + 8) c ∗ DG false 4 t.val (dst false c) ∗ DS true 1 (t.val + 1) c ∗ XB m ρ c ∗ WB m ρ (t.val + 1) c ∗ RI true 2 t.val c)
      ⊢ iprop(((SI false 4 (t.val + 1) c ∗ XB m ρ c ∗ WB m ρ (t.val + 1) c ∗ RI true 2 (t.val + 1) c ∗ LD m ρ true 2 t.val c ∗ Own (12 * t.val + 9) c ∗ DS false 0 (t.val + 1) (dst false c)) -∗ Φ ⟨prt m ρ c (chk true c 2) (tile true t.val) 0, Scalar.extui (Scalar.cmpi .sgt (Scf.iv 0#32 1#32 t) 0#32)⟩)
        -∗ wp frame (wpE (defs₀ (F := F)) 𝒱₀ (c : Thread nD τ) none) Set.univ (k0_part15 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 t (Scf.iv 0#32 1#32 t) v541) Φ) := by
  simp only [k0_part15_eq_skeleton]
  unfold k0_part15_skel
  simp only [Prog.lift, Prog.bind_op, Prog.bind_ret, Prog.pure_eq_ret]
  iintro ⟨#HC, H1, H2, H3, H4, H5, H8, H9, H10⟩ Hk
  iapply (send_with m ρ false 4 (n0 := 12 * t.val + 8) (n1 := 12 * t.val + 9) (t_lt t) c iprop(DS true 1 (t.val + 1) c) (DG false 4 t.val (dst false c)) .rfl .rfl (by rfl) (by rfl) (by revert c; decide) (by decide) (by decide)) $$ [H1 H2 H3 H4 H5]
  · isplitr; · iexact HC
    isplitl [H1]; · iexact H1
    isplitl [H2]; · iexact H2
    isplitl [H3]; · iexact H3
    isplitl [H4]; · iexact H4
    iexact H5
  iintro ⟨H6, H7⟩
  iapply (loadx_step m ρ c (chk true c 2) (by revert c; decide)) $$ H8
  iintro H8
  iapply (loadw_step m ρ c (tile true t.val) 0 (by rw [tile_mod]; exact (Nat.mod_le _ _).trans (Nat.le_succ _)) (by revert t; decide)) $$ H9
  iintro H9
  iapply (land_with m ρ true 2 (n := 12 * t.val + 9) (t_lt t) (by show 12 * t.val + 5 < 12 * t.val + 9; omega) c iprop(DS false 0 (t.val + 1) (dst false c)) .rfl (by decide) (by rfl)) $$ [H10 H7]
  · isplitr; · iexact HC
    isplitl [H10]; · iexact H10
    iexact H7
  iintro ⟨H11, H12, H13, H14⟩
  iapply (ret_as c (b := ⟨prt m ρ c (chk true c 2) (tile true t.val) 0, Scalar.extui (Scalar.cmpi .sgt (Scf.iv 0#32 1#32 t) 0#32)⟩) (by rfl))
  iapply Hk
  isplitl [H6]; · iexact H6
  isplitl [H8]; · iexact H8
  isplitl [H9]; · iexact H9
  isplitl [H11]; · iexact H11
  isplitl [H12]; · iexact H12
  isplitl [H13]; · iexact H13
  iexact H14

theorem part16_run (c : Dev nD) (t : Fin k0_t1_loop.trips) (v2 v24 : BitVec 32)  {Φ : (Σ' (_ : BitVec 32), BitVec 32) → sProp (MT nD τ sig ℕ (Elt F) ℕ UU ℕ)} :
    iprop(Ctx m ρ ∗ SI true 4 t.val c ∗ Own (12 * t.val + 9) c ∗ LD m ρ true 2 t.val c ∗ DG true 4 t.val (dst true c) ∗ DS false 2 (t.val + 1) c)
      ⊢ iprop((∀ r1 : BitVec 32, ∀ r2 : BitVec 32, (DS true 2 (t.val + 1) c ∗ KP true 2 (t.val + 1) c ∗ SI true 4 (t.val + 1) c ∗ Own (12 * t.val + 10) c) -∗ Φ ⟨r1, r2⟩)
        -∗ wp frame (wpE (defs₀ (F := F)) 𝒱₀ (c : Thread nD τ) none) Set.univ (k0_part16 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 (prt m ρ c (chk true c 2) (tile true t.val) 0) (Scalar.extui (Scalar.cmpi .sgt (Scf.iv 0#32 1#32 t) 0#32))) Φ) := by
  simp only [k0_part16_eq_skeleton]
  unfold k0_part16_skel
  simp only [Prog.lift, Prog.bind_op, Prog.bind_ret, Prog.pure_eq_ret]
  iintro ⟨#HC, H1, H2, H6, H10, H11⟩ Hk
  iapply (guard_step m ρ true 4 (t_lt t) c (by decide) (guard_iff t) (by rfl)) $$ [H1 H2]
  · isplitr; · iexact HC
    isplitl [H1]; · iexact H1
    iexact H2
  iintro ⟨H3, H4, H5⟩
  iapply (readE_step m ρ true 2 c) $$ H6
  iintro ⟨H7, H8⟩
  iapply (put_step c (k := 4) (X := mk m ρ true t.val 4 c) rfl) $$ H3
  iintro H9
  iapply (send_with m ρ true 4 (n0 := 12 * t.val + 9) (n1 := 12 * t.val + 10) (t_lt t) c iprop(DS false 2 (t.val + 1) c) (DG true 4 t.val (dst true c)) .rfl .rfl (by rfl) (by rfl) (by revert c; decide) (by decide) (by decide)) $$ [H9 H4 H5 H10 H11]
  · isplitr; · iexact HC
    isplitl [H9]; · iexact H9
    isplitl [H4]; · iexact H4
    isplitl [H5]; · iexact H5
    isplitl [H10]; · iexact H10
    iexact H11
  iintro ⟨H12, H13⟩
  rw [wp_ret]
  imodintro
  iapply Hk
  isplitl [H7]; · iexact H7
  isplitl [H8]; · iexact H8
  isplitl [H12]; · iexact H12
  iexact H13

theorem part17_run (c : Dev nD) (t : Fin k0_t1_loop.trips) (v13 v539 v988 c1024 : BitVec 32)  {Φ : (BitVec 32) → sProp (MT nD τ sig ℕ (Elt F) ℕ UU ℕ)} :
    iprop(Ctx m ρ ∗ XB m ρ c ∗ WB m ρ (t.val + 1) c ∗ RI false 3 t.val c ∗ Own (12 * t.val + 10) c ∗ SI false 5 t.val c)
      ⊢ iprop((∀ r1 : BitVec 32, (XB m ρ c ∗ WB m ρ (t.val + 1) c ∗ RI false 3 (t.val + 1) c ∗ DS true 0 (t.val + 1) (dst true c) ∗ SR false 5 t.val c ∗ Own (12 * t.val + 10) c ∗ DS false 3 (t.val + 1) c ∗ KP false 3 (t.val + 1) c ∗ slotO (sM false) 5 c (mk m ρ false t.val 5 c)) -∗ Φ r1)
        -∗ wp frame (wpE (defs₀ (F := F)) 𝒱₀ (c : Thread nD τ) none) Set.univ (k0_part17 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v13 t (Scf.iv 0#32 1#32 t) v539 v988 c1024) Φ) := by
  simp only [k0_part17_eq_skeleton]
  unfold k0_part17_skel
  simp only [Prog.lift, Prog.bind_op, Prog.bind_ret, Prog.pure_eq_ret]
  iintro ⟨#HC, H1, H2, H3, H4, H9⟩ Hk
  iapply (loadx_step m ρ c (chk false c 2) (by revert c; decide)) $$ H1
  iintro H1
  iapply (loadw_step m ρ c (tile false t.val) 1 (by rw [tile_mod]; exact (Nat.mod_le _ _).trans (Nat.le_succ _)) (by revert t; decide)) $$ H2
  iintro H2
  iapply (land_with m ρ false 3 (n := 12 * t.val + 10) (t_lt t) (by show 12 * t.val + 6 < 12 * t.val + 10; omega) c iprop(DS true 0 (t.val + 1) (dst true c)) .rfl (by decide) (by rfl)) $$ [H3 H4]
  · isplitr; · iexact HC
    isplitl [H3]; · iexact H3
    iexact H4
  iintro ⟨H5, H6, H7, H8⟩
  iapply (guard_step m ρ false 5 (t_lt t) c (by decide) (guard_iff t) (by rfl)) $$ [H9 H7]
  · isplitr; · iexact HC
    isplitl [H9]; · iexact H9
    iexact H7
  iintro ⟨H10, H11, H12⟩
  iapply (readE_step m ρ false 3 c) $$ H6
  iintro ⟨H13, H14⟩
  iapply (put_step c (k := 5) (X := mk m ρ false t.val 5 c) rfl) $$ H10
  iintro H15
  rw [wp_ret]
  imodintro
  iapply Hk
  isplitl [H1]; · iexact H1
  isplitl [H2]; · iexact H2
  isplitl [H5]; · iexact H5
  isplitl [H8]; · iexact H8
  isplitl [H11]; · iexact H11
  isplitl [H12]; · iexact H12
  isplitl [H13]; · iexact H13
  isplitl [H14]; · iexact H14
  iexact H15

theorem part18_run (c : Dev nD) (t : Fin k0_t1_loop.trips) (v2 v13 v24 v541 c1 : BitVec 32)  {Φ : (FVec F S1024x512 .f32) → sProp (MT nD τ sig ℕ (Elt F) ℕ UU ℕ)} :
    iprop(Ctx m ρ ∗ slotO (sM false) 5 c (mk m ρ false t.val 5 c) ∗ SR false 5 t.val c ∗ Own (12 * t.val + 10) c ∗ DG false 5 t.val (dst false c) ∗ DS true 2 (t.val + 1) c ∗ XB m ρ c ∗ WB m ρ (t.val + 1) c)
      ⊢ iprop(((SI false 5 (t.val + 1) c ∗ Own (12 * t.val + 11) c ∗ XB m ρ c ∗ WB m ρ (t.val + 1) c) -∗ Φ (prt m ρ c (chk true c 2) (tile true t.val) 1))
        -∗ wp frame (wpE (defs₀ (F := F)) 𝒱₀ (c : Thread nD τ) none) Set.univ (k0_part18 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24 t v541 c1) Φ) := by
  simp only [k0_part18_eq_skeleton]
  unfold k0_part18_skel
  simp only [Prog.lift, Prog.bind_op, Prog.bind_ret, Prog.pure_eq_ret]
  iintro ⟨#HC, H1, H2, H3, H4, H5, H8, H9⟩ Hk
  iapply (send_with m ρ false 5 (n0 := 12 * t.val + 10) (n1 := 12 * t.val + 11) (t_lt t) c iprop(DS true 2 (t.val + 1) c) (DG false 5 t.val (dst false c)) .rfl .rfl (by rfl) (by rfl) (by revert c; decide) (by decide) (by decide)) $$ [H1 H2 H3 H4 H5]
  · isplitr; · iexact HC
    isplitl [H1]; · iexact H1
    isplitl [H2]; · iexact H2
    isplitl [H3]; · iexact H3
    isplitl [H4]; · iexact H4
    iexact H5
  iintro ⟨H6, H7⟩
  iapply (loadx_step m ρ c (chk true c 2) (by revert c; decide)) $$ H8
  iintro H8
  iapply (loadw_step m ρ c (tile true t.val) 1 (by rw [tile_mod]; exact (Nat.mod_le _ _).trans (Nat.le_succ _)) (by revert t; decide)) $$ H9
  iintro H9
  iapply (ret_as c (b := (prt m ρ c (chk true c 2) (tile true t.val) 1)) (by rfl))
  iapply Hk
  isplitl [H6]; · iexact H6
  isplitl [H7]; · iexact H7
  isplitl [H8]; · iexact H8
  iexact H9

theorem part19_run (c : Dev nD) (t : Fin k0_t1_loop.trips) (v2 v24 : BitVec 32)  {Φ : (Σ' (_ : BitVec 32) (_ : BitVec 32), BitVec 1) → sProp (MT nD τ sig ℕ (Elt F) ℕ UU ℕ)} :
    iprop(Ctx m ρ ∗ RI true 3 t.val c ∗ Own (12 * t.val + 11) c ∗ SI true 5 t.val c ∗ DG true 5 t.val (dst true c) ∗ DS false 3 (t.val + 1) c)
      ⊢ iprop((∀ r1 : BitVec 32, ∀ r2 : BitVec 32, ∀ r3 : BitVec 1, (RI true 3 (t.val + 1) c ∗ DS false 1 (t.val + 1) (dst false c) ∗ AG (dst false c) t.val ∗ DG true 3 (t.val + 1) c ∗ SI true 5 (t.val + 1) c ∗ Own (12 * t.val + 12) c) -∗ Φ ⟨r1, r2, r3⟩)
        -∗ wp frame (wpE (defs₀ (F := F)) 𝒱₀ (c : Thread nD τ) none) Set.univ (k0_part19 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 (Scf.iv 0#32 1#32 t) (prt m ρ c (chk true c 2) (tile true t.val) 1)) Φ) := by
  simp only [k0_part19_eq_skeleton]
  unfold k0_part19_skel
  simp only [Prog.lift, Prog.bind_op, Prog.bind_ret, Prog.pure_eq_ret]
  iintro ⟨#HC, H1, H2, H8, H14, H15⟩ Hk
  iapply (land_with m ρ true 3 (n := 12 * t.val + 11) (t_lt t) (by show 12 * t.val + 7 < 12 * t.val + 11; omega) c iprop(DS false 1 (t.val + 1) (dst false c) ∗ AG (dst false c) t.val) .rfl (by decide) (by rfl)) $$ [H1 H2]
  · isplitr; · iexact HC
    isplitl [H1]; · iexact H1
    iexact H2
  iintro ⟨H3, H4, H5, ⟨H6, H7⟩⟩
  iapply (guard_step m ρ true 5 (t_lt t) c (by decide) (guard_iff t) (by rfl)) $$ [H8 H5]
  · isplitr; · iexact HC
    isplitl [H8]; · iexact H8
    iexact H5
  iintro ⟨H9, H10, H11⟩
  iapply (readL_step m ρ true 3 c) $$ H4
  iintro H12
  iapply (put_step c (k := 5) (X := mk m ρ true t.val 5 c) rfl) $$ H9
  iintro H13
  iapply (send_with m ρ true 5 (n0 := 12 * t.val + 11) (n1 := 12 * t.val + 12) (t_lt t) c iprop(DS false 3 (t.val + 1) c) (DG true 5 t.val (dst true c)) .rfl .rfl (by rfl) (by rfl) (by revert c; decide) (by decide) (by decide)) $$ [H13 H10 H11 H14 H15]
  · isplitr; · iexact HC
    isplitl [H13]; · iexact H13
    isplitl [H10]; · iexact H10
    isplitl [H11]; · iexact H11
    isplitl [H14]; · iexact H14
    iexact H15
  iintro ⟨H16, H17⟩
  rw [wp_ret]
  imodintro
  iapply Hk
  isplitl [H3]; · iexact H3
  isplitl [H6]; · iexact H6
  isplitl [H7]; · iexact H7
  isplitl [H12]; · iexact H12
  isplitl [H16]; · iexact H16
  iexact H17

theorem part20_run (c : Dev nD) (t : Fin k0_t1_loop.trips) (v13 v539 v1074 c4 : BitVec 32) (g : F .f32) (v1075 : BitVec 1) {Φ : (Σ' (_ : FVec F S1024x512 .f32), F .f32) → sProp (MT nD τ sig ℕ (Elt F) ℕ UU ℕ)} :
    iprop(Ctx m ρ ∗ XB m ρ c ∗ WB m ρ (t.val + 1) c ∗ RI false 4 t.val c ∗ Own (12 * t.val + 12) c)
      ⊢ iprop(((XB m ρ c ∗ WB m ρ (t.val + 1) c ∗ RI false 4 (t.val + 1) c ∗ Own (12 * t.val + 12) c ∗ DS true 1 (t.val + 1) (dst true c) ∗ DG false 4 (t.val + 1) c) -∗ Φ ⟨acc m ρ false t.val 0 c, mxs g (acc m ρ false t.val 0 c)⟩)
        -∗ wp frame (wpE (defs₀ (F := F)) 𝒱₀ (c : Thread nD τ) none) Set.univ (k0_part20 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v13 t g v539 v1074 c4 v1075) Φ) := by
  simp only [k0_part20_eq_skeleton]
  unfold k0_part20_skel
  simp only [Prog.lift, Prog.bind_op, Prog.bind_ret, Prog.pure_eq_ret]
  iintro ⟨#HC, H1, H2, H3, H4⟩ Hk
  iapply (loadx_step m ρ c (chk false c 3) (by revert c; decide)) $$ H1
  iintro H1
  iapply (loadw_step m ρ c (tile false t.val) 0 (by rw [tile_mod]; exact (Nat.mod_le _ _).trans (Nat.le_succ _)) (by revert t; decide)) $$ H2
  iintro H2
  iapply (land_with m ρ false 4 (n := 12 * t.val + 12) (t_lt t) (by show 12 * t.val + 8 < 12 * t.val + 12; omega) c iprop(DS true 1 (t.val + 1) (dst true c)) .rfl (by decide) (by rfl)) $$ [H3 H4]
  · isplitr; · iexact HC
    isplitl [H3]; · iexact H3
    iexact H4
  iintro ⟨H5, H6, H7, H8⟩
  iapply (readL_step m ρ false 4 c) $$ H6
  iintro H9
  iapply (ret_as c (b := ⟨acc m ρ false t.val 0 c, mxs g (acc m ρ false t.val 0 c)⟩) (by rfl))
  iapply Hk
  isplitl [H1]; · iexact H1
  isplitl [H2]; · iexact H2
  isplitl [H5]; · iexact H5
  isplitl [H7]; · iexact H7
  isplitl [H8]; · iexact H8
  iexact H9

theorem part21_run (c : Dev nD) (t : Fin k0_t1_loop.trips) (v2 v24 v541 : BitVec 32)  {Φ : (Σ' (_ : FVec F S1024x512 .f32), Vec F S1x1024x512 .bf16) → sProp (MT nD τ sig ℕ (Elt F) ℕ UU ℕ)} :
    iprop(Ctx m ρ ∗ stA 0 c ∗ XB m ρ c ∗ WB m ρ (t.val + 1) c ∗ RI true 4 t.val c ∗ Own (12 * t.val + 12) c)
      ⊢ iprop(((SH 0 (acc m ρ false t.val 0 c) c ∗ XB m ρ c ∗ WB m ρ (t.val + 1) c ∗ RI true 4 (t.val + 1) c ∗ Own (12 * t.val + 12) c ∗ DS false 2 (t.val + 1) (dst false c) ∗ DG true 4 (t.val + 1) c) -∗ Φ ⟨prt m ρ c (chk true c 3) (tile true t.val) 0, mk m ρ true t.val 4 (src true c)⟩)
        -∗ wp frame (wpE (defs₀ (F := F)) 𝒱₀ (c : Thread nD τ) none) Set.univ (k0_part21 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v24 t v541 (acc m ρ false t.val 0 c)) Φ) := by
  simp only [k0_part21_eq_skeleton]
  unfold k0_part21_skel
  simp only [Prog.lift, Prog.bind_op, Prog.bind_ret, Prog.pure_eq_ret]
  iintro ⟨#HC, H1, H3, H4, H5, H6⟩ Hk
  iapply (half0_step c (s := 0) (A := acc m ρ false t.val 0 c) rfl) $$ H1
  iintro H2
  iapply (loadx_step m ρ c (chk true c 3) (by revert c; decide)) $$ H3
  iintro H3
  iapply (loadw_step m ρ c (tile true t.val) 0 (by rw [tile_mod]; exact (Nat.mod_le _ _).trans (Nat.le_succ _)) (by revert t; decide)) $$ H4
  iintro H4
  iapply (land_with m ρ true 4 (n := 12 * t.val + 12) (t_lt t) (by show 12 * t.val + 9 < 12 * t.val + 12; omega) c iprop(DS false 2 (t.val + 1) (dst false c)) .rfl (by decide) (by rfl)) $$ [H5 H6]
  · isplitr; · iexact HC
    isplitl [H5]; · iexact H5
    iexact H6
  iintro ⟨H7, H8, H9, H10⟩
  iapply (readL_step m ρ true 4 c) $$ H8
  iintro H11
  iapply (ret_as c (b := ⟨prt m ρ c (chk true c 3) (tile true t.val) 0, mk m ρ true t.val 4 (src true c)⟩) (by rfl))
  iapply Hk
  isplitl [H2]; · iexact H2
  isplitl [H3]; · iexact H3
  isplitl [H4]; · iexact H4
  isplitl [H7]; · iexact H7
  isplitl [H9]; · iexact H9
  isplitl [H10]; · iexact H10
  iexact H11

theorem part22_run (c : Dev nD) (t : Fin k0_t1_loop.trips) (v2 v13 v539 : BitVec 32) (g : F .f32) {Φ : (Σ' (_ : F .f32), FVec F S1024x512 .f32) → sProp (MT nD τ sig ℕ (Elt F) ℕ UU ℕ)} :
    iprop(Ctx m ρ ∗ stA 1 c ∗ XB m ρ c ∗ WB m ρ (t.val + 1) c)
      ⊢ iprop(((SH 1 (acc m ρ true t.val 0 c) c ∗ XB m ρ c ∗ WB m ρ (t.val + 1) c) -∗ Φ ⟨mxs g (acc m ρ true t.val 0 c), prt m ρ c (chk false c 3) (tile false t.val) 1⟩)
        -∗ wp frame (wpE (defs₀ (F := F)) 𝒱₀ (c : Thread nD τ) none) Set.univ (k0_part22 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 t v539 g (prt m ρ c (chk true c 3) (tile true t.val) 0) (mk m ρ true t.val 4 (src true c))) Φ) := by
  simp only [k0_part22_eq_skeleton]
  unfold k0_part22_skel
  simp only [Prog.lift, Prog.bind_op, Prog.bind_ret, Prog.pure_eq_ret]
  iintro ⟨#HC, H1, H3, H4⟩ Hk
  iapply (half0_step c (s := 1) (A := acc m ρ true t.val 0 c) rfl) $$ H1
  iintro H2
  iapply (loadx_step m ρ c (chk false c 3) (by revert c; decide)) $$ H3
  iintro H3
  iapply (loadw_step m ρ c (tile false t.val) 1 (by rw [tile_mod]; exact (Nat.mod_le _ _).trans (Nat.le_succ _)) (by revert t; decide)) $$ H4
  iintro H4
  iapply (ret_as c (b := ⟨mxs g (acc m ρ true t.val 0 c), prt m ρ c (chk false c 3) (tile false t.val) 1⟩) (by rfl))
  iapply Hk
  isplitl [H2]; · iexact H2
  isplitl [H3]; · iexact H3
  iexact H4

theorem part23_run (c : Dev nD) (t : Fin k0_t1_loop.trips) (v2 v541 : BitVec 32) (g : F .f32) {Φ : (Σ' (_ : F .f32) (_ : Vec F S1024x1024 .bf16) (_ : Vec F S1024x512 .bf16), FVec F S1024x512 .f32) → sProp (MT nD τ sig ℕ (Elt F) ℕ UU ℕ)} :
    iprop(Ctx m ρ ∗ RI false 5 t.val c ∗ Own (12 * t.val + 12) c ∗ SH 0 (acc m ρ false t.val 0 c) c ∗ XB m ρ c ∗ WB m ρ (t.val + 1) c)
      ⊢ iprop(((RI false 5 (t.val + 1) c ∗ Own (12 * t.val + 12) c ∗ DS true 2 (t.val + 1) (dst true c) ∗ DG false 5 (t.val + 1) c ∗ stQ 0 c (otl m ρ false t.val c) ∗ XB m ρ c ∗ WB m ρ (t.val + 1) c) -∗ Φ ⟨mxs g (acc m ρ false t.val 1 c), xch m ρ c (chk true c 3), wcl m ρ c (tile true t.val) 1, Idealize.ShloMosaic.constant S1024x512 .f32 0x00000000#32⟩)
        -∗ wp frame (wpE (defs₀ (F := F)) 𝒱₀ (c : Thread nD τ) none) Set.univ (k0_part23 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 t v541 g (prt m ρ c (chk false c 3) (tile false t.val) 1)) Φ) := by
  simp only [k0_part23_eq_skeleton]
  unfold k0_part23_skel
  simp only [Prog.lift, Prog.bind_op, Prog.bind_ret, Prog.pure_eq_ret]
  iintro ⟨#HC, H1, H2, H8, H10, H11⟩ Hk
  iapply (land_with m ρ false 5 (n := 12 * t.val + 12) (t_lt t) (by show 12 * t.val + 10 < 12 * t.val + 12; omega) c iprop(DS true 2 (t.val + 1) (dst true c)) .rfl (by decide) (by rfl)) $$ [H1 H2]
  · isplitr; · iexact HC
    isplitl [H1]; · iexact H1
    iexact H2
  iintro ⟨H3, H4, H5, H6⟩
  iapply (readL_step m ρ false 5 c) $$ H4
  iintro H7
  iapply (half1_step c (s := 0) (B := acc m ρ false t.val 1 c) rfl) $$ H8
  iintro H9
  iapply (loadx_step m ρ c (chk true c 3) (by revert c; decide)) $$ H10
  iintro H10
  iapply (loadw_step m ρ c (tile true t.val) 1 (by rw [tile_mod]; exact (Nat.mod_le _ _).trans (Nat.le_succ _)) (by revert t; decide)) $$ H11
  iintro H11
  iapply (ret_as c (b := ⟨mxs g (acc m ρ false t.val 1 c), xch m ρ c (chk true c 3), wcl m ρ c (tile true t.val) 1, Idealize.ShloMosaic.constant S1024x512 .f32 0x00000000#32⟩) (by rfl))
  iapply Hk
  isplitl [H3]; · iexact H3
  isplitl [H5]; · iexact H5
  isplitl [H6]; · iexact H6
  isplitl [H7]; · iexact H7
  isplitl [H9]; · iexact H9
  isplitl [H10]; · iexact H10
  iexact H11

theorem part24_run (c : Dev nD) (t : Fin k0_t1_loop.trips) (v24 : BitVec 32) (g : F .f32) {Φ : (F .f32) → sProp (MT nD τ sig ℕ (Elt F) ℕ UU ℕ)} :
    iprop(Ctx m ρ ∗ RI true 5 t.val c ∗ Own (12 * t.val + 12) c ∗ SH 1 (acc m ρ true t.val 0 c) c ∗ stQ 0 c (otl m ρ false t.val c) ∗ oA (tile false t.val) c ∗ lv0 2 c)
      ⊢ iprop(((RI true 5 (t.val + 1) c ∗ Own (12 * t.val + 12) c ∗ DS false 3 (t.val + 1) (dst false c) ∗ DG true 5 (t.val + 1) c ∗ stQ 1 c (otl m ρ true t.val c) ∗ OF 0 (tile false t.val) 2 c (otl m ρ false t.val c)) -∗ Φ (mxs g (acc m ρ true t.val 1 c)))
        -∗ wp frame (wpE (defs₀ (F := F)) 𝒱₀ (c : Thread nD τ) none) Set.univ (k0_part24 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 v24 t g (xch m ρ c (chk true c 3)) (wcl m ρ c (tile true t.val) 1) (Idealize.ShloMosaic.constant S1024x512 .f32 0x00000000#32)) Φ) := by
  simp only [k0_part24_eq_skeleton]
  unfold k0_part24_skel
  simp only [Prog.lift, Prog.bind_op, Prog.bind_ret, Prog.pure_eq_ret]
  iintro ⟨#HC, H1, H2, H8, H10, H11, H12⟩ Hk
  iapply (land_with m ρ true 5 (n := 12 * t.val + 12) (t_lt t) (by show 12 * t.val + 11 < 12 * t.val + 12; omega) c iprop(DS false 3 (t.val + 1) (dst false c)) .rfl (by decide) (by rfl)) $$ [H1 H2]
  · isplitr; · iexact HC
    isplitl [H1]; · iexact H1
    iexact H2
  iintro ⟨H3, H4, H5, H6⟩
  iapply (readL_step m ρ true 5 c) $$ H4
  iintro H7
  iapply (half1_step c (s := 1) (B := acc m ρ true t.val 1 c) rfl) $$ H8
  iintro H9
  iapply (o_start 0 (tile false t.val) 2 c (otl m ρ false t.val c) (by revert t; decide) (by decide)) $$ [H10 H11 H12]
  · isplitl [H10]; · iexact H10
    isplitl [H11]; · iexact H11
    iexact H12
  iintro H13
  iapply (ret_as c (b := (mxs g (acc m ρ true t.val 1 c))) (by rfl))
  iapply Hk
  isplitl [H3]; · iexact H3
  isplitl [H5]; · iexact H5
  isplitl [H6]; · iexact H6
  isplitl [H7]; · iexact H7
  isplitl [H9]; · iexact H9
  iexact H13

end Cert.TwoRings

end
-- ==== Proof.Trip.lean ====
/-
A trip: what holds before one holds before the next.
-/
module

public import proofs.«01_k».proof.Proof.TripB

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- What of the result holds before trip `p`: two finished tiles from each trip done. -/
def OP (q p : ℕ) (c : Dev nD) : sProp 𝕄 :=
  if q < p then iprop(oQ (tile false q) c (otl m ρ false q c) ∗ oQ (tile true q) c (otl m ρ true q c)) else iprop(oA (tile false q) c ∗ oA (tile true q) c)
def OT (p : ℕ) (c : Dev nD) : sProp 𝕄 := iprop(OP m ρ 0 p c ∗ OP m ρ 1 p c ∗ OP m ρ 2 p c ∗ OP m ρ 3 p c)

theorem OP_todo {q p : ℕ} (h : ¬ q < p) (c : Dev nD) : (OP m ρ q p c : sProp 𝕄) = iprop(oA (tile false q) c ∗ oA (tile true q) c) := if_neg h
theorem OP_done {q p : ℕ} (h : q < p) (c : Dev nD) : (OP m ρ q p c : sProp 𝕄) = iprop(oQ (tile false q) c (otl m ρ false q c) ∗ oQ (tile true q) c (otl m ρ true q c)) := if_pos h

/-- Trip `p` takes its two tiles out and puts them back finished. -/
theorem OT_step (c : Dev nD) (p : ℕ) (h : p < 4) :
    (OT m ρ p c : sProp 𝕄) ⊢ iprop(oA (tile false p) c ∗ oA (tile true p) c ∗ (oQ (tile false p) c (otl m ρ false p c) ∗ oQ (tile true p) c (otl m ρ true p c) -∗ OT m ρ (p + 1) c)) := by
  unfold OT
  obtain rfl | rfl | rfl | rfl : p = 0 ∨ p = 1 ∨ p = 2 ∨ p = 3 := by omega
  · iintro ⟨H0, H1, H2, H3⟩
    ihave H0 := (Entails.of_eq (OP_todo m ρ (q := 0) (p := 0) (by omega) c)) $$ H0
    icases H0 with ⟨Ha, Hb⟩
    isplitl [Ha]; · iexact Ha
    isplitl [Hb]; · iexact Hb
    iintro H
    isplitl [H]; · iapply (Entails.of_eq (OP_done m ρ (q := 0) (p := 0 + 1) (by omega) c).symm) $$ H
    isplitl [H1]; · iapply (Entails.of_eq ((OP_todo m ρ (q := 1) (p := 0) (by omega) c).trans (OP_todo m ρ (q := 1) (p := 0 + 1) (by omega) c).symm)) $$ H1
    isplitl [H2]; · iapply (Entails.of_eq ((OP_todo m ρ (q := 2) (p := 0) (by omega) c).trans (OP_todo m ρ (q := 2) (p := 0 + 1) (by omega) c).symm)) $$ H2
    iapply (Entails.of_eq ((OP_todo m ρ (q := 3) (p := 0) (by omega) c).trans (OP_todo m ρ (q := 3) (p := 0 + 1) (by omega) c).symm)) $$ H3
  · iintro ⟨H0, H1, H2, H3⟩
    ihave H1 := (Entails.of_eq (OP_todo m ρ (q := 1) (p := 1) (by omega) c)) $$ H1
    icases H1 with ⟨Ha, Hb⟩
    isplitl [Ha]; · iexact Ha
    isplitl [Hb]; · iexact Hb
    iintro H
    isplitl [H0]; · iapply (Entails.of_eq ((OP_done m ρ (q := 0) (p := 1) (by omega) c).trans (OP_done m ρ (q := 0) (p := 1 + 1) (by omega) c).symm)) $$ H0
    isplitl [H]; · iapply (Entails.of_eq (OP_done m ρ (q := 1) (p := 1 + 1) (by omega) c).symm) $$ H
    isplitl [H2]; · iapply (Entails.of_eq ((OP_todo m ρ (q := 2) (p := 1) (by omega) c).trans (OP_todo m ρ (q := 2) (p := 1 + 1) (by omega) c).symm)) $$ H2
    iapply (Entails.of_eq ((OP_todo m ρ (q := 3) (p := 1) (by omega) c).trans (OP_todo m ρ (q := 3) (p := 1 + 1) (by omega) c).symm)) $$ H3
  · iintro ⟨H0, H1, H2, H3⟩
    ihave H2 := (Entails.of_eq (OP_todo m ρ (q := 2) (p := 2) (by omega) c)) $$ H2
    icases H2 with ⟨Ha, Hb⟩
    isplitl [Ha]; · iexact Ha
    isplitl [Hb]; · iexact Hb
    iintro H
    isplitl [H0]; · iapply (Entails.of_eq ((OP_done m ρ (q := 0) (p := 2) (by omega) c).trans (OP_done m ρ (q := 0) (p := 2 + 1) (by omega) c).symm)) $$ H0
    isplitl [H1]; · iapply (Entails.of_eq ((OP_done m ρ (q := 1) (p := 2) (by omega) c).trans (OP_done m ρ (q := 1) (p := 2 + 1) (by omega) c).symm)) $$ H1
    isplitl [H]; · iapply (Entails.of_eq (OP_done m ρ (q := 2) (p := 2 + 1) (by omega) c).symm) $$ H
    iapply (Entails.of_eq ((OP_todo m ρ (q := 3) (p := 2) (by omega) c).trans (OP_todo m ρ (q := 3) (p := 2 + 1) (by omega) c).symm)) $$ H3
  · iintro ⟨H0, H1, H2, H3⟩
    ihave H3 := (Entails.of_eq (OP_todo m ρ (q := 3) (p := 3) (by omega) c)) $$ H3
    icases H3 with ⟨Ha, Hb⟩
    isplitl [Ha]; · iexact Ha
    isplitl [Hb]; · iexact Hb
    iintro H
    isplitl [H0]; · iapply (Entails.of_eq ((OP_done m ρ (q := 0) (p := 3) (by omega) c).trans (OP_done m ρ (q := 0) (p := 3 + 1) (by omega) c).symm)) $$ H0
    isplitl [H1]; · iapply (Entails.of_eq ((OP_done m ρ (q := 1) (p := 3) (by omega) c).trans (OP_done m ρ (q := 1) (p := 3 + 1) (by omega) c).symm)) $$ H1
    isplitl [H2]; · iapply (Entails.of_eq ((OP_done m ρ (q := 2) (p := 3) (by omega) c).trans (OP_done m ρ (q := 2) (p := 3 + 1) (by omega) c).symm)) $$ H2
    iapply (Entails.of_eq (OP_done m ρ (q := 3) (p := 3 + 1) (by omega) c).symm) $$ H

/-- What device `c` holds before trip `p`. -/
def Inv (p : ℕ) (c : Dev nD) : sProp 𝕄 :=
  iprop(SI false 0 p c
    ∗ SI false 1 p c
    ∗ SI false 2 p c
    ∗ SI false 3 p c
    ∗ SI false 4 p c
    ∗ SI false 5 p c
    ∗ SI true 0 p c
    ∗ SI true 1 p c
    ∗ SI true 2 p c
    ∗ SI true 3 p c
    ∗ SI true 4 p c
    ∗ SI true 5 p c
    ∗ RI false 0 p c
    ∗ RI false 1 p c
    ∗ RI false 2 p c
    ∗ RI false 3 p c
    ∗ RI false 4 p c
    ∗ RI false 5 p c
    ∗ RI true 0 p c
    ∗ RI true 1 p c
    ∗ RI true 2 p c
    ∗ RI true 3 p c
    ∗ RI true 4 p c
    ∗ RI true 5 p c
    ∗ DG true 3 p c
    ∗ DG true 4 p c
    ∗ DG true 5 p c
    ∗ DG false 4 p c
    ∗ DG false 5 p c
    ∗ DS false 0 p (dst false c)
    ∗ DS false 1 p (dst false c)
    ∗ DS false 2 p (dst false c)
    ∗ DS false 3 p (dst false c)
    ∗ DS true 0 p (dst true c)
    ∗ DS true 1 p (dst true c)
    ∗ DS true 2 p (dst true c)
    ∗ KP false 0 p c
    ∗ KP false 1 p c
    ∗ KP false 2 p c
    ∗ KP false 3 p c
    ∗ KP true 0 p c
    ∗ KP true 1 p c
    ∗ KP true 2 p c
    ∗ AX c p
    ∗ Own (12 * p) c
    ∗ XB m ρ c
    ∗ WB m ρ p c
    ∗ WH m ρ fullShare c
    ∗ lv0 0 c
    ∗ lv0 1 c
    ∗ lv0 2 c
    ∗ lv0 3 c
    ∗ stA 0 c
    ∗ stA 1 c
    ∗ OT m ρ p c)

set_option maxHeartbeats 4000000 in
/-- One trip of the body. -/
theorem trip_run (c : Dev nD) (t : Fin k0_t1_loop.trips) (v2 v13 v24 : BitVec 32) (g : F .f32) {Φ : F .f32 → sProp (MT nD τ sig ℕ (Elt F) ℕ UU ℕ)} :
    iprop(Ctx m ρ ∗ Inv m ρ t.val c)
      ⊢ iprop((Inv m ρ (t.val + 1) c -∗ Φ (mxs (mxs (mxs (mxs g (acc m ρ false t.val 0 c)) (acc m ρ true t.val 0 c)) (acc m ρ false t.val 1 c)) (acc m ρ true t.val 1 c)))
        -∗ wp frame (wpE (defs₀ (F := F)) 𝒱₀ (c : Thread nD τ) none) Set.univ (k0_t1_body xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24 t g) Φ) := by
  unfold Inv
  iintro ⟨#HC, HI⟩ Hk
  icases HI with ⟨I0, I1, I2, I3, I4, I5, I6, I7, I8, I9, I10, I11, I12, I13, I14, I15, I16, I17, I18, I19, I20, I21, I22, I23, I24, I25, I26, I27, I28, I29, I30, I31, I32, I33, I34, I35, -, -, -, -, -, -, -, AX, I44, I45, I46, I47, I48, I49, I50, I51, I52, I53, OT⟩
  ihave AX := (AX_split c t.val) $$ AX
  icases AX with ⟨AG, AK⟩
  ihave OT := (OT_step m ρ c t.val (t_lt t)) $$ OT
  icases OT with ⟨OA, OB, OT⟩
  unfold k0_t1_body
  rw [wp_bind]
  iapply (part2_run m ρ c t) $$ [I0 I44 I45 I46]
  · isplitr; · iexact HC
    isplitl [I0]; · iexact I0
    isplitl [I44]; · iexact I44
    isplitl [I45]; · iexact I45
    iexact I46
  iintro %r1_2 %r2_2 ⟨H1001, H1002, H1003, H1004, H1005⟩
  dsimp only
  rw [wp_bind]
  iapply (part3_run m ρ c t) $$ [H1005 H1001 H1002 I29 I24 I25 I6 H1003 H1004]
  · isplitr; · iexact HC
    isplitl [H1005]; · iexact H1005
    isplitl [H1001]; · iexact H1001
    isplitl [H1002]; · iexact H1002
    isplitl [I29]; · iexact I29
    isplitl [I24]; · iexact I24
    isplitl [I25]; · iexact I25
    isplitl [I6]; · iexact I6
    isplitl [H1003]; · iexact H1003
    iexact H1004
  iintro ⟨H1006, H1007, H1008, H1009, H1010, H1011⟩
  rw [wp_bind]
  iapply (part4_run m ρ c t) $$ [H1007 H1008 H1009 I33 I27 I1]
  · isplitr; · iexact HC
    isplitl [H1007]; · iexact H1007
    isplitl [H1008]; · iexact H1008
    isplitl [H1009]; · iexact H1009
    isplitl [I33]; · iexact I33
    isplitl [I27]; · iexact I27
    iexact I1
  iintro %r1_4 %r2_4 ⟨H1012, H1013, H1014, H1015⟩
  dsimp only
  rw [wp_bind]
  iapply (part5_run m ρ c t) $$ [H1010 H1011 H1013 H1014 H1015 I30 I26 I7]
  · isplitr; · iexact HC
    isplitl [H1010]; · iexact H1010
    isplitl [H1011]; · iexact H1011
    isplitl [H1013]; · iexact H1013
    isplitl [H1014]; · iexact H1014
    isplitl [H1015]; · iexact H1015
    isplitl [I30]; · iexact I30
    isplitl [I26]; · iexact I26
    iexact I7
  iintro %r1_5 %r2_5 ⟨H1016, H1017, H1018, H1019, H1020, H1021⟩
  dsimp only
  rw [wp_bind]
  iapply (part6_run m ρ c t) $$ [H1016 H1017 H1019 H1020 H1021 I34 I28 I47 I48 I49 I52 I53]
  · isplitr; · iexact HC
    isplitl [H1016]; · iexact H1016
    isplitl [H1017]; · iexact H1017
    isplitl [H1019]; · iexact H1019
    isplitl [H1020]; · iexact H1020
    isplitl [H1021]; · iexact H1021
    isplitl [I34]; · iexact I34
    isplitl [I28]; · iexact I28
    isplitl [I47]; · iexact I47
    isplitl [I48]; · iexact I48
    isplitl [I49]; · iexact I49
    isplitl [I52]; · iexact I52
    iexact I53
  iintro %r1_6 %r2_6 ⟨H1022, H1023, H1024, H1025, H1026, H1027, H1028, H1029, H1030⟩
  dsimp only
  rw [wp_bind]
  iapply (part7_run m ρ c t) $$ [H1022 H1024 I12 H1030 I2]
  · isplitr; · iexact HC
    isplitl [H1022]; · iexact H1022
    isplitl [H1024]; · iexact H1024
    isplitl [I12]; · iexact I12
    isplitl [H1030]; · iexact H1030
    iexact I2
  iintro ⟨H1031, H1032, H1033, H1034, H1035, H1036, H1037, H1038, H1039⟩
  rw [wp_bind]
  iapply (part8_run m ρ c t) $$ [H1034 H1037 H1038 H1039 I31 H1031]
  · isplitr; · iexact HC
    isplitl [H1034]; · iexact H1034
    isplitl [H1037]; · iexact H1037
    isplitl [H1038]; · iexact H1038
    isplitl [H1039]; · iexact H1039
    isplitl [I31]; · iexact I31
    iexact H1031
  iintro %r1_8 ⟨H1040, H1041, H1042, H1043, H1044⟩
  dsimp only
  rw [wp_bind]
  iapply (part9_run m ρ c t) $$ [H1032 I18 H1043 I8]
  · isplitr; · iexact HC
    isplitl [H1032]; · iexact H1032
    isplitl [I18]; · iexact I18
    isplitl [H1043]; · iexact H1043
    iexact I8
  iintro ⟨H1045, H1046, H1047, H1048, H1049, H1050, H1051, H1052⟩
  rw [wp_bind]
  iapply (part10_run m ρ c t) $$ [H1052 H1048 H1049 I35 H1040 H1044 H1045]
  · isplitr; · iexact HC
    isplitl [H1052]; · iexact H1052
    isplitl [H1048]; · iexact H1048
    isplitl [H1049]; · iexact H1049
    isplitl [I35]; · iexact I35
    isplitl [H1040]; · iexact H1040
    isplitl [H1044]; · iexact H1044
    iexact H1045
  iintro ⟨H1053, H1054, H1055, H1056⟩
  rw [wp_bind]
  iapply (part11_run m ρ c t) $$ [I13 H1054 I3 I32 H1050]
  · isplitr; · iexact HC
    isplitl [I13]; · iexact I13
    isplitl [H1054]; · iexact H1054
    isplitl [I3]; · iexact I3
    isplitl [I32]; · iexact I32
    iexact H1050
  iintro %r1_11 %r2_11 %r3_11 ⟨H1057, H1058, H1059, H1060, H1061, H1062⟩
  dsimp only
  rw [wp_bind]
  iapply (part12_run m ρ c t) $$ [H1055 H1056 I19 H1062 I9]
  · isplitr; · iexact HC
    isplitl [H1055]; · iexact H1055
    isplitl [H1056]; · iexact H1056
    isplitl [I19]; · iexact I19
    isplitl [H1062]; · iexact H1062
    iexact I9
  iintro ⟨H1063, H1064, H1065, H1066, H1067, H1068, H1069, H1070, H1071⟩
  rw [wp_bind]
  iapply (part13_run m ρ c t) $$ [H1067 H1068 H1069 H1035 H1059 AG H1063 H1064]
  · isplitr; · iexact HC
    isplitl [H1067]; · iexact H1067
    isplitl [H1068]; · iexact H1068
    isplitl [H1069]; · iexact H1069
    isplitl [H1035]; · iexact H1035
    isplitl [H1059]; · iexact H1059
    isplitl [AG]; · iexact AG
    isplitl [H1063]; · iexact H1063
    iexact H1064
  iintro ⟨H1072, H1073, H1074, H1075⟩
  rw [wp_bind]
  iapply (part14_run m ρ c t) $$ [I14 H1073 I4]
  · isplitr; · iexact HC
    isplitl [I14]; · iexact I14
    isplitl [H1073]; · iexact H1073
    iexact I4
  iintro ⟨H1076, H1077, H1078, H1079, H1080, H1081⟩
  rw [wp_bind]
  iapply (part15_run m ρ c t) $$ [H1081 H1077 H1078 H1047 H1070 H1074 H1075 I20]
  · isplitr; · iexact HC
    isplitl [H1081]; · iexact H1081
    isplitl [H1077]; · iexact H1077
    isplitl [H1078]; · iexact H1078
    isplitl [H1047]; · iexact H1047
    isplitl [H1070]; · iexact H1070
    isplitl [H1074]; · iexact H1074
    isplitl [H1075]; · iexact H1075
    iexact I20
  iintro ⟨H1082, H1083, H1084, H1085, H1086, H1087, H1088⟩
  dsimp only
  rw [wp_bind]
  iapply (part16_run m ρ c t) $$ [I10 H1087 H1086 H1036 H1079]
  · isplitr; · iexact HC
    isplitl [I10]; · iexact I10
    isplitl [H1087]; · iexact H1087
    isplitl [H1086]; · iexact H1086
    isplitl [H1036]; · iexact H1036
    iexact H1079
  iintro %r1_16 %r2_16 ⟨H1089, H1090, H1091, H1092⟩
  dsimp only
  rw [wp_bind]
  iapply (part17_run m ρ c t) $$ [H1083 H1084 I15 H1092 I5]
  · isplitr; · iexact HC
    isplitl [H1083]; · iexact H1083
    isplitl [H1084]; · iexact H1084
    isplitl [I15]; · iexact I15
    isplitl [H1092]; · iexact H1092
    iexact I5
  iintro %r1_17 ⟨H1093, H1094, H1095, H1096, H1097, H1098, H1099, H1100, H1101⟩
  rw [wp_bind]
  iapply (part18_run m ρ c t) $$ [H1101 H1097 H1098 H1066 H1089 H1093 H1094]
  · isplitr; · iexact HC
    isplitl [H1101]; · iexact H1101
    isplitl [H1097]; · iexact H1097
    isplitl [H1098]; · iexact H1098
    isplitl [H1066]; · iexact H1066
    isplitl [H1089]; · iexact H1089
    isplitl [H1093]; · iexact H1093
    iexact H1094
  iintro ⟨H1102, H1103, H1104, H1105⟩
  rw [wp_bind]
  iapply (part19_run m ρ c t) $$ [I21 H1103 I11 H1058 H1099]
  · isplitr; · iexact HC
    isplitl [I21]; · iexact I21
    isplitl [H1103]; · iexact H1103
    isplitl [I11]; · iexact I11
    isplitl [H1058]; · iexact H1058
    iexact H1099
  iintro %r1_19 %r2_19 %r3_19 ⟨H1106, H1107, H1108, H1109, H1110, H1111⟩
  dsimp only
  rw [wp_bind]
  iapply (part20_run m ρ c t) $$ [H1104 H1105 I16 H1111]
  · isplitr; · iexact HC
    isplitl [H1104]; · iexact H1104
    isplitl [H1105]; · iexact H1105
    isplitl [I16]; · iexact I16
    iexact H1111
  iintro ⟨H1112, H1113, H1114, H1115, H1116, H1117⟩
  dsimp only
  rw [wp_bind]
  iapply (part21_run m ρ c t) $$ [H1028 H1112 H1113 I22 H1115]
  · isplitr; · iexact HC
    isplitl [H1028]; · iexact H1028
    isplitl [H1112]; · iexact H1112
    isplitl [H1113]; · iexact H1113
    isplitl [I22]; · iexact I22
    iexact H1115
  iintro ⟨H1118, H1119, H1120, H1121, H1122, H1123, H1124⟩
  dsimp only
  rw [wp_bind]
  iapply (part22_run m ρ c t) $$ [H1029 H1119 H1120]
  · isplitr; · iexact HC
    isplitl [H1029]; · iexact H1029
    isplitl [H1119]; · iexact H1119
    iexact H1120
  iintro ⟨H1125, H1126, H1127⟩
  dsimp only
  rw [wp_bind]
  iapply (part23_run m ρ c t) $$ [I17 H1122 H1118 H1126 H1127]
  · isplitr; · iexact HC
    isplitl [I17]; · iexact I17
    isplitl [H1122]; · iexact H1122
    isplitl [H1118]; · iexact H1118
    isplitl [H1126]; · iexact H1126
    iexact H1127
  iintro ⟨H1128, H1129, H1130, H1131, H1132, H1133, H1134⟩
  dsimp only
  rw [wp_bind]
  iapply (part24_run m ρ c t) $$ [I23 H1129 H1125 H1132 OA I50]
  · isplitr; · iexact HC
    isplitl [I23]; · iexact I23
    isplitl [H1129]; · iexact H1129
    isplitl [H1125]; · iexact H1125
    isplitl [H1132]; · iexact H1132
    isplitl [OA]; · iexact OA
    iexact I50
  iintro ⟨H1135, H1136, H1137, H1138, H1139, H1140⟩
  simp only [Prog.lift, Prog.bind_op, Prog.bind_ret, Prog.pure_eq_ret]
  iapply (o_start 1 (tile true t.val) 3 c (otl m ρ true t.val c) (by revert t; decide) (by decide)) $$ [H1139 OB I51]
  · isplitl [H1139]; · iexact H1139
    isplitl [OB]; · iexact OB
    iexact I51
  iintro H1141
  iapply (o_wait m ρ 2 c (by decide) (by rfl)) $$ [H1140 H1136]
  · isplitr; · iexact HC
    isplitl [H1140]; · iexact H1140
    iexact H1136
  iintro ⟨H1142, H1143, H1144, H1145⟩
  iapply (o_wait m ρ 3 c (by decide) (by rfl)) $$ [H1141 H1145]
  · isplitr; · iexact HC
    isplitl [H1141]; · iexact H1141
    iexact H1145
  iintro ⟨H1146, H1147, H1148, H1149⟩
  rw [wp_ret]
  imodintro
  iapply Hk
  ihave HO := (Entails.of_eq (congrArg (fun n => (Own n c : sProp 𝕄)) (show 12 * t.val + 12 = 12 * (t.val + 1) by omega))) $$ H1149
  ihave AX := (show (iprop(AG (dst false c) t.val ∗ AK c t.val) : sProp 𝕄) ⊢ AX c (t.val + 1) from AX_join c t.val) $$ [H1108 AK]
  · isplitl [H1108] <;> iassumption
  ihave OT := OT $$ [H1143 H1147]
  · isplitl [H1143] <;> iassumption
  isplitl [H1006]; · iexact H1006
  isplitl [H1018]; · iexact H1018
  isplitl [H1042]; · iexact H1042
  isplitl [H1061]; · iexact H1061
  isplitl [H1082]; · iexact H1082
  isplitl [H1102]; · iexact H1102
  isplitl [H1012]; · iexact H1012
  isplitl [H1023]; · iexact H1023
  isplitl [H1053]; · iexact H1053
  isplitl [H1072]; · iexact H1072
  isplitl [H1091]; · iexact H1091
  isplitl [H1110]; · iexact H1110
  isplitl [H1033]; · iexact H1033
  isplitl [H1057]; · iexact H1057
  isplitl [H1076]; · iexact H1076
  isplitl [H1095]; · iexact H1095
  isplitl [H1114]; · iexact H1114
  isplitl [H1128]; · iexact H1128
  isplitl [H1046]; · iexact H1046
  isplitl [H1065]; · iexact H1065
  isplitl [H1085]; · iexact H1085
  isplitl [H1106]; · iexact H1106
  isplitl [H1121]; · iexact H1121
  isplitl [H1135]; · iexact H1135
  isplitl [H1109]; · iexact H1109
  isplitl [H1124]; · iexact H1124
  isplitl [H1138]; · iexact H1138
  isplitl [H1117]; · iexact H1117
  isplitl [H1131]; · iexact H1131
  isplitl [H1088]; · iexact H1088
  isplitl [H1107]; · iexact H1107
  isplitl [H1123]; · iexact H1123
  isplitl [H1137]; · iexact H1137
  isplitl [H1096]; · iexact H1096
  isplitl [H1116]; · iexact H1116
  isplitl [H1130]; · iexact H1130
  isplitl [H1041]; · iexact H1041
  isplitl [H1060]; · iexact H1060
  isplitl [H1080]; · iexact H1080
  isplitl [H1100]; · iexact H1100
  isplitl [H1051]; · iexact H1051
  isplitl [H1071]; · iexact H1071
  isplitl [H1090]; · iexact H1090
  isplitl [AX]; · iexact AX
  isplitl [HO]; · iexact HO
  isplitl [H1133]; · iexact H1133
  isplitl [H1134]; · iexact H1134
  isplitl [H1025]; · iexact H1025
  isplitl [H1026]; · iexact H1026
  isplitl [H1027]; · iexact H1027
  isplitl [H1144]; · iexact H1144
  isplitl [H1148]; · iexact H1148
  isplitl [H1142]; · iexact H1142
  isplitl [H1146]; · iexact H1146
  iexact OT

end Cert.TwoRings

end
-- ==== Proof.Tiles.lean ====
/-
A buffer cut into slices that fill it: owning the whole is owning the slices.
-/
module

public import proofs.«01_k».proof.Proof.Own

@[expose] public section

noncomputable section

namespace Cert.OwnSteps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {c : Thread nD τ} {sp : Space} {s : Shape} {e : EltTy} {κ : Type} [Fintype κ]

/-- Slices `r` of a shape, no two overlapping and every index in one. -/
structure Fills (r : κ → Rect s) : Prop where
  stride : ∀ k a, (r k).stride a = 1
  apart : ∀ k k', k ≠ k' → ∀ i j, (r k).emb i ≠ (r k').emb j
  cover : ∀ x, ∃ k j, (r k).emb j = x

variable {r : κ → Rect s}

theorem Fills.disjoint (h : Fills r) (m : Memref sig c.2.kind sp s e) :
    ∀ k ∈ (Finset.univ : Finset κ), ∀ k' ∈ (Finset.univ : Finset κ), k ≠ k' → Disjoint (m.view.slice (r k)).set (m.view.slice (r k')).set := by
  intro k _ k' _ hk
  rw [Finset.disjoint_left]
  intro i hi hj
  obtain ⟨x, -, hx⟩ := Finset.mem_map.mp hi
  obtain ⟨y, -, hy⟩ := Finset.mem_map.mp hj
  exact h.apart k k' hk x y (m.view.emb.injective (hx.trans hy.symm))

theorem fills_set (h : Fills r) (m : Memref sig c.2.kind sp s e) : m.view.set = Finset.univ.biUnion fun k => (m.view.slice (r k)).set := by
  ext i
  constructor
  · intro hi
    obtain ⟨x, -, hx⟩ := Finset.mem_map.mp hi
    obtain ⟨k, j, hj⟩ := h.cover x
    exact Finset.mem_biUnion.mpr ⟨k, Finset.mem_univ _, Finset.mem_map.mpr ⟨j, Finset.mem_univ _, by rw [← hx, ← hj]; rfl⟩⟩
  · intro hi
    obtain ⟨k, -, hk⟩ := Finset.mem_biUnion.mp hi
    exact View.set_slice_subset m.view (r k) hk

/-- The whole, cut. -/
theorem owns_cut [DecidableEq κ] (h : Fills r) (m : Memref sig c.2.kind sp s e) (q : PosShare TreeShare) (X : s.Idx → Val e) :
    (owns c m q X : sProp 𝕄) ⊢ bigSep Finset.univ fun k => owns c (m.slice (r k) (h.stride k)) q (fun j => X ((r k).emb j)) := by
  unfold owns
  iintro ⟨%f, %hf, H⟩
  have hu := fills_set h m
  ihave H := (show (m.view.loc c ↦[m.view.set]{q} f : sProp 𝕄) ⊢ bigSep Finset.univ fun k => (m.view.loc c ↦[(m.view.slice (r k)).set]{q} f) from by
    rw [hu]; exact Entails.of_eq (pointsTo_biUnion _ _ (h.disjoint m))) $$ H
  iapply (show (bigSep Finset.univ fun k => (m.view.loc c ↦[(m.view.slice (r k)).set]{q} f) : sProp 𝕄) ⊢ _ from bigSep_mono fun k _ => (by
    show (m.view.loc c ↦[(m.view.slice (r k)).set]{q} f : sProp 𝕄) ⊢ iprop(∃ g, ⌜(m.view.slice (r k)).read Val g = fun j => X ((r k).emb j)⌝ ∗ (m.view.loc c ↦[(m.view.slice (r k)).set]{q} g))
    iintro H
    iexists f; isplitr
    · ipureintro; subst hf; rfl
    iexact H)) $$ H

/-- The slices, joined, each at its own contents. -/
theorem owns_join [DecidableEq κ] [∀ e, Nonempty (Val e)] (h : Fills r) (m : Memref sig c.2.kind sp s e) (q : PosShare TreeShare) (Z : (k : κ) → (r k).shape.Idx → Val e) :
    (bigSep Finset.univ (fun k => owns c (m.slice (r k) (h.stride k)) q (Z k)) : sProp 𝕄)
      ⊢ iprop(∃ X, ⌜∀ k j, X ((r k).emb j) = Z k j⌝ ∗ owns c m q X) := by
  let f₀ : m.view.ty.Contents Val := fun _ => Classical.arbitrary _
  have hu : m.view.set = Finset.univ.biUnion fun k => (m.view.slice (r k)).set := fills_set h m
  let Y (k : κ) : Type := {f : m.view.ty.Contents Val // (m.view.slice (r k)).read Val f = Z k}
  haveI (k : κ) : Nonempty (Y k) := ⟨⟨(m.view.slice (r k)).write Val f₀ (Z k) Finset.univ, View.read_write_univ (v := m.view.slice (r k)) (Val := Val) f₀ (Z k)⟩⟩
  have h1 : (bigSep Finset.univ (fun k => owns c (m.slice (r k) (h.stride k)) q (Z k)) : sProp 𝕄)
      ⊢ bigSep Finset.univ fun k => iprop(∃ y : Y k, (m.view.loc c ↦[(m.view.slice (r k)).set]{q} y.1)) := bigSep_mono fun k _ => (by
    show iprop(∃ g, ⌜(m.view.slice (r k)).read Val g = Z k⌝ ∗ (m.view.loc c ↦[(m.view.slice (r k)).set]{q} g))
      ⊢ iprop(∃ y : Y k, (m.view.loc c ↦[(m.view.slice (r k)).set]{q} y.1) : sProp 𝕄)
    iintro ⟨%g, %hg, H⟩
    iexists (⟨g, hg⟩ : Y k)
    iexact H)
  iintro H
  ihave H := h1 $$ H
  ihave H := (bigSep_exists_pi Finset.univ fun (k : κ) (y : Y k) => (m.view.loc c ↦[(m.view.slice (r k)).set]{q} y.1 : sProp 𝕄)) $$ H
  icases H with ⟨%y, H⟩
  ihave H := (show (bigSep Finset.univ (fun k => (m.view.loc c ↦[(m.view.slice (r k)).set]{q} (y k).1)) : sProp 𝕄)
      ⊢ iprop(∃ g, ⌜∀ k ∈ (Finset.univ : Finset κ), ∀ i ∈ (m.view.slice (r k)).set, g i = (y k).1 i⌝ ∗ (m.view.loc c ↦[Finset.univ.biUnion fun k => (m.view.slice (r k)).set]{q} g))
      from pointsTo_biUnion_join (ℓ := m.view.loc c) (q := q) Finset.univ (fun k => (m.view.slice (r k)).set) (fun k => (y k).1) f₀ (h.disjoint m)) $$ H
  icases H with ⟨%g, %hg, H⟩
  iexists (m.view.read Val g)
  isplitr
  · ipureintro
    intro k j
    have h2 : (m.view.slice (r k)).read Val g j = Z k j := by
      rw [← (y k).2, View.read_apply, View.read_apply, hg k (Finset.mem_univ _) _ (Finset.mem_map.mpr ⟨j, Finset.mem_univ _, rfl⟩)]
    exact h2
  unfold owns
  iexists g
  isplitr; · ipureintro; rfl
  rw [hu]
  iexact H

end Cert.OwnSteps

end
-- ==== Proof.Maxima.lean ====
/-
The exchange of the maxima: the store, a send, the wait for a send and the wait for a landing, each as a single step.
-/
module

public import proofs.«01_k».proof.Proof.Trip
public import proofs.«01_k».proof.Proof.Tiles
public import Idealize.ShloMosaic.Lib.MemrefSat

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The buffer the maximum is sent from, at any contents. -/
def asA (c : Dev nD) : sProp 𝕄 := iprop(∃ X : FVec F S8x128 .f32, owns (c : Thread nD τ) asM fullShare X)
/-- The right to the `k`-th send of the maximum; -/
def AS (k : Fin 3) (c : Dev nD) : sProp 𝕄 := iprop(atPos ER (ascell k c) 0 ∅ 0 ∗ dutyTok ER (ascell k c) 0 false ∗ dutyTok ER (arcell k (adst k c)) 0 false)
/-- that send in flight; -/
def AT (k : Fin 3) (c : Dev nD) : sProp 𝕄 := iprop(atPos ER (ascell k c) 0 ∅ 0 ∗ cred (tallyAt (ascell k c) 0 NA))
/-- the landing awaited. -/
def AR (k : Fin 3) (c : Dev nD) : sProp 𝕄 := iprop(atPos ER (arcell k c) 0 ∅ 0 ∗ cred (tallyAt (arcell k c) 0 NA))

section
variable {α : Type} {Q : α → sProp (MT nD τ sig ℕ (Elt F) ℕ UU ℕ)}

/-- The maximum stored, after an idle load. -/
theorem puta_step (c : Dev nD) {w : FVec F S8x128 .f32} (hw : w = amx m ρ c) {hl} {hx} {hm}
    {kt : PUnit → Prog (TpuEff nD τ sig (Elt F) Λ₀ .tc) α} :
    (asA c : sProp 𝕄) ⊢ iprop((owns (c : Thread nD τ) asM fullShare (amx m ρ c) -∗ wp frame (wpE (defs₀ (F := F)) 𝒱₀ (c : Thread nD τ) none) Set.univ (kt ⟨⟩) Q)
      -∗ wp frame (wpE (defs₀ (F := F)) 𝒱₀ (c : Thread nD τ) none) Set.univ
          (.op (.load asM (Rect.unit (s := S8x128) ![0, 0] S8x128.size inb_S8x128_S8x128_0_0).toLoadRect hl) fun _ =>
            .op (.store asM (Rect.unit (s := S8x128) ![0, 0] S8x128.size inb_S8x128_S8x128_0_0) w Finset.univ hx hm) kt) Q) := by
  subst hw
  unfold asA
  iintro ⟨%X, H⟩ Hk
  iapply (OwnSteps.load_window (Val := Elt F) (defs := defs₀ (F := F)) 𝒱₀ (c : Thread nD τ) none (m := asM) (X := X)) $$ H
  iintro H
  iapply (OwnSteps.store_window (Val := Elt F) (defs := defs₀ (F := F)) 𝒱₀ (c : Thread nD τ) none (m := asM) (X := X) (fun _ => rfl)) $$ H
  iintro %Z %hZ H
  iapply Hk
  have hE : Z = amx m ρ c := by
    funext i
    have h := hZ.1 i
    rw [show (Rect.unit (s := S8x128) ![0, 0] S8x128.size inb_S8x128_S8x128_0_0).emb i = i from by
      funext a; apply Fin.ext; fin_cases a
      · show 0 + 1 * (i 0).val = (i 0).val; omega
      · show 0 + 1 * (i 1).val = (i 1).val; omega] at h
    exact h
  subst hE
  iexact H

/-- The `k`-th send of the maximum. -/
theorem asend_step (k : Fin 3) {n0 n1 : ℕ} (c n : Dev nD) (h0 : n0 = 48 + k.val) (h1 : n1 = 48 + k.val + 1) (hn : n = adst k c)
    {qs qr : DmaSem sig} (hqs : qs = asS k) (hqr : qr = arS k)
    {hsc : ((aslot k).squeeze S8x128 squeezes_S1x8x128_S8x128 : Memref sig (Dev.tc n : Thread nD τ).2.kind .vmem S8x128 .f32).view.ref.isScScratch = false}
    {hsrc : asM.view.WordExact} {hdst : ((aslot k).squeeze S8x128 squeezes_S1x8x128_S8x128).view.WordExact}
    {hsem : DmaTarget.Typed .vmem (.dma qr) (.remote (Dev.tc n : Thread nD τ) ((aslot k).squeeze S8x128 squeezes_S1x8x128_S8x128) (.dma qs) hsc)}
    {kt : PUnit → Prog (TpuEff nD τ sig (Elt F) Λ₀ .tc) α} :
    iprop(Ctx m ρ ∗ asnPay m ρ k c ∗ AS k c ∗ arA k (adst k c) ∗ Own n0 c)
      ⊢ iprop(((AT k c ∗ Own n1 c) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma asM
                (.remote (Dev.tc n : Thread nD τ) ((aslot k).squeeze S8x128 squeezes_S1x8x128_S8x128) (.dma qs) hsc) (.dma qr) hsrc hdst hsem) kt) Q) := by
  subst h0 h1 hn hqs hqr
  unfold AS AT Own asnPay arA arO
  iintro ⟨#HC, Hs, ⟨Hat, Ht1, Ht2⟩, ⟨%Y, Hd⟩, ⟨%W, HO⟩⟩ Hk
  ihave #HI := (Ctx_as m ρ k c) $$ HC
  icases HI with ⟨⟨%κ₁, #HI1⟩, #Hr⟩
  ihave #HI' := (Ctx_ar m ρ k (adst k c)) $$ HC
  icases HI' with ⟨⟨%κ₂, #HI2⟩, #Hrd⟩
  ihave Hd := (Entails.of_eq (OwnSteps.owns_squeeze (c := (adst k c : Thread nD τ)) (aslot k) squeezes_S1x8x128_S8x128 fullShare Y)) $$ Hd
  unfold owns
  icases Hs with ⟨%fs, %hfs, Hs⟩
  icases Hd with ⟨%fd, %hfd, Hd⟩
  iapply (Rounds.wp_send_pointsTo 𝒱₀ ER (Rd m ρ) (c : Thread nD τ) none (κ₁ := κ₁) (κ₂ := κ₂) (r₁ := 0) (r₂ := 0) (d₁ := false) (d₂ := false) (fd := fd)
    (by rw [duties_as m ρ c k]; exact Finset.mem_singleton_self _) (by rw [duties_ar m ρ (adst k c) k]; exact Finset.mem_singleton_self _)
    0 0 NA (by exact NA_eq k) (amount_as m ρ c k 0 false) (amount_ar m ρ (adst k c) k 0 false) (owed c (48 + k.val + 1))
    (show owed c (48 + k.val) = owed c (48 + k.val + 1) + tallyAt (arcell k (adst k c)) 0 NA by rw [owed_succ c (by have := k.isLt; omega), tl_max c k]) (W := W)
    (by
      rw [pay_as]; unfold asnPay owns
      iintro H
      iexists fs; isplitr; · ipureintro; exact hfs
      iexact H)
    (by
      rw [pay_ar]; unfold arcPay arO; rw [asrc_adst]
      iintro H
      iapply (show _ ⊢ _ from Entails.of_eq (OwnSteps.owns_squeeze (c := (adst k c : Thread nD τ)) (aslot k) squeezes_S1x8x128_S8x128 fullShare (amx m ρ c)).symm)
      unfold owns
      iexists _; isplitr
      · ipureintro; exact (View.read_write_univ (v := ((aslot k).squeeze S8x128 squeezes_S1x8x128_S8x128).view) (Val := Elt F) fd _).trans hfs
      iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr
    isplitl [Ht2]; · iexact Ht2
    iexact Hrd
  iintro ⟨Hc, HO⟩
  iapply Hk
  isplitr [HO]
  · isplitl [Hat]; · iexact Hat
    iexact Hc
  · iexists W; iexact HO

/-- The wait for the `k`-th send of the maximum: what was lent to it is back. -/
theorem aswait_step (k : Fin 3) {n : ℕ} (c : Dev nD) {q : DmaSem sig} (hq : q = asS k)
    {sp sp' : Space} {s s' : Shape} {e e' : EltTy} {ms : Memref sig .tc sp s e} {md : Memref sig .tc sp' s' e'} {h1 : ms.view.WordExact} {h2 : md.view.WordExact} (hN : md.view.dmaCredit = NA)
    {kt : PUnit → Prog (TpuEff nD τ sig (Elt F) Λ₀ .tc) α} :
    iprop(Ctx m ρ ∗ AT k c ∗ Own n c)
      ⊢ iprop(((asnPay m ρ k c ∗ atPos ER (ascell k c) 1 ∅ 0 ∗ Own n c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q ms md h1 h2) kt) Q) := by
  subst hq
  unfold AT Own
  iintro ⟨#HC, ⟨Hat, Hc⟩, ⟨%W, HO⟩⟩ Hk
  ihave #HI := (Ctx_as m ρ k c) $$ HC
  icases HI with ⟨⟨%κ, #HI1⟩, -⟩
  ihave #Hlev := (Ctx_lev m ρ) $$ HC
  iapply (Rounds.wp_wait_rest_token 𝒱₀ ER (Rd m ρ) (c : Thread nD τ) none (κ := κ)
      (wpE_waitDma2_eq 𝒱₀ (c : Thread nD τ) none Set.univ) (Set.mem_univ _) 0 (O := owed c n) (W := W) (R := 0) (m := 0) (T := ∅)
      (by rw [Nat.zero_add, hN, expect_as m ρ c k])) $$ [Hc HO Hat]
  · isplitr; · iexact HI1
    isplitl [Hc]
    · rw [hN]; iexact Hc
    isplitl [HO]; · iexact HO
    isplitr
    · iapply (mayWait c (.dma (asS k)) 0 n (by decide) (by rw [show lv ((c : Thread nD τ), .dma (asS k)) 0 = 0 from lv_as k c 0]; omega))
      iexact Hlev
    iexact Hat
  iintro ⟨HO, Hat, -, Hpay⟩
  ihave Hp := (Entails.of_eq (rest_as m ρ c k)) $$ Hpay
  iapply Hk
  isplitl [Hp]; · iexact Hp
  isplitl [Hat]; · iexact Hat
  iexists _; iexact HO

/-- The wait for the `k`-th landing of a maximum, all sends done. -/
theorem arwait_step (k : Fin 3) (c : Dev nD) {q : DmaSem sig} (hq : q = arS k)
    {sp sp' : Space} {s s' : Shape} {e e' : EltTy} {ms : Memref sig .tc sp s e} {md : Memref sig .tc sp' s' e'} {h1 : ms.view.WordExact} {h2 : md.view.WordExact} (hN : md.view.dmaCredit = NA)
    {kt : PUnit → Prog (TpuEff nD τ sig (Elt F) Λ₀ .tc) α} :
    iprop(Ctx m ρ ∗ AR k c ∗ Own 51 c)
      ⊢ iprop(((arcPay m ρ k c ∗ atPos ER (arcell k c) 1 ∅ 0 ∗ Own 51 c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q ms md h1 h2) kt) Q) := by
  subst hq
  unfold AR Own
  iintro ⟨#HC, ⟨Hat, Hc⟩, ⟨%W, HO⟩⟩ Hk
  ihave #HI := (Ctx_ar m ρ k c) $$ HC
  icases HI with ⟨⟨%κ, #HI1⟩, -⟩
  ihave #Hlev := (Ctx_lev m ρ) $$ HC
  iapply (Rounds.wp_wait_rest_token 𝒱₀ ER (Rd m ρ) (c : Thread nD τ) none (κ := κ)
      (wpE_waitDma2_eq 𝒱₀ (c : Thread nD τ) none Set.univ) (Set.mem_univ _) 0 (O := owed c 51) (W := W) (R := 0) (m := 0) (T := ∅)
      (by rw [Nat.zero_add, hN, expect_ar m ρ c k])) $$ [Hc HO Hat]
  · isplitr; · iexact HI1
    isplitl [Hc]
    · rw [hN]; iexact Hc
    isplitl [HO]; · iexact HO
    isplitr
    · iapply (mayWait c (.dma (arS k)) 0 51 (by decide) (by rw [show lv ((c : Thread nD τ), .dma (arS k)) 0 = 50 + k.val from lv_ar k c 0]; have := k.isLt; omega))
      iexact Hlev
    iexact Hat
  iintro ⟨HO, Hat, -, Hpay⟩
  ihave Hp := (Entails.of_eq (rest_ar m ρ c k)) $$ Hpay
  iapply Hk
  isplitl [Hp]; · iexact Hp
  isplitl [Hat]; · iexact Hat
  iexists _; iexact HO

end

/-! ## The landed maxima -/

/-- The landed maxima on device `c`, row by row. -/
def amR (c : Dev nD) : FVec F S3x8x128 .f32 := fun i => lmx m ρ (asrc (i 0) c) 4

abbrev arow (k : Fin 3) : Rect S3x8x128 := Rect.unit (s := S3x8x128) ![k.val, 0, 0] S1x8x128.size (aslot_inb k)
theorem arow_fills : OwnSteps.Fills arow where
  stride _ _ := rfl
  apart k k' hk i j h := by
    have h0 : k.val + 1 * (i 0).val = k'.val + 1 * (j 0).val := congrArg (fun x : S3x8x128.Idx => (x 0).val) h
    have h1 : (i 0).val < 1 := (i 0).isLt
    have h2 : (j 0).val < 1 := (j 0).isLt
    exact hk (Fin.ext (by omega))
  cover x := by
    refine ⟨x 0, fun a => match a with | 0 => (⟨0, by decide⟩ : Fin 1) | 1 => x 1 | 2 => x 2, ?_⟩
    funext a; apply Fin.ext; fin_cases a
    · show (x 0).val + 1 * 0 = (x 0).val; omega
    · show 0 + 1 * (x 1).val = (x 1).val; omega
    · show 0 + 1 * (x 2).val = (x 2).val; omega

/-- The three landings together are the whole buffer. -/
theorem rows_joined (c : Dev nD) : iprop(arcPay m ρ 0 c ∗ arcPay m ρ 1 c ∗ arcPay m ρ 2 c) ⊢ (owns (c : Thread nD τ) arM fullShare (amR m ρ c) : sProp 𝕄) := by
  have h := OwnSteps.owns_join (Ix := ℕ) (Name := ℕ) (U := UU) (Lvl := ℕ) (Val := Elt F) (c := (c : Thread nD τ)) arow_fills arM fullShare (fun k => amx m ρ (asrc k c))
  rw [bigSep_univ_eq_bigSepL [0, 1, 2] (by decide) (by decide), bigSepL_cons_cons, bigSepL_cons_cons, bigSepL_singleton] at h
  unfold arcPay arO
  iintro H
  ihave H := h $$ H
  icases H with ⟨%X, %hX, H⟩
  have hE : X = amR m ρ c := by
    funext x
    obtain ⟨k, j, hj⟩ := arow_fills.cover x
    have hk : x 0 = k := by
      have h0 : k.val + 1 * (j 0).val = (x 0).val := congrArg (fun x : S3x8x128.Idx => (x 0).val) hj
      have h1 : (j 0).val < 1 := (j 0).isLt
      exact Fin.ext (by omega)
    have h2 := hX k j
    rw [hj] at h2
    unfold amR
    rw [hk]
    exact h2
  subst hE
  iexact H
/-- The maximum's buffer, lent three ways and back. -/
theorem ash_cut (c : Dev nD) (X : FVec F S8x128 .f32) : (owns (c : Thread nD τ) asM fullShare X : sProp 𝕄)
    ⊢ iprop(owns (c : Thread nD τ) asM (ash 0) X ∗ owns (c : Thread nD τ) asM (ash 1) X ∗ owns (c : Thread nD τ) asM (ash 2) X) := by
  iintro H
  ihave H := (show _ ⊢ _ from (owns_halves (c : Thread nD τ) asM fullShare X).1) $$ H
  icases H with ⟨H1, H2⟩
  ihave H2 := (show _ ⊢ _ from (owns_halves (c : Thread nD τ) asM fullShare.right X).1) $$ H2
  icases H2 with ⟨H2, H3⟩
  isplitl [H1]; · iexact H1
  isplitl [H2]
  · iapply (show (owns (c : Thread nD τ) asM fullShare.right.left X : sProp 𝕄) ⊢ owns (c : Thread nD τ) asM (ash 1) X from .rfl) $$ H2
  · iapply (show (owns (c : Thread nD τ) asM fullShare.right.right X : sProp 𝕄) ⊢ owns (c : Thread nD τ) asM (ash 2) X from .rfl) $$ H3
theorem ash_back (c : Dev nD) (X : FVec F S8x128 .f32) : iprop(owns (c : Thread nD τ) asM (ash 0) X ∗ owns (c : Thread nD τ) asM (ash 1) X ∗ owns (c : Thread nD τ) asM (ash 2) X)
    ⊢ (owns (c : Thread nD τ) asM fullShare X : sProp 𝕄) := by
  iintro ⟨H1, H2, H3⟩
  iapply (show _ ⊢ _ from (owns_halves (c : Thread nD τ) asM fullShare X).2)
  isplitl [H1]; · iexact H1
  iapply (show _ ⊢ _ from (owns_halves (c : Thread nD τ) asM fullShare.right X).2)
  isplitl [H2]
  · iapply (show (owns (c : Thread nD τ) asM (ash 1) X : sProp 𝕄) ⊢ owns (c : Thread nD τ) asM fullShare.right.left X from .rfl) $$ H2
  · iapply (show (owns (c : Thread nD τ) asM (ash 2) X : sProp 𝕄) ⊢ owns (c : Thread nD τ) asM fullShare.right.right X from .rfl) $$ H3

section
variable {α : Type} {Q : α → sProp (MT nD τ sig ℕ (Elt F) ℕ UU ℕ)}

/-- A load of all the landed maxima. -/
theorem loadar_step (c : Dev nD) {Y : FVec F S3x8x128 .f32} {hl}
    {kt : Vec F S3x8x128 .f32 → Prog (TpuEff nD τ sig (Elt F) Λ₀ .tc) α} :
    (owns (c : Thread nD τ) arM fullShare Y : sProp 𝕄) ⊢ iprop((owns (c : Thread nD τ) arM fullShare Y -∗ wp frame (wpE (defs₀ (F := F)) 𝒱₀ (c : Thread nD τ) none) Set.univ (kt Y) Q)
      -∗ wp frame (wpE (defs₀ (F := F)) 𝒱₀ (c : Thread nD τ) none) Set.univ
          (.op (.load arM (Rect.unit (s := S3x8x128) ![0, 0, 0] S3x8x128.size inb_S3x8x128_S3x8x128_0_0_0).toLoadRect hl) kt) Q) := by
  have h := OwnSteps.load_window (Ix := ℕ) (Val := Elt F) (Name := ℕ) (U := UU) (Lvl := ℕ) (defs := defs₀ (F := F)) 𝒱₀ (c : Thread nD τ) none (m := arM)
    (r := Rect.unit (s := S3x8x128) ![0, 0, 0] S3x8x128.size inb_S3x8x128_S3x8x128_0_0_0) (q := fullShare) (X := Y) (hl := hl) (k := kt) (Q := Q)
  rwa [show (fun j => Y ((Rect.unit (s := S3x8x128) ![0, 0, 0] S3x8x128.size inb_S3x8x128_S3x8x128_0_0_0).emb j)) = Y from by
    funext i; refine congrArg Y ?_
    funext a; apply Fin.ext; fin_cases a
    · show 0 + 1 * (i 0).val = (i 0).val; omega
    · show 0 + 1 * (i 1).val = (i 1).val; omega
    · show 0 + 1 * (i 2).val = (i 2).val; omega] at h

end

end Cert.TwoRings

end
-- ==== Proof.Start.lean ====
/-
The stretches of the body before the first trip and the trips themselves.
-/
module

public import proofs.«01_k».proof.Proof.Maxima

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

theorem stQ_any (s : Fin 2) (c : Dev nD) {Y : FVec F S1024x1024 .f32} : (stQ s c Y : sProp 𝕄) ⊢ stA s c := by
  unfold stA; iintro H; iexists Y; iexact H

/-- Tile `t` of device `c`'s result as the trips leave it. -/
def otT (c : Dev nD) (t : Fin 8) : FVec F S1024x1024 .f32 := otl m ρ (decide (4 ≤ t.val)) (t.val % 4) c

/-- What the trips start from besides the operands, the staging buffer and what is owed. -/
def InvAt (c : Dev nD) : sProp 𝕄 :=
  iprop(SI false 0 0 c
    ∗ SI false 1 0 c
    ∗ SI false 2 0 c
    ∗ SI false 3 0 c
    ∗ SI false 4 0 c
    ∗ SI false 5 0 c
    ∗ SI true 0 0 c
    ∗ SI true 1 0 c
    ∗ SI true 2 0 c
    ∗ SI true 3 0 c
    ∗ SI true 4 0 c
    ∗ SI true 5 0 c
    ∗ RI false 0 0 c
    ∗ RI false 1 0 c
    ∗ RI false 2 0 c
    ∗ RI false 3 0 c
    ∗ RI false 4 0 c
    ∗ RI false 5 0 c
    ∗ RI true 0 0 c
    ∗ RI true 1 0 c
    ∗ RI true 2 0 c
    ∗ RI true 3 0 c
    ∗ RI true 4 0 c
    ∗ RI true 5 0 c
    ∗ DG true 3 0 c
    ∗ DG true 4 0 c
    ∗ DG true 5 0 c
    ∗ DG false 4 0 c
    ∗ DG false 5 0 c
    ∗ DG false 0 0 (dst false c)
    ∗ DG false 1 0 (dst false c)
    ∗ DG false 2 0 (dst false c)
    ∗ DG false 3 0 (dst false c)
    ∗ DG true 0 0 (dst true c)
    ∗ DG true 1 0 (dst true c)
    ∗ DG true 2 0 (dst true c)
    ∗ arA 1 (nxt c)
    ∗ oA 0 c
    ∗ oA 1 c
    ∗ oA 2 c
    ∗ oA 3 c
    ∗ oA 4 c
    ∗ oA 5 c
    ∗ oA 6 c
    ∗ oA 7 c)
/-- What the trips leave besides the sends of the last one. -/
def InvEnd (c : Dev nD) : sProp 𝕄 :=
  iprop(RI false 0 4 c
    ∗ RI false 1 4 c
    ∗ RI false 2 4 c
    ∗ RI false 3 4 c
    ∗ RI false 4 4 c
    ∗ RI false 5 4 c
    ∗ RI true 0 4 c
    ∗ RI true 1 4 c
    ∗ RI true 2 4 c
    ∗ RI true 3 4 c
    ∗ RI true 4 4 c
    ∗ RI true 5 4 c
    ∗ slotA (rM false) 0 c
    ∗ slotA (rM false) 1 c
    ∗ slotA (rM false) 2 c
    ∗ slotA (rM false) 3 c
    ∗ slotA (rM false) 4 c
    ∗ slotA (rM false) 5 c
    ∗ slotA (rM true) 0 c
    ∗ slotA (rM true) 1 c
    ∗ slotA (rM true) 2 c
    ∗ slotA (rM true) 3 c
    ∗ slotA (rM true) 4 c
    ∗ slotA (rM true) 5 c
    ∗ arA 1 (adst 1 c)
    ∗ XB m ρ c
    ∗ WB m ρ 4 c
    ∗ oQ 0 c (otT m ρ c 0)
    ∗ oQ 1 c (otT m ρ c 1)
    ∗ oQ 2 c (otT m ρ c 2)
    ∗ oQ 3 c (otT m ρ c 3)
    ∗ oQ 4 c (otT m ρ c 4)
    ∗ oQ 5 c (otT m ρ c 5)
    ∗ oQ 6 c (otT m ρ c 6)
    ∗ oQ 7 c (otT m ρ c 7))

omit [FloatOps F] in
theorem DS_first (b : Bool) (k : Fin 6) (c : Dev nD) : (DG b k 0 c : sProp 𝕄) ⊢ DS b k 0 c := by
  unfold DS; rw [if_pos (by decide : 0 < 4)]
omit [FloatOps F] in
theorem KP_first (b : Bool) (k : Fin 6) (c : Dev nD) : (iprop(emp) : sProp 𝕄) ⊢ KP b k 0 c := by
  unfold KP; rw [if_pos (by decide : 0 < 4)]
omit [FloatOps F] in
theorem KP_last (b : Bool) (k : Fin 6) (c : Dev nD) : (KP b k 4 c : sProp 𝕄) ⊢ slotA (rM b) k c := by
  unfold KP; rw [if_neg (by decide : ¬ 4 < 4)]
omit [FloatOps F] in
theorem DG_last (b : Bool) (k : Fin 6) (r : ℕ) (c : Dev nD) : (DG b k r c : sProp 𝕄) ⊢ slotA (rM b) k c := by
  unfold DG; iintro ⟨H, -⟩; iexact H

theorem OT_first (c : Dev nD) : iprop(oA 0 c ∗ oA 1 c ∗ oA 2 c ∗ oA 3 c ∗ oA 4 c ∗ oA 5 c ∗ oA 6 c ∗ oA 7 c : sProp 𝕄) ⊢ OT m ρ 0 c := by
  unfold OT
  rw [OP_todo m ρ (q := 0) (p := 0) (by omega) c]
  rw [OP_todo m ρ (q := 1) (p := 0) (by omega) c]
  rw [OP_todo m ρ (q := 2) (p := 0) (by omega) c]
  rw [OP_todo m ρ (q := 3) (p := 0) (by omega) c]
  iintro ⟨H0, H1, H2, H3, H4, H5, H6, H7⟩
  isplitl [H0 H4]
  · isplitl [H0]; · iapply (show (oA 0 c : sProp 𝕄) ⊢ oA (tile false 0) c from Entails.of_eq (congrArg (fun t => oA t c) (by decide))) $$ H0
    iapply (show (oA 4 c : sProp 𝕄) ⊢ oA (tile true 0) c from Entails.of_eq (congrArg (fun t => oA t c) (by decide))) $$ H4
  isplitl [H1 H5]
  · isplitl [H1]; · iapply (show (oA 1 c : sProp 𝕄) ⊢ oA (tile false 1) c from Entails.of_eq (congrArg (fun t => oA t c) (by decide))) $$ H1
    iapply (show (oA 5 c : sProp 𝕄) ⊢ oA (tile true 1) c from Entails.of_eq (congrArg (fun t => oA t c) (by decide))) $$ H5
  isplitl [H2 H6]
  · isplitl [H2]; · iapply (show (oA 2 c : sProp 𝕄) ⊢ oA (tile false 2) c from Entails.of_eq (congrArg (fun t => oA t c) (by decide))) $$ H2
    iapply (show (oA 6 c : sProp 𝕄) ⊢ oA (tile true 2) c from Entails.of_eq (congrArg (fun t => oA t c) (by decide))) $$ H6
  isplitl [H3]; · iapply (show (oA 3 c : sProp 𝕄) ⊢ oA (tile false 3) c from Entails.of_eq (congrArg (fun t => oA t c) (by decide))) $$ H3
  iapply (show (oA 7 c : sProp 𝕄) ⊢ oA (tile true 3) c from Entails.of_eq (congrArg (fun t => oA t c) (by decide))) $$ H7
theorem OT_last (c : Dev nD) : (OT m ρ 4 c : sProp 𝕄) ⊢ iprop(oQ 0 c (otT m ρ c 0) ∗ oQ 1 c (otT m ρ c 1) ∗ oQ 2 c (otT m ρ c 2) ∗ oQ 3 c (otT m ρ c 3) ∗ oQ 4 c (otT m ρ c 4) ∗ oQ 5 c (otT m ρ c 5) ∗ oQ 6 c (otT m ρ c 6) ∗ oQ 7 c (otT m ρ c 7)) := by
  unfold OT
  rw [OP_done m ρ (q := 0) (p := 4) (by omega) c]
  rw [OP_done m ρ (q := 1) (p := 4) (by omega) c]
  rw [OP_done m ρ (q := 2) (p := 4) (by omega) c]
  rw [OP_done m ρ (q := 3) (p := 4) (by omega) c]
  iintro ⟨⟨H0, H4⟩, ⟨H1, H5⟩, ⟨H2, H6⟩, ⟨H3, H7⟩⟩
  isplitl [H0]; · iapply (show (oQ (tile false 0) c (otl m ρ false 0 c) : sProp 𝕄) ⊢ oQ 0 c (otT m ρ c 0) from Entails.of_eq (by rw [show tile false 0 = (0 : Fin 8) from by decide]; rfl)) $$ H0
  isplitl [H1]; · iapply (show (oQ (tile false 1) c (otl m ρ false 1 c) : sProp 𝕄) ⊢ oQ 1 c (otT m ρ c 1) from Entails.of_eq (by rw [show tile false 1 = (1 : Fin 8) from by decide]; rfl)) $$ H1
  isplitl [H2]; · iapply (show (oQ (tile false 2) c (otl m ρ false 2 c) : sProp 𝕄) ⊢ oQ 2 c (otT m ρ c 2) from Entails.of_eq (by rw [show tile false 2 = (2 : Fin 8) from by decide]; rfl)) $$ H2
  isplitl [H3]; · iapply (show (oQ (tile false 3) c (otl m ρ false 3 c) : sProp 𝕄) ⊢ oQ 3 c (otT m ρ c 3) from Entails.of_eq (by rw [show tile false 3 = (3 : Fin 8) from by decide]; rfl)) $$ H3
  isplitl [H4]; · iapply (show (oQ (tile true 0) c (otl m ρ true 0 c) : sProp 𝕄) ⊢ oQ 4 c (otT m ρ c 4) from Entails.of_eq (by rw [show tile true 0 = (4 : Fin 8) from by decide]; rfl)) $$ H4
  isplitl [H5]; · iapply (show (oQ (tile true 1) c (otl m ρ true 1 c) : sProp 𝕄) ⊢ oQ 5 c (otT m ρ c 5) from Entails.of_eq (by rw [show tile true 1 = (5 : Fin 8) from by decide]; rfl)) $$ H5
  isplitl [H6]; · iapply (show (oQ (tile true 2) c (otl m ρ true 2 c) : sProp 𝕄) ⊢ oQ 6 c (otT m ρ c 6) from Entails.of_eq (by rw [show tile true 2 = (6 : Fin 8) from by decide]; rfl)) $$ H6
  iapply (show (oQ (tile true 3) c (otl m ρ true 3 c) : sProp 𝕄) ⊢ oQ 7 c (otT m ρ c 7) from Entails.of_eq (by rw [show tile true 3 = (7 : Fin 8) from by decide]; rfl)) $$ H7

set_option maxHeartbeats 2000000 in
theorem Inv_first (c : Dev nD) : iprop(InvAt c ∗ Own 0 c ∗ XB m ρ c ∗ WP m ρ (fun t => t.val % 4 ≤ 0) c ∗ WH m ρ fullShare c ∗ lv0 0 c ∗ lv0 1 c ∗ lv0 2 c ∗ lv0 3 c ∗ stA 0 c ∗ stA 1 c : sProp 𝕄) ⊢ Inv m ρ 0 c := by
  unfold InvAt Inv
  iintro ⟨⟨A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44⟩, E0, E1, E2, E3, E4, E5, E6, E7, E8, E9⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iapply (DS_first false 0 _) $$ A29
  isplitl [A30]; · iapply (DS_first false 1 _) $$ A30
  isplitl [A31]; · iapply (DS_first false 2 _) $$ A31
  isplitl [A32]; · iapply (DS_first false 3 _) $$ A32
  isplitl [A33]; · iapply (DS_first true 0 _) $$ A33
  isplitl [A34]; · iapply (DS_first true 1 _) $$ A34
  isplitl [A35]; · iapply (DS_first true 2 _) $$ A35
  isplitr; · iapply (KP_first false 0 c); iempintro
  isplitr; · iapply (KP_first false 1 c); iempintro
  isplitr; · iapply (KP_first false 2 c); iempintro
  isplitr; · iapply (KP_first false 3 c); iempintro
  isplitr; · iapply (KP_first true 0 c); iempintro
  isplitr; · iapply (KP_first true 1 c); iempintro
  isplitr; · iapply (KP_first true 2 c); iempintro
  isplitl [A36]; · iapply (show (arA 1 (nxt c) : sProp 𝕄) ⊢ AX c 0 from by unfold AX; rw [if_pos rfl]) $$ A36
  isplitl [E0]; · iexact E0
  isplitl [E1]; · iexact E1
  isplitl [E2]; · iapply (show (WP m ρ (fun t => t.val % 4 ≤ 0) c : sProp 𝕄) ⊢ WB m ρ 0 c from .rfl) $$ E2
  isplitl [E3]; · iexact E3
  isplitl [E4]; · iexact E4
  isplitl [E5]; · iexact E5
  isplitl [E6]; · iexact E6
  isplitl [E7]; · iexact E7
  isplitl [E8]; · iexact E8
  isplitl [E9]; · iexact E9
  iapply (OT_first m ρ c)
  isplitl [A37]; · iexact A37
  isplitl [A38]; · iexact A38
  isplitl [A39]; · iexact A39
  isplitl [A40]; · iexact A40
  isplitl [A41]; · iexact A41
  isplitl [A42]; · iexact A42
  isplitl [A43]; · iexact A43
  iexact A44

set_option maxHeartbeats 2000000 in
theorem Inv_last (c : Dev nD) : (Inv m ρ 4 c : sProp 𝕄) ⊢ iprop(SI false 0 4 c ∗ SI false 1 4 c ∗ SI false 2 4 c ∗ SI false 3 4 c ∗ SI false 4 4 c ∗ SI false 5 4 c ∗ SI true 0 4 c ∗ SI true 1 4 c ∗ SI true 2 4 c ∗ SI true 3 4 c ∗ SI true 4 4 c ∗ SI true 5 4 c ∗ lv0 0 c ∗ lv0 1 c ∗ lv0 2 c ∗ lv0 3 c ∗ stA 0 c ∗ stA 1 c ∗ WH m ρ fullShare c ∗ Own 48 c ∗ InvEnd m ρ c) := by
  unfold InvEnd Inv
  iintro ⟨I0, I1, I2, I3, I4, I5, I6, I7, I8, I9, I10, I11, I12, I13, I14, I15, I16, I17, I18, I19, I20, I21, I22, I23, I24, I25, I26, I27, I28, I29, I30, I31, I32, I33, I34, I35, I36, I37, I38, I39, I40, I41, I42, I43, I44, I45, I46, I47, I48, I49, I50, I51, I52, I53, I54⟩
  ihave OT := (OT_last m ρ c) $$ I54
  icases OT with ⟨T0, T1, T2, T3, T4, T5, T6, T7⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I48]; · iexact I48
  isplitl [I49]; · iexact I49
  isplitl [I50]; · iexact I50
  isplitl [I51]; · iexact I51
  isplitl [I52]; · iexact I52
  isplitl [I53]; · iexact I53
  isplitl [I47]; · iexact I47
  isplitl [I44]; · iexact I44
  isplitl [I12]; · iexact I12
  isplitl [I13]; · iexact I13
  isplitl [I14]; · iexact I14
  isplitl [I15]; · iexact I15
  isplitl [I16]; · iexact I16
  isplitl [I17]; · iexact I17
  isplitl [I18]; · iexact I18
  isplitl [I19]; · iexact I19
  isplitl [I20]; · iexact I20
  isplitl [I21]; · iexact I21
  isplitl [I22]; · iexact I22
  isplitl [I23]; · iexact I23
  isplitl [I36]; · iapply (KP_last false 0 c) $$ I36
  isplitl [I37]; · iapply (KP_last false 1 c) $$ I37
  isplitl [I38]; · iapply (KP_last false 2 c) $$ I38
  isplitl [I39]; · iapply (KP_last false 3 c) $$ I39
  isplitl [I27]; · iapply (DG_last false 4 4 c) $$ I27
  isplitl [I28]; · iapply (DG_last false 5 4 c) $$ I28
  isplitl [I40]; · iapply (KP_last true 0 c) $$ I40
  isplitl [I41]; · iapply (KP_last true 1 c) $$ I41
  isplitl [I42]; · iapply (KP_last true 2 c) $$ I42
  isplitl [I24]; · iapply (DG_last true 3 4 c) $$ I24
  isplitl [I25]; · iapply (DG_last true 4 4 c) $$ I25
  isplitl [I26]; · iapply (DG_last true 5 4 c) $$ I26
  isplitl [I43]; · iapply (show (AX c 4 : sProp 𝕄) ⊢ arA 1 (adst 1 c) from by unfold AX; rw [if_neg (by decide)]; exact Entails.of_eq (congrArg (arA 1) (by revert c; decide))) $$ I43
  isplitl [I45]; · iexact I45
  isplitl [I46]; · iexact I46
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

section
variable {α : Type} {Q : α → sProp (MT nD τ sig ℕ (Elt F) ℕ UU ℕ)}

/-- All the trips: what is held before the first holds after the last, and the value carried is the device's maximum. -/
theorem loop_run (c : Dev nD) (v2 v13 v24 : BitVec 32) {kk : F .f32 → Prog (TpuEff nD τ sig (Elt F) Λ₀ .tc) α} :
    iprop(Ctx m ρ ∗ InvAt c ∗ Own 0 c ∗ XB m ρ c ∗ WP m ρ (fun t => t.val % 4 ≤ 0) c ∗ WH m ρ fullShare c ∗ lv0 0 c ∗ lv0 1 c ∗ lv0 2 c ∗ lv0 3 c ∗ stA 0 c ∗ stA 1 c)
      ⊢ iprop(((SI false 0 4 c ∗ SI false 1 4 c ∗ SI false 2 4 c ∗ SI false 3 4 c ∗ SI false 4 4 c ∗ SI false 5 4 c ∗ SI true 0 4 c ∗ SI true 1 4 c ∗ SI true 2 4 c ∗ SI true 3 4 c ∗ SI true 4 4 c ∗ SI true 5 4 c ∗ lv0 0 c ∗ lv0 1 c ∗ lv0 2 c ∗ lv0 3 c ∗ stA 0 c ∗ stA 1 c ∗ WH m ρ fullShare c ∗ Own 48 c ∗ InvEnd m ρ c) -∗ wp frame (wpE (defs₀ (F := F)) 𝒱₀ (c : Thread nD τ) none) Set.univ (kk (lmx m ρ c 4)) Q)
          -∗ wp frame (wpE (defs₀ (F := F)) 𝒱₀ (c : Thread nD τ) none) Set.univ
              (Scf.Loop.for k0_t1_loop k0_t1_ok (Scalar.ofBits .f32 0x00000000#32 : F .f32) (k0_t1_body xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24) >>= kk) Q) := by
  iintro ⟨#HC, H⟩ Hk
  ihave HI := (Inv_first m ρ c) $$ H
  have hb : ∀ (k : Fin k0_t1_loop.trips) (g : F .f32),
      iprop(⌜g = lmx m ρ c k.val⌝ ∗ Ctx m ρ ∗ Inv m ρ k.val c : sProp 𝕄)
        ⊢ wp frame (wpE (defs₀ (F := F)) 𝒱₀ (c : Thread nD τ) none) Set.univ (k0_t1_body xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24 k g)
            (fun g' => iprop(⌜g' = lmx m ρ c (k.val + 1)⌝ ∗ Ctx m ρ ∗ Inv m ρ (k.val + 1) c)) := by
    intro k g
    iintro ⟨%hg, #HC, HI⟩
    subst hg
    iapply (trip_run m ρ c k v2 v13 v24 (lmx m ρ c k.val)) $$ [HI]
    · isplitr; · iexact HC
      iexact HI
    iintro HI
    isplitr; · ipureintro; rfl
    isplitr; · iexact HC
    iexact HI
  iapply (Scf.wp_for_bind frame (wpE (defs₀ (F := F)) 𝒱₀ (c : Thread nD τ) none) Set.univ k0_t1_loop.lb k0_t1_loop.ub k0_t1_loop.st k0_t1_ok (Scalar.ofBits .f32 0x00000000#32 : F .f32)
    (k0_t1_body xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24)
    (fun p g => iprop(⌜g = lmx m ρ c p⌝ ∗ Ctx m ρ ∗ Inv m ρ p c)) hb) $$ [HI]
  · isplitr; · ipureintro; rfl
    isplitr; · iexact HC
    iexact HI
  iintro %g ⟨%hg, -, HI⟩
  have hg' : g = lmx m ρ c 4 := hg.trans (congrArg (lmx m ρ c) (by decide))
  subst hg'
  iapply Hk
  ihave HI := (show (Inv m ρ k0_t1_loop.trips c : sProp 𝕄) ⊢ Inv m ρ 4 c from Entails.of_eq (congrArg (fun p => Inv m ρ p c) (by decide))) $$ HI
  iapply (Inv_last m ρ c) $$ HI

end

set_option maxHeartbeats 1000000 in
theorem part26_run (c : Dev nD)  {Φ : (PUnit) → sProp (MT nD τ sig ℕ (Elt F) ℕ UU ℕ)} :
    iprop(Ctx m ρ ∗ XH m ρ fullShare.left c ∗ stA 0 c ∗ lv0 0 c ∗ XH m ρ fullShare.right c ∗ stA 1 c ∗ lv0 1 c ∗ Own 0 c ∗ XP m ρ (fun _ => False) c)
      ⊢ iprop(((XF m ρ 1 1 fullShare.right 1 c ∗ Own 0 c ∗ XP m ρ (fun d' => (fun _ => False) d' ∨ d' = 0) c ∗ XF m ρ 0 2 fullShare.left 0 c) -∗ Φ ⟨⟩)
        -∗ wp frame (wpE (defs₀ (F := F)) 𝒱₀ (c : Thread nD τ) none) Set.univ (k0_part26 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 ) Φ) := by
  simp only [k0_part26_eq_skeleton]
  unfold k0_part26_skel
  simp only [Prog.lift, Prog.bind_op, Prog.bind_ret, Prog.pure_eq_ret]
  iintro ⟨#HC, H1, H2, H3, H5, H6, H7, H9, H14⟩ Hk
  iapply (x_start m ρ 0 0 fullShare.left 0 c (by rfl) (by rfl)) $$ [H1 H2 H3]
  · isplitl [H1]; · iexact H1
    isplitl [H2]; · iexact H2
    iexact H3
  iintro H4
  iapply (x_start m ρ 1 1 fullShare.right 1 c (by rfl) (by rfl)) $$ [H5 H6 H7]
  · isplitl [H5]; · iexact H5
    isplitl [H6]; · iexact H6
    iexact H7
  iintro H8
  iapply (x_wait m ρ 0 c (by rfl) (by rfl)) $$ [H4 H9]
  · isplitr; · iexact HC
    isplitl [H4]; · iexact H4
    iexact H9
  iintro ⟨H10, H11, H12, H13⟩
  iapply (ldst_step c (s := 0)) $$ H10
  iintro H10
  iapply (putx_step m ρ c 0 (by rfl) (xtC_narrow m ρ c _)) $$ H14
  iintro H15
  ihave H16 := (stQ_any 0 c) $$ H10
  iapply (x_start m ρ 0 2 fullShare.left 0 c (by rfl) (by rfl)) $$ [H11 H16 H12]
  · isplitl [H11]; · iexact H11
    isplitl [H16]; · iexact H16
    iexact H12
  iintro H17
  iapply (ret_as c (b := ⟨⟩) (by rfl))
  iapply Hk
  isplitl [H8]; · iexact H8
  isplitl [H13]; · iexact H13
  isplitl [H15]; · iexact H15
  iexact H17

set_option maxHeartbeats 1000000 in
theorem part27_run (c : Dev nD)  {Φ : (PUnit) → sProp (MT nD τ sig ℕ (Elt F) ℕ UU ℕ)} :
    iprop(Ctx m ρ ∗ XF m ρ 1 1 fullShare.right 1 c ∗ Own 0 c ∗ XP m ρ (fun d' => (fun _ => False) d' ∨ d' = 0) c ∗ XF m ρ 0 2 fullShare.left 0 c)
      ⊢ iprop(((XF m ρ 1 3 fullShare.right 1 c ∗ XH m ρ fullShare.left c ∗ lv0 0 c ∗ Own 0 c ∗ XP m ρ (fun d' => (fun d' => (fun d' => (fun _ => False) d' ∨ d' = 0) d' ∨ d' = 1) d' ∨ d' = 2) c ∗ stA 0 c) -∗ Φ ⟨⟩)
        -∗ wp frame (wpE (defs₀ (F := F)) 𝒱₀ (c : Thread nD τ) none) Set.univ (k0_part27 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 ) Φ) := by
  simp only [k0_part27_eq_skeleton]
  unfold k0_part27_skel
  simp only [Prog.lift, Prog.bind_op, Prog.bind_ret, Prog.pure_eq_ret]
  iintro ⟨#HC, H1, H2, H7, H11⟩ Hk
  iapply (x_wait m ρ 1 c (by rfl) (by rfl)) $$ [H1 H2]
  · isplitr; · iexact HC
    isplitl [H1]; · iexact H1
    iexact H2
  iintro ⟨H3, H4, H5, H6⟩
  iapply (ldst_step c (s := 1)) $$ H3
  iintro H3
  iapply (putx_step m ρ c 1 (by rfl) (xtC_narrow m ρ c _)) $$ H7
  iintro H8
  ihave H9 := (stQ_any 1 c) $$ H3
  iapply (x_start m ρ 1 3 fullShare.right 1 c (by rfl) (by rfl)) $$ [H4 H9 H5]
  · isplitl [H4]; · iexact H4
    isplitl [H9]; · iexact H9
    iexact H5
  iintro H10
  iapply (x_wait m ρ 0 c (by rfl) (by rfl)) $$ [H11 H6]
  · isplitr; · iexact HC
    isplitl [H11]; · iexact H11
    iexact H6
  iintro ⟨H12, H13, H14, H15⟩
  iapply (ldst_step c (s := 0)) $$ H12
  iintro H12
  iapply (putx_step m ρ c 2 (by rfl) (xtC_narrow m ρ c _)) $$ H8
  iintro H16
  ihave H17 := (stQ_any 0 c) $$ H12
  iapply (ret_as c (b := ⟨⟩) (by rfl))
  iapply Hk
  isplitl [H10]; · iexact H10
  isplitl [H13]; · iexact H13
  isplitl [H14]; · iexact H14
  isplitl [H15]; · iexact H15
  isplitl [H16]; · iexact H16
  iexact H17

set_option maxHeartbeats 1000000 in
theorem part28_run (c : Dev nD)  {Φ : (PUnit) → sProp (MT nD τ sig ℕ (Elt F) ℕ UU ℕ)} :
    iprop(Ctx m ρ ∗ XF m ρ 1 3 fullShare.right 1 c ∗ Own 0 c ∗ XP m ρ (fun d' => (fun d' => (fun d' => (fun _ => False) d' ∨ d' = 0) d' ∨ d' = 1) d' ∨ d' = 2) c ∗ WH m ρ fullShare c ∗ stA 0 c ∗ lv0 0 c ∗ WP m ρ (fun _ => False) c)
      ⊢ iprop(((XH m ρ fullShare.right c ∗ lv0 1 c ∗ XP m ρ (fun d' => (fun d' => (fun d' => (fun d' => (fun _ => False) d' ∨ d' = 0) d' ∨ d' = 1) d' ∨ d' = 2) d' ∨ d' = 3) c ∗ stA 1 c ∗ WH m ρ fullShare c ∗ lv0 0 c ∗ Own 0 c ∗ WP m ρ (fun t' => (fun _ => False) t' ∨ t' = 0) c ∗ stA 0 c) -∗ Φ ⟨⟩)
        -∗ wp frame (wpE (defs₀ (F := F)) 𝒱₀ (c : Thread nD τ) none) Set.univ (k0_part28 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 ) Φ) := by
  simp only [k0_part28_eq_skeleton]
  unfold k0_part28_skel
  simp only [Prog.lift, Prog.bind_op, Prog.bind_ret, Prog.pure_eq_ret]
  iintro ⟨#HC, H1, H2, H7, H10, H11, H12, H18⟩ Hk
  iapply (x_wait m ρ 1 c (by rfl) (by rfl)) $$ [H1 H2]
  · isplitr; · iexact HC
    isplitl [H1]; · iexact H1
    iexact H2
  iintro ⟨H3, H4, H5, H6⟩
  iapply (ldst_step c (s := 1)) $$ H3
  iintro H3
  iapply (putx_step m ρ c 3 (by rfl) (xtC_narrow m ρ c _)) $$ H7
  iintro H8
  ihave H9 := (stQ_any 1 c) $$ H3
  iapply (w_start m ρ 0 0 fullShare 0 c (by rfl) (by rfl)) $$ [H10 H11 H12]
  · isplitl [H10]; · iexact H10
    isplitl [H11]; · iexact H11
    iexact H12
  iintro H13
  iapply (w_wait m ρ 0 c (by rfl) (by rfl)) $$ [H13 H6]
  · isplitr; · iexact HC
    isplitl [H13]; · iexact H13
    iexact H6
  iintro ⟨H14, H15, H16, H17⟩
  iapply (ldst_step c (s := 0)) $$ H14
  iintro H14
  iapply (putw_step m ρ c 0 (by rfl) (wtC_narrow m ρ c _)) $$ H18
  iintro H19
  ihave H20 := (stQ_any 0 c) $$ H14
  iapply (ret_as c (b := ⟨⟩) (by rfl))
  iapply Hk
  isplitl [H4]; · iexact H4
  isplitl [H5]; · iexact H5
  isplitl [H8]; · iexact H8
  isplitl [H9]; · iexact H9
  isplitl [H15]; · iexact H15
  isplitl [H16]; · iexact H16
  isplitl [H17]; · iexact H17
  isplitl [H19]; · iexact H19
  iexact H20

set_option maxHeartbeats 1000000 in
theorem part29_run (c : Dev nD) (v2 v13 v24 : BitVec 32) {Φ : (F .f32) → sProp (MT nD τ sig ℕ (Elt F) ℕ UU ℕ)} :
    iprop(Ctx m ρ ∗ WH m ρ fullShare c ∗ stA 1 c ∗ lv0 1 c ∗ Own 0 c ∗ WP m ρ (fun t' => (fun _ => False) t' ∨ t' = 0) c ∗ InvAt c ∗ lv0 0 c ∗ lv0 2 c ∗ lv0 3 c ∗ stA 0 c ∗ XP m ρ (fun d' => (fun d' => (fun d' => (fun d' => (fun _ => False) d' ∨ d' = 0) d' ∨ d' = 1) d' ∨ d' = 2) d' ∨ d' = 3) c)
      ⊢ iprop(((InvEnd m ρ c ∗ SI false 1 4 c ∗ SI false 2 4 c ∗ SI false 3 4 c ∗ SI false 4 4 c ∗ SI false 5 4 c ∗ SI true 0 4 c ∗ SI true 1 4 c ∗ SI true 2 4 c ∗ SI true 3 4 c ∗ SI true 4 4 c ∗ SI true 5 4 c ∗ lv0 0 c ∗ lv0 1 c ∗ lv0 2 c ∗ lv0 3 c ∗ stA 0 c ∗ stA 1 c ∗ WH m ρ fullShare c ∗ slotA (sM false) 0 c ∗ SR false 0 4 c ∗ Own 48 c) -∗ Φ (lmx m ρ c 4))
        -∗ wp frame (wpE (defs₀ (F := F)) 𝒱₀ (c : Thread nD τ) none) Set.univ (k0_part29 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v13 v24) Φ) := by
  simp only [k0_part29_eq_skeleton]
  unfold k0_part29_skel
  simp only [Prog.lift, Prog.bind_op, Prog.bind_ret, Prog.pure_eq_ret]
  iintro ⟨#HC, H1, H2, H3, H5, H10, H13, H14, H15, H16, H17, H18⟩ Hk
  iapply (w_start m ρ 1 4 fullShare 1 c (by rfl) (by rfl)) $$ [H1 H2 H3]
  · isplitl [H1]; · iexact H1
    isplitl [H2]; · iexact H2
    iexact H3
  iintro H4
  iapply (w_wait m ρ 1 c (by rfl) (by rfl)) $$ [H4 H5]
  · isplitr; · iexact HC
    isplitl [H4]; · iexact H4
    iexact H5
  iintro ⟨H6, H7, H8, H9⟩
  iapply (ldst_step c (s := 1)) $$ H6
  iintro H6
  iapply (putw_step m ρ c 4 (by rfl) (wtC_narrow m ρ c _)) $$ H10
  iintro H11
  ihave H12 := (stQ_any 1 c) $$ H6
  ihave H11 := (WP_mono m ρ (P' := fun t => t.val % 4 ≤ 0) c (by decide)) $$ H11
  ihave H18 := (XP_all m ρ c (by decide)) $$ H18
  iapply (loop_run m ρ c v2 v13 v24) $$ [H18 H11 H13 H7 H14 H8 H15 H16 H17 H12 H9]
  · isplitr; · iexact HC
    isplitl [H13]; · iexact H13
    isplitl [H9]; · iexact H9
    isplitl [H18]; · iexact H18
    isplitl [H11]; · iexact H11
    isplitl [H7]; · iexact H7
    isplitl [H14]; · iexact H14
    isplitl [H8]; · iexact H8
    isplitl [H15]; · iexact H15
    isplitl [H16]; · iexact H16
    isplitl [H17]; · iexact H17
    iexact H12
  iintro ⟨H20, H21, H22, H23, H24, H25, H26, H27, H28, H29, H30, H31, H32, H33, H34, H35, H36, H37, H38, H39, H19⟩
  iapply (swait_step m ρ false 0 (p := 3) (by decide) c (by rfl) (by rfl)) $$ [H20 H39]
  · isplitr; · iexact HC
    isplitl [H20]; · iexact H20
    iexact H39
  iintro ⟨H40, H41, H42⟩
  iapply (ret_as c (b := (lmx m ρ c 4)) (by rfl))
  iapply Hk
  isplitl [H19]; · iexact H19
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H40]; · iexact H40
  isplitl [H41]; · iexact H41
  iexact H42

end Cert.TwoRings

end
-- ==== Proof.Finish.lean ====
/-
The stretches of the body after the last trip: the maxima exchanged, the tiles rounded.
-/
module

public import proofs.«01_k».proof.Proof.Start

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- What a final tile is: a value scaled, rounded to an integer and scaled back. -/
def qz (a b : F .f32) (Y : FVec F S1024x1024 .f32) : FVec F S1024x1024 .f32 :=
  mulf (roundeven (mulf Y (broadcast S1024x1024 b))) (broadcast S1024x1024 a)
/-- Tile `t` of device `c`'s result. -/
def qtT (c : Dev nD) (t : Fin 8) : FVec F S1024x1024 .f32 :=
  qz (k0_pay44 (lmx m ρ c 4) (amR m ρ c)) (k0_pay45 (lmx m ρ c 4) (amR m ρ c)) (otT m ρ c t)

theorem pay42_eq (c : Dev nD) : k0_pay42 (lmx m ρ c 4) = amx m ρ c := by
  exact shapeCast_self (broadcast S8x128 (lmx m ρ c 4)) _

set_option maxHeartbeats 1000000 in
theorem part30_run (c : Dev nD)  {Φ : (PUnit) → sProp (MT nD τ sig ℕ (Elt F) ℕ UU ℕ)} :
    iprop(Ctx m ρ ∗ SI false 2 4 c ∗ Own 48 c ∗ SI false 4 4 c ∗ SI true 0 4 c)
      ⊢ iprop(((slotA (sM false) 2 c ∗ SR false 2 4 c ∗ slotA (sM false) 4 c ∗ SR false 4 4 c ∗ slotA (sM true) 0 c ∗ SR true 0 4 c ∗ Own 48 c) -∗ Φ ⟨⟩)
        -∗ wp frame (wpE (defs₀ (F := F)) 𝒱₀ (c : Thread nD τ) none) Set.univ (k0_part30 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 ) Φ) := by
  simp only [k0_part30_eq_skeleton]
  unfold k0_part30_skel
  simp only [Prog.lift, Prog.bind_op, Prog.bind_ret, Prog.pure_eq_ret]
  iintro ⟨#HC, H1, H2, H6, H10⟩ Hk
  iapply (swait_step m ρ false 2 (p := 3) (by decide) c (by rfl) (by rfl)) $$ [H1 H2]
  · isplitr; · iexact HC
    isplitl [H1]; · iexact H1
    iexact H2
  iintro ⟨H3, H4, H5⟩
  iapply (swait_step m ρ false 4 (p := 3) (by decide) c (by rfl) (by rfl)) $$ [H6 H5]
  · isplitr; · iexact HC
    isplitl [H6]; · iexact H6
    iexact H5
  iintro ⟨H7, H8, H9⟩
  iapply (swait_step m ρ true 0 (p := 3) (by decide) c (by rfl) (by rfl)) $$ [H10 H9]
  · isplitr; · iexact HC
    isplitl [H10]; · iexact H10
    iexact H9
  iintro ⟨H11, H12, H13⟩
  iapply (ret_as c (b := ⟨⟩) (by rfl))
  iapply Hk
  isplitl [H3]; · iexact H3
  isplitl [H4]; · iexact H4
  isplitl [H7]; · iexact H7
  isplitl [H8]; · iexact H8
  isplitl [H11]; · iexact H11
  isplitl [H12]; · iexact H12
  iexact H13

set_option maxHeartbeats 1000000 in
theorem part31_run (c : Dev nD)  {Φ : (PUnit) → sProp (MT nD τ sig ℕ (Elt F) ℕ UU ℕ)} :
    iprop(Ctx m ρ ∗ SI true 2 4 c ∗ Own 48 c ∗ SI true 4 4 c ∗ SI false 1 4 c ∗ SI false 3 4 c)
      ⊢ iprop(((slotA (sM true) 2 c ∗ SR true 2 4 c ∗ slotA (sM true) 4 c ∗ SR true 4 4 c ∗ slotA (sM false) 1 c ∗ SR false 1 4 c ∗ slotA (sM false) 3 c ∗ SR false 3 4 c ∗ Own 48 c) -∗ Φ ⟨⟩)
        -∗ wp frame (wpE (defs₀ (F := F)) 𝒱₀ (c : Thread nD τ) none) Set.univ (k0_part31 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 ) Φ) := by
  simp only [k0_part31_eq_skeleton]
  unfold k0_part31_skel
  simp only [Prog.lift, Prog.bind_op, Prog.bind_ret, Prog.pure_eq_ret]
  iintro ⟨#HC, H1, H2, H6, H10, H14⟩ Hk
  iapply (swait_step m ρ true 2 (p := 3) (by decide) c (by rfl) (by rfl)) $$ [H1 H2]
  · isplitr; · iexact HC
    isplitl [H1]; · iexact H1
    iexact H2
  iintro ⟨H3, H4, H5⟩
  iapply (swait_step m ρ true 4 (p := 3) (by decide) c (by rfl) (by rfl)) $$ [H6 H5]
  · isplitr; · iexact HC
    isplitl [H6]; · iexact H6
    iexact H5
  iintro ⟨H7, H8, H9⟩
  iapply (swait_step m ρ false 1 (p := 3) (by decide) c (by rfl) (by rfl)) $$ [H10 H9]
  · isplitr; · iexact HC
    isplitl [H10]; · iexact H10
    iexact H9
  iintro ⟨H11, H12, H13⟩
  iapply (swait_step m ρ false 3 (p := 3) (by decide) c (by rfl) (by rfl)) $$ [H14 H13]
  · isplitr; · iexact HC
    isplitl [H14]; · iexact H14
    iexact H13
  iintro ⟨H15, H16, H17⟩
  iapply (ret_as c (b := ⟨⟩) (by rfl))
  iapply Hk
  isplitl [H3]; · iexact H3
  isplitl [H4]; · iexact H4
  isplitl [H7]; · iexact H7
  isplitl [H8]; · iexact H8
  isplitl [H11]; · iexact H11
  isplitl [H12]; · iexact H12
  isplitl [H15]; · iexact H15
  isplitl [H16]; · iexact H16
  iexact H17

set_option maxHeartbeats 1000000 in
theorem part32_run (c : Dev nD)  {Φ : (PUnit) → sProp (MT nD τ sig ℕ (Elt F) ℕ UU ℕ)} :
    iprop(Ctx m ρ ∗ SI false 5 4 c ∗ Own 48 c ∗ SI true 1 4 c ∗ SI true 3 4 c ∗ SI true 5 4 c ∗ asA c)
      ⊢ iprop(((slotA (sM false) 5 c ∗ SR false 5 4 c ∗ slotA (sM true) 1 c ∗ SR true 1 4 c ∗ slotA (sM true) 3 c ∗ SR true 3 4 c ∗ slotA (sM true) 5 c ∗ SR true 5 4 c ∗ Own 48 c ∗ owns (c : Thread nD τ) asM fullShare (amx m ρ c)) -∗ Φ ⟨⟩)
        -∗ wp frame (wpE (defs₀ (F := F)) 𝒱₀ (c : Thread nD τ) none) Set.univ (k0_part32 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (lmx m ρ c 4)) Φ) := by
  simp only [k0_part32_eq_skeleton]
  unfold k0_part32_skel
  simp only [Prog.lift, Prog.bind_op, Prog.bind_ret, Prog.pure_eq_ret]
  iintro ⟨#HC, H1, H2, H6, H10, H14, H18⟩ Hk
  iapply (swait_step m ρ false 5 (p := 3) (by decide) c (by rfl) (by rfl)) $$ [H1 H2]
  · isplitr; · iexact HC
    isplitl [H1]; · iexact H1
    iexact H2
  iintro ⟨H3, H4, H5⟩
  iapply (swait_step m ρ true 1 (p := 3) (by decide) c (by rfl) (by rfl)) $$ [H6 H5]
  · isplitr; · iexact HC
    isplitl [H6]; · iexact H6
    iexact H5
  iintro ⟨H7, H8, H9⟩
  iapply (swait_step m ρ true 3 (p := 3) (by decide) c (by rfl) (by rfl)) $$ [H10 H9]
  · isplitr; · iexact HC
    isplitl [H10]; · iexact H10
    iexact H9
  iintro ⟨H11, H12, H13⟩
  iapply (swait_step m ρ true 5 (p := 3) (by decide) c (by rfl) (by rfl)) $$ [H14 H13]
  · isplitr; · iexact HC
    isplitl [H14]; · iexact H14
    iexact H13
  iintro ⟨H15, H16, H17⟩
  iapply (puta_step m ρ c (pay42_eq m ρ c)) $$ H18
  iintro H19
  iapply (ret_as c (b := ⟨⟩) (by rfl))
  iapply Hk
  isplitl [H3]; · iexact H3
  isplitl [H4]; · iexact H4
  isplitl [H7]; · iexact H7
  isplitl [H8]; · iexact H8
  isplitl [H11]; · iexact H11
  isplitl [H12]; · iexact H12
  isplitl [H15]; · iexact H15
  isplitl [H16]; · iexact H16
  isplitl [H17]; · iexact H17
  iexact H19

set_option maxHeartbeats 1000000 in
theorem part33_run (c : Dev nD) (v2 : BitVec 32) {Φ : (Σ' (_ : BitVec 32), BitVec 32) → sProp (MT nD τ sig ℕ (Elt F) ℕ UU ℕ)} :
    iprop(Ctx m ρ ∗ owns (c : Thread nD τ) asM fullShare (amx m ρ c) ∗ AS 0 c ∗ arA 0 (adst 0 c) ∗ Own 48 c)
      ⊢ iprop((∀ r1 : BitVec 32, ∀ r2 : BitVec 32, (asnPay m ρ 1 c ∗ asnPay m ρ 2 c ∗ AT 0 c ∗ Own 49 c) -∗ Φ ⟨r1, r2⟩)
        -∗ wp frame (wpE (defs₀ (F := F)) 𝒱₀ (c : Thread nD τ) none) Set.univ (k0_part33 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2) Φ) := by
  simp only [k0_part33_eq_skeleton]
  unfold k0_part33_skel
  simp only [Prog.lift, Prog.bind_op, Prog.bind_ret, Prog.pure_eq_ret]
  iintro ⟨#HC, H1, H5, H6, H7⟩ Hk
  ihave H1 := (ash_cut c (amx m ρ c)) $$ H1
  icases H1 with ⟨H2, H3, H4⟩
  ihave H2 := (show (owns (c : Thread nD τ) asM (ash 0) (amx m ρ c) : sProp 𝕄) ⊢ asnPay m ρ 0 c from .rfl) $$ H2
  ihave H3 := (show (owns (c : Thread nD τ) asM (ash 1) (amx m ρ c) : sProp 𝕄) ⊢ asnPay m ρ 1 c from .rfl) $$ H3
  ihave H4 := (show (owns (c : Thread nD τ) asM (ash 2) (amx m ρ c) : sProp 𝕄) ⊢ asnPay m ρ 2 c from .rfl) $$ H4
  iapply (asend_step m ρ 0 (n0 := 48) (n1 := 49) c _ (by rfl) (by rfl) (by revert c; decide) (by rfl) (by rfl)) $$ [H2 H5 H6 H7]
  · isplitr; · iexact HC
    isplitl [H2]; · iexact H2
    isplitl [H5]; · iexact H5
    isplitl [H6]; · iexact H6
    iexact H7
  iintro ⟨H8, H9⟩
  rw [wp_ret]
  imodintro
  iapply Hk
  isplitl [H3]; · iexact H3
  isplitl [H4]; · iexact H4
  isplitl [H8]; · iexact H8
  iexact H9

set_option maxHeartbeats 1000000 in
theorem part34_run (c : Dev nD) (v2 v214 : BitVec 32) {Φ : (BitVec 32) → sProp (MT nD τ sig ℕ (Elt F) ℕ UU ℕ)} :
    iprop(Ctx m ρ ∗ asnPay m ρ 1 c ∗ AS 1 c ∗ arA 1 (adst 1 c) ∗ Own 49 c ∗ asnPay m ρ 2 c ∗ AS 2 c ∗ arA 2 (adst 2 c) ∗ AT 0 c)
      ⊢ iprop((∀ r1 : BitVec 32, (AT 1 c ∗ AT 2 c ∗ asnPay m ρ 0 c ∗ atPos ER (ascell 0 c) 1 ∅ 0 ∗ Own 51 c) -∗ Φ r1)
        -∗ wp frame (wpE (defs₀ (F := F)) 𝒱₀ (c : Thread nD τ) none) Set.univ (k0_part34 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 c v2 v214) Φ) := by
  simp only [k0_part34_eq_skeleton]
  unfold k0_part34_skel
  simp only [Prog.lift, Prog.bind_op, Prog.bind_ret, Prog.pure_eq_ret]
  iintro ⟨#HC, H1, H2, H3, H4, H7, H8, H9, H12⟩ Hk
  iapply (asend_step m ρ 1 (n0 := 49) (n1 := 50) c _ (by rfl) (by rfl) (by revert c; decide) (by rfl) (by rfl)) $$ [H1 H2 H3 H4]
  · isplitr; · iexact HC
    isplitl [H1]; · iexact H1
    isplitl [H2]; · iexact H2
    isplitl [H3]; · iexact H3
    iexact H4
  iintro ⟨H5, H6⟩
  iapply (asend_step m ρ 2 (n0 := 50) (n1 := 51) c _ (by rfl) (by rfl) (by revert c; decide) (by rfl) (by rfl)) $$ [H7 H8 H9 H6]
  · isplitr; · iexact HC
    isplitl [H7]; · iexact H7
    isplitl [H8]; · iexact H8
    isplitl [H9]; · iexact H9
    iexact H6
  iintro ⟨H10, H11⟩
  iapply (aswait_step m ρ 0 c (by rfl) (by rfl)) $$ [H12 H11]
  · isplitr; · iexact HC
    isplitl [H12]; · iexact H12
    iexact H11
  iintro ⟨H13, H14, H15⟩
  rw [wp_ret]
  imodintro
  iapply Hk
  isplitl [H5]; · iexact H5
  isplitl [H10]; · iexact H10
  isplitl [H13]; · iexact H13
  isplitl [H14]; · iexact H14
  iexact H15

set_option maxHeartbeats 1000000 in
theorem part35_run (c : Dev nD) (v233 v252 : BitVec 32) {Φ : (PUnit) → sProp (MT nD τ sig ℕ (Elt F) ℕ UU ℕ)} :
    iprop(Ctx m ρ ∗ AR 0 c ∗ Own 51 c ∗ AT 1 c ∗ AR 1 c ∗ AT 2 c ∗ AR 2 c ∗ asnPay m ρ 0 c)
      ⊢ iprop(((atPos ER (arcell 0 c) 1 ∅ 0 ∗ atPos ER (ascell 1 c) 1 ∅ 0 ∗ atPos ER (arcell 1 c) 1 ∅ 0 ∗ atPos ER (ascell 2 c) 1 ∅ 0 ∗ atPos ER (arcell 2 c) 1 ∅ 0 ∗ Own 51 c ∗ owns (c : Thread nD τ) asM fullShare (amx m ρ c) ∗ owns (c : Thread nD τ) arM fullShare (amR m ρ c)) -∗ Φ ⟨⟩)
        -∗ wp frame (wpE (defs₀ (F := F)) 𝒱₀ (c : Thread nD τ) none) Set.univ (k0_part35 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 v233 v252) Φ) := by
  simp only [k0_part35_eq_skeleton]
  unfold k0_part35_skel
  simp only [Prog.lift, Prog.bind_op, Prog.bind_ret, Prog.pure_eq_ret]
  iintro ⟨#HC, H1, H2, H6, H10, H14, H18, H22⟩ Hk
  iapply (arwait_step m ρ 0 c (by rfl) (by rfl)) $$ [H1 H2]
  · isplitr; · iexact HC
    isplitl [H1]; · iexact H1
    iexact H2
  iintro ⟨H3, H4, H5⟩
  iapply (aswait_step m ρ 1 c (by rfl) (by rfl)) $$ [H6 H5]
  · isplitr; · iexact HC
    isplitl [H6]; · iexact H6
    iexact H5
  iintro ⟨H7, H8, H9⟩
  iapply (arwait_step m ρ 1 c (by rfl) (by rfl)) $$ [H10 H9]
  · isplitr; · iexact HC
    isplitl [H10]; · iexact H10
    iexact H9
  iintro ⟨H11, H12, H13⟩
  iapply (aswait_step m ρ 2 c (by rfl) (by rfl)) $$ [H14 H13]
  · isplitr; · iexact HC
    isplitl [H14]; · iexact H14
    iexact H13
  iintro ⟨H15, H16, H17⟩
  iapply (arwait_step m ρ 2 c (by rfl) (by rfl)) $$ [H18 H17]
  · isplitr; · iexact HC
    isplitl [H18]; · iexact H18
    iexact H17
  iintro ⟨H19, H20, H21⟩
  ihave H23 := (show iprop(asnPay m ρ 0 c ∗ asnPay m ρ 1 c ∗ asnPay m ρ 2 c : sProp 𝕄) ⊢ owns (c : Thread nD τ) asM fullShare (amx m ρ c) from ash_back c (amx m ρ c)) $$ [H22 H7 H15]
  · isplitl [H22]; · iexact H22
    isplitl [H7]; · iexact H7
    iexact H15
  ihave H24 := (rows_joined m ρ c) $$ [H3 H11 H19]
  · isplitl [H3]; · iexact H3
    isplitl [H11]; · iexact H11
    iexact H19
  iapply (ret_as c (b := ⟨⟩) (by rfl))
  iapply Hk
  isplitl [H4]; · iexact H4
  isplitl [H8]; · iexact H8
  isplitl [H12]; · iexact H12
  isplitl [H16]; · iexact H16
  isplitl [H20]; · iexact H20
  isplitl [H21]; · iexact H21
  isplitl [H23]; · iexact H23
  iexact H24

set_option maxHeartbeats 1000000 in
theorem part36_run (c : Dev nD)  {Φ : (Σ' (_ : F .f32) (_ : F .f32), FVec F S1024x1024 .f32) → sProp (MT nD τ sig ℕ (Elt F) ℕ UU ℕ)} :
    iprop(Ctx m ρ ∗ owns (c : Thread nD τ) arM fullShare (amR m ρ c) ∗ oQ 0 c (otT m ρ c 0) ∗ stA 0 c ∗ lv0 0 c ∗ oQ 1 c (otT m ρ c 1) ∗ stA 1 c ∗ lv0 1 c ∗ Own 51 c)
      ⊢ iprop(((owns (c : Thread nD τ) arM fullShare (amR m ρ c) ∗ IF 1 1 1 c (otT m ρ c 1) ∗ stQ 0 c (otT m ρ c 0) ∗ oA 0 c ∗ lv0 0 c ∗ Own 51 c) -∗ Φ ⟨(k0_pay44 (lmx m ρ c 4) (amR m ρ c)), (k0_pay45 (lmx m ρ c 4) (amR m ρ c)), (k0_pay46 (lmx m ρ c 4) (amR m ρ c) (shapeCast S1x1024x1024 (otT m ρ c 0) shapeCasts_S1024x1024_S1x1024x1024))⟩)
        -∗ wp frame (wpE (defs₀ (F := F)) 𝒱₀ (c : Thread nD τ) none) Set.univ (k0_part36 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (lmx m ρ c 4)) Φ) := by
  simp only [k0_part36_eq_skeleton]
  unfold k0_part36_skel
  simp only [Prog.lift, Prog.bind_op, Prog.bind_ret, Prog.pure_eq_ret]
  iintro ⟨#HC, H1, H2, H3, H4, H6, H7, H8, H10⟩ Hk
  iapply (loadar_step c) $$ H1
  iintro H1
  iapply (i_start 0 0 0 c (otT m ρ c 0) (by rfl) (by rfl)) $$ [H2 H3 H4]
  · isplitl [H2]; · iexact H2
    isplitl [H3]; · iexact H3
    iexact H4
  iintro H5
  iapply (i_start 1 1 1 c (otT m ρ c 1) (by rfl) (by rfl)) $$ [H6 H7 H8]
  · isplitl [H6]; · iexact H6
    isplitl [H7]; · iexact H7
    iexact H8
  iintro H9
  iapply (i_wait m ρ 0 c (by rfl) (by rfl)) $$ [H5 H10]
  · isplitr; · iexact HC
    isplitl [H5]; · iexact H5
    iexact H10
  iintro ⟨H11, H12, H13, H14⟩
  iapply (ldst_step c (s := 0)) $$ H11
  iintro H11
  iapply (ret_as c (b := ⟨(k0_pay44 (lmx m ρ c 4) (amR m ρ c)), (k0_pay45 (lmx m ρ c 4) (amR m ρ c)), (k0_pay46 (lmx m ρ c 4) (amR m ρ c) (shapeCast S1x1024x1024 (otT m ρ c 0) shapeCasts_S1024x1024_S1x1024x1024))⟩) (by rfl))
  iapply Hk
  isplitl [H1]; · iexact H1
  isplitl [H9]; · iexact H9
  isplitl [H11]; · iexact H11
  isplitl [H12]; · iexact H12
  isplitl [H13]; · iexact H13
  iexact H14

set_option maxHeartbeats 1000000 in
theorem part37_run (c : Dev nD)  {Φ : (FVec F S1024x1024 .f32) → sProp (MT nD τ sig ℕ (Elt F) ℕ UU ℕ)} :
    iprop(Ctx m ρ ∗ stQ 0 c (otT m ρ c 0) ∗ oA 0 c ∗ lv0 2 c ∗ Own 51 c ∗ oQ 2 c (otT m ρ c 2) ∗ lv0 0 c ∗ IF 1 1 1 c (otT m ρ c 1))
      ⊢ iprop(((oQ 0 c (qtT m ρ c 0) ∗ lv0 2 c ∗ IF 0 2 0 c (otT m ρ c 2) ∗ stQ 1 c (otT m ρ c 1) ∗ oA 1 c ∗ lv0 1 c ∗ Own 51 c) -∗ Φ (k0_pay48 (k0_pay45 (lmx m ρ c 4) (amR m ρ c)) (shapeCast S1x1024x1024 (otT m ρ c 1) shapeCasts_S1024x1024_S1x1024x1024)))
        -∗ wp frame (wpE (defs₀ (F := F)) 𝒱₀ (c : Thread nD τ) none) Set.univ (k0_part37 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay45 (lmx m ρ c 4) (amR m ρ c)) (k0_pay46 (lmx m ρ c 4) (amR m ρ c) (shapeCast S1x1024x1024 (otT m ρ c 0) shapeCasts_S1024x1024_S1x1024x1024))) Φ) := by
  simp only [k0_part37_eq_skeleton]
  unfold k0_part37_skel
  simp only [Prog.lift, Prog.bind_op, Prog.bind_ret, Prog.pure_eq_ret]
  iintro ⟨#HC, H1, H3, H4, H6, H11, H12, H14⟩ Hk
  ihave H1 := (stQ_any 0 c) $$ H1
  iapply (putst_step c (s := 0) (qtT m ρ c 0) (by unfold k0_pay47 k0_pay46; simp only [cast_there_back]; rfl)) $$ H1
  iintro H2
  iapply (o_start 0 0 2 c (qtT m ρ c 0) (by rfl) (by rfl)) $$ [H2 H3 H4]
  · isplitl [H2]; · iexact H2
    isplitl [H3]; · iexact H3
    iexact H4
  iintro H5
  iapply (o_wait m ρ 2 c (by rfl) (by rfl)) $$ [H5 H6]
  · isplitr; · iexact HC
    isplitl [H5]; · iexact H5
    iexact H6
  iintro ⟨H7, H8, H9, H10⟩
  iapply (i_start 0 2 0 c (otT m ρ c 2) (by rfl) (by rfl)) $$ [H11 H7 H12]
  · isplitl [H11]; · iexact H11
    isplitl [H7]; · iexact H7
    iexact H12
  iintro H13
  iapply (i_wait m ρ 1 c (by rfl) (by rfl)) $$ [H14 H10]
  · isplitr; · iexact HC
    isplitl [H14]; · iexact H14
    iexact H10
  iintro ⟨H15, H16, H17, H18⟩
  iapply (ldst_step c (s := 1)) $$ H15
  iintro H15
  iapply (ret_as c (b := (k0_pay48 (k0_pay45 (lmx m ρ c 4) (amR m ρ c)) (shapeCast S1x1024x1024 (otT m ρ c 1) shapeCasts_S1024x1024_S1x1024x1024))) (by rfl))
  iapply Hk
  isplitl [H8]; · iexact H8
  isplitl [H9]; · iexact H9
  isplitl [H13]; · iexact H13
  isplitl [H15]; · iexact H15
  isplitl [H16]; · iexact H16
  isplitl [H17]; · iexact H17
  iexact H18

set_option maxHeartbeats 1000000 in
theorem part38_run (c : Dev nD)  {Φ : (PUnit) → sProp (MT nD τ sig ℕ (Elt F) ℕ UU ℕ)} :
    iprop(Ctx m ρ ∗ stQ 1 c (otT m ρ c 1) ∗ oA 1 c ∗ lv0 3 c ∗ Own 51 c ∗ oQ 3 c (otT m ρ c 3) ∗ lv0 1 c ∗ IF 0 2 0 c (otT m ρ c 2))
      ⊢ iprop(((oQ 1 c (qtT m ρ c 1) ∗ lv0 3 c ∗ IF 1 3 1 c (otT m ρ c 3) ∗ stQ 0 c (otT m ρ c 2) ∗ oA 2 c ∗ lv0 0 c ∗ Own 51 c) -∗ Φ ⟨⟩)
        -∗ wp frame (wpE (defs₀ (F := F)) 𝒱₀ (c : Thread nD τ) none) Set.univ (k0_part38 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay48 (k0_pay45 (lmx m ρ c 4) (amR m ρ c)) (shapeCast S1x1024x1024 (otT m ρ c 1) shapeCasts_S1024x1024_S1x1024x1024))) Φ) := by
  simp only [k0_part38_eq_skeleton]
  unfold k0_part38_skel
  simp only [Prog.lift, Prog.bind_op, Prog.bind_ret, Prog.pure_eq_ret]
  iintro ⟨#HC, H1, H3, H4, H6, H11, H12, H14⟩ Hk
  ihave H1 := (stQ_any 1 c) $$ H1
  iapply (putst_step c (s := 1) (qtT m ρ c 1) (by unfold k0_pay49 k0_pay48; simp only [cast_there_back]; rfl)) $$ H1
  iintro H2
  iapply (o_start 1 1 3 c (qtT m ρ c 1) (by rfl) (by rfl)) $$ [H2 H3 H4]
  · isplitl [H2]; · iexact H2
    isplitl [H3]; · iexact H3
    iexact H4
  iintro H5
  iapply (o_wait m ρ 3 c (by rfl) (by rfl)) $$ [H5 H6]
  · isplitr; · iexact HC
    isplitl [H5]; · iexact H5
    iexact H6
  iintro ⟨H7, H8, H9, H10⟩
  iapply (i_start 1 3 1 c (otT m ρ c 3) (by rfl) (by rfl)) $$ [H11 H7 H12]
  · isplitl [H11]; · iexact H11
    isplitl [H7]; · iexact H7
    iexact H12
  iintro H13
  iapply (i_wait m ρ 0 c (by rfl) (by rfl)) $$ [H14 H10]
  · isplitr; · iexact HC
    isplitl [H14]; · iexact H14
    iexact H10
  iintro ⟨H15, H16, H17, H18⟩
  iapply (ret_as c (b := ⟨⟩) (by rfl))
  iapply Hk
  isplitl [H8]; · iexact H8
  isplitl [H9]; · iexact H9
  isplitl [H13]; · iexact H13
  isplitl [H15]; · iexact H15
  isplitl [H16]; · iexact H16
  isplitl [H17]; · iexact H17
  iexact H18

set_option maxHeartbeats 1000000 in
theorem part39_run (c : Dev nD)  {Φ : (PUnit) → sProp (MT nD τ sig ℕ (Elt F) ℕ UU ℕ)} :
    iprop(Ctx m ρ ∗ stQ 0 c (otT m ρ c 2) ∗ oA 2 c ∗ lv0 2 c ∗ Own 51 c ∗ oQ 4 c (otT m ρ c 4) ∗ lv0 0 c)
      ⊢ iprop(((oQ 2 c (qtT m ρ c 2) ∗ lv0 2 c ∗ Own 51 c ∗ IF 0 4 0 c (otT m ρ c 4)) -∗ Φ ⟨⟩)
        -∗ wp frame (wpE (defs₀ (F := F)) 𝒱₀ (c : Thread nD τ) none) Set.univ (k0_part39 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay45 (lmx m ρ c 4) (amR m ρ c))) Φ) := by
  simp only [k0_part39_eq_skeleton]
  unfold k0_part39_skel
  simp only [Prog.lift, Prog.bind_op, Prog.bind_ret, Prog.pure_eq_ret]
  iintro ⟨#HC, H1, H3, H4, H6, H11, H12⟩ Hk
  iapply (ldst_step c (s := 0)) $$ H1
  iintro H1
  ihave H1 := (stQ_any 0 c) $$ H1
  iapply (putst_step c (s := 0) (qtT m ρ c 2) (by unfold k0_pay50; simp only [cast_there_back]; rfl)) $$ H1
  iintro H2
  iapply (o_start 0 2 2 c (qtT m ρ c 2) (by rfl) (by rfl)) $$ [H2 H3 H4]
  · isplitl [H2]; · iexact H2
    isplitl [H3]; · iexact H3
    iexact H4
  iintro H5
  iapply (o_wait m ρ 2 c (by rfl) (by rfl)) $$ [H5 H6]
  · isplitr; · iexact HC
    isplitl [H5]; · iexact H5
    iexact H6
  iintro ⟨H7, H8, H9, H10⟩
  iapply (i_start 0 4 0 c (otT m ρ c 4) (by rfl) (by rfl)) $$ [H11 H7 H12]
  · isplitl [H11]; · iexact H11
    isplitl [H7]; · iexact H7
    iexact H12
  iintro H13
  iapply (ret_as c (b := ⟨⟩) (by rfl))
  iapply Hk
  isplitl [H8]; · iexact H8
  isplitl [H9]; · iexact H9
  isplitl [H10]; · iexact H10
  iexact H13

set_option maxHeartbeats 1000000 in
theorem part40_run (c : Dev nD)  {Φ : (PUnit) → sProp (MT nD τ sig ℕ (Elt F) ℕ UU ℕ)} :
    iprop(Ctx m ρ ∗ IF 1 3 1 c (otT m ρ c 3) ∗ Own 51 c ∗ lv0 3 c ∗ oQ 5 c (otT m ρ c 5))
      ⊢ iprop(((oQ 3 c (qtT m ρ c 3) ∗ lv0 3 c ∗ Own 51 c ∗ IF 1 5 1 c (otT m ρ c 5)) -∗ Φ ⟨⟩)
        -∗ wp frame (wpE (defs₀ (F := F)) 𝒱₀ (c : Thread nD τ) none) Set.univ (k0_part40 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay45 (lmx m ρ c 4) (amR m ρ c))) Φ) := by
  simp only [k0_part40_eq_skeleton]
  unfold k0_part40_skel
  simp only [Prog.lift, Prog.bind_op, Prog.bind_ret, Prog.pure_eq_ret]
  iintro ⟨#HC, H1, H2, H8, H14⟩ Hk
  iapply (i_wait m ρ 1 c (by rfl) (by rfl)) $$ [H1 H2]
  · isplitr; · iexact HC
    isplitl [H1]; · iexact H1
    iexact H2
  iintro ⟨H3, H4, H5, H6⟩
  iapply (ldst_step c (s := 1)) $$ H3
  iintro H3
  ihave H3 := (stQ_any 1 c) $$ H3
  iapply (putst_step c (s := 1) (qtT m ρ c 3) (by unfold k0_pay51; simp only [cast_there_back]; rfl)) $$ H3
  iintro H7
  iapply (o_start 1 3 3 c (qtT m ρ c 3) (by rfl) (by rfl)) $$ [H7 H4 H8]
  · isplitl [H7]; · iexact H7
    isplitl [H4]; · iexact H4
    iexact H8
  iintro H9
  iapply (o_wait m ρ 3 c (by rfl) (by rfl)) $$ [H9 H6]
  · isplitr; · iexact HC
    isplitl [H9]; · iexact H9
    iexact H6
  iintro ⟨H10, H11, H12, H13⟩
  iapply (i_start 1 5 1 c (otT m ρ c 5) (by rfl) (by rfl)) $$ [H14 H10 H5]
  · isplitl [H14]; · iexact H14
    isplitl [H10]; · iexact H10
    iexact H5
  iintro H15
  iapply (ret_as c (b := ⟨⟩) (by rfl))
  iapply Hk
  isplitl [H11]; · iexact H11
  isplitl [H12]; · iexact H12
  isplitl [H13]; · iexact H13
  iexact H15

set_option maxHeartbeats 1000000 in
theorem part41_run (c : Dev nD)  {Φ : (PUnit) → sProp (MT nD τ sig ℕ (Elt F) ℕ UU ℕ)} :
    iprop(Ctx m ρ ∗ IF 0 4 0 c (otT m ρ c 4) ∗ Own 51 c ∗ lv0 2 c ∗ oQ 6 c (otT m ρ c 6))
      ⊢ iprop(((oQ 4 c (qtT m ρ c 4) ∗ lv0 2 c ∗ Own 51 c ∗ IF 0 6 0 c (otT m ρ c 6)) -∗ Φ ⟨⟩)
        -∗ wp frame (wpE (defs₀ (F := F)) 𝒱₀ (c : Thread nD τ) none) Set.univ (k0_part41 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay45 (lmx m ρ c 4) (amR m ρ c))) Φ) := by
  simp only [k0_part41_eq_skeleton]
  unfold k0_part41_skel
  simp only [Prog.lift, Prog.bind_op, Prog.bind_ret, Prog.pure_eq_ret]
  iintro ⟨#HC, H1, H2, H8, H14⟩ Hk
  iapply (i_wait m ρ 0 c (by rfl) (by rfl)) $$ [H1 H2]
  · isplitr; · iexact HC
    isplitl [H1]; · iexact H1
    iexact H2
  iintro ⟨H3, H4, H5, H6⟩
  iapply (ldst_step c (s := 0)) $$ H3
  iintro H3
  ihave H3 := (stQ_any 0 c) $$ H3
  iapply (putst_step c (s := 0) (qtT m ρ c 4) (by unfold k0_pay52; simp only [cast_there_back]; rfl)) $$ H3
  iintro H7
  iapply (o_start 0 4 2 c (qtT m ρ c 4) (by rfl) (by rfl)) $$ [H7 H4 H8]
  · isplitl [H7]; · iexact H7
    isplitl [H4]; · iexact H4
    iexact H8
  iintro H9
  iapply (o_wait m ρ 2 c (by rfl) (by rfl)) $$ [H9 H6]
  · isplitr; · iexact HC
    isplitl [H9]; · iexact H9
    iexact H6
  iintro ⟨H10, H11, H12, H13⟩
  iapply (i_start 0 6 0 c (otT m ρ c 6) (by rfl) (by rfl)) $$ [H14 H10 H5]
  · isplitl [H14]; · iexact H14
    isplitl [H10]; · iexact H10
    iexact H5
  iintro H15
  iapply (ret_as c (b := ⟨⟩) (by rfl))
  iapply Hk
  isplitl [H11]; · iexact H11
  isplitl [H12]; · iexact H12
  isplitl [H13]; · iexact H13
  iexact H15

set_option maxHeartbeats 1000000 in
theorem part42_run (c : Dev nD)  {Φ : (PUnit) → sProp (MT nD τ sig ℕ (Elt F) ℕ UU ℕ)} :
    iprop(Ctx m ρ ∗ IF 1 5 1 c (otT m ρ c 5) ∗ Own 51 c ∗ lv0 3 c)
      ⊢ iprop(((lv0 1 c ∗ stA 1 c ∗ oQ 5 c (qtT m ρ c 5) ∗ lv0 3 c ∗ Own 51 c) -∗ Φ ⟨⟩)
        -∗ wp frame (wpE (defs₀ (F := F)) 𝒱₀ (c : Thread nD τ) none) Set.univ (k0_part42 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay45 (lmx m ρ c 4) (amR m ρ c))) Φ) := by
  simp only [k0_part42_eq_skeleton]
  unfold k0_part42_skel
  simp only [Prog.lift, Prog.bind_op, Prog.bind_ret, Prog.pure_eq_ret]
  iintro ⟨#HC, H1, H2, H8⟩ Hk
  iapply (i_wait m ρ 1 c (by rfl) (by rfl)) $$ [H1 H2]
  · isplitr; · iexact HC
    isplitl [H1]; · iexact H1
    iexact H2
  iintro ⟨H3, H4, H5, H6⟩
  iapply (ldst_step c (s := 1)) $$ H3
  iintro H3
  ihave H3 := (stQ_any 1 c) $$ H3
  iapply (putst_step c (s := 1) (qtT m ρ c 5) (by unfold k0_pay53; simp only [cast_there_back]; rfl)) $$ H3
  iintro H7
  iapply (o_start 1 5 3 c (qtT m ρ c 5) (by rfl) (by rfl)) $$ [H7 H4 H8]
  · isplitl [H7]; · iexact H7
    isplitl [H4]; · iexact H4
    iexact H8
  iintro H9
  iapply (o_wait m ρ 3 c (by rfl) (by rfl)) $$ [H9 H6]
  · isplitr; · iexact HC
    isplitl [H9]; · iexact H9
    iexact H6
  iintro ⟨H10, H11, H12, H13⟩
  iapply (ret_as c (b := ⟨⟩) (by rfl))
  iapply Hk
  isplitl [H5]; · iexact H5
  isplitl [H10]; · iexact H10
  isplitl [H11]; · iexact H11
  isplitl [H12]; · iexact H12
  iexact H13

set_option maxHeartbeats 1000000 in
theorem part43_run (c : Dev nD)  {Φ : (PUnit) → sProp (MT nD τ sig ℕ (Elt F) ℕ UU ℕ)} :
    iprop(Ctx m ρ ∗ oQ 7 c (otT m ρ c 7) ∗ stA 1 c ∗ lv0 1 c ∗ IF 0 6 0 c (otT m ρ c 6) ∗ Own 51 c ∗ lv0 2 c)
      ⊢ iprop(((lv0 0 c ∗ OF 0 6 2 c (qtT m ρ c 6) ∗ stQ 1 c (otT m ρ c 7) ∗ oA 7 c ∗ lv0 1 c ∗ Own 51 c) -∗ Φ ⟨⟩)
        -∗ wp frame (wpE (defs₀ (F := F)) 𝒱₀ (c : Thread nD τ) none) Set.univ (k0_part43 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16 (k0_pay44 (lmx m ρ c 4) (amR m ρ c)) (k0_pay45 (lmx m ρ c 4) (amR m ρ c))) Φ) := by
  simp only [k0_part43_eq_skeleton]
  unfold k0_part43_skel
  simp only [Prog.lift, Prog.bind_op, Prog.bind_ret, Prog.pure_eq_ret]
  iintro ⟨#HC, H1, H2, H3, H5, H6, H12⟩ Hk
  iapply (i_start 1 7 1 c (otT m ρ c 7) (by rfl) (by rfl)) $$ [H1 H2 H3]
  · isplitl [H1]; · iexact H1
    isplitl [H2]; · iexact H2
    iexact H3
  iintro H4
  iapply (i_wait m ρ 0 c (by rfl) (by rfl)) $$ [H5 H6]
  · isplitr; · iexact HC
    isplitl [H5]; · iexact H5
    iexact H6
  iintro ⟨H7, H8, H9, H10⟩
  iapply (ldst_step c (s := 0)) $$ H7
  iintro H7
  ihave H7 := (stQ_any 0 c) $$ H7
  iapply (putst_step c (s := 0) (qtT m ρ c 6) (by unfold k0_pay54; simp only [cast_there_back]; rfl)) $$ H7
  iintro H11
  iapply (o_start 0 6 2 c (qtT m ρ c 6) (by rfl) (by rfl)) $$ [H11 H8 H12]
  · isplitl [H11]; · iexact H11
    isplitl [H8]; · iexact H8
    iexact H12
  iintro H13
  iapply (i_wait m ρ 1 c (by rfl) (by rfl)) $$ [H4 H10]
  · isplitr; · iexact HC
    isplitl [H4]; · iexact H4
    iexact H10
  iintro ⟨H14, H15, H16, H17⟩
  iapply (ret_as c (b := ⟨⟩) (by rfl))
  iapply Hk
  isplitl [H9]; · iexact H9
  isplitl [H13]; · iexact H13
  isplitl [H14]; · iexact H14
  isplitl [H15]; · iexact H15
  isplitl [H16]; · iexact H16
  iexact H17

end Cert.TwoRings

end
-- ==== Proof.Body.lean ====
/-
The whole body: the handshake at entry, the stretches one after another, and the counters at the end.
-/
module

public import proofs.«01_k».proof.Proof.Finish

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- What the handshake at entry starts from besides the landing slots it hands out. -/
def BarS (c : Dev nD) : sProp 𝕄 :=
  iprop((∃ W, owes (c : Thread nD τ) ((owed c 0 + tallyAt (barCell (nxt c)) 0 1) + tallyAt (barCell (prv c)) 0 1) W)
    ∗ dutyTok ER (barCell (prv c)) 0 true ∗ dutyTok ER (barCell (nxt c)) 0 false
    ∗ atPos ER (barCell c) 0 ∅ 0 ∗ cred (tallyAt (barCell c) 0 2))

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

set_option maxHeartbeats 1000000 in
/-- The handshake at entry. -/
theorem part25_run (c : Dev nD) {Φ : (Σ' (_ : Dev nD) (_ : BitVec 32) (_ : BitVec 32), BitVec 32) → sProp (MT nD τ sig ℕ (Elt F) ℕ UU ℕ)} :
    iprop(Ctx m ρ ∗ BarS c ∗ DG false 0 0 c ∗ DG false 1 0 c ∗ DG false 2 0 c ∗ DG false 3 0 c ∗ DG true 0 0 c ∗ DG true 1 0 c ∗ DG true 2 0 c ∗ arA 0 c ∗ arA 1 c ∗ arA 2 c)
      ⊢ iprop((∀ r1 : BitVec 32, ∀ r2 : BitVec 32, ∀ r3 : BitVec 32, (Own 0 c ∗ DG true 0 0 (dst true c) ∗ DG true 1 0 (dst true c) ∗ DG true 2 0 (dst true c) ∗ arA 2 (adst 2 c) ∗ DG false 0 0 (dst false c) ∗ DG false 1 0 (dst false c) ∗ DG false 2 0 (dst false c) ∗ DG false 3 0 (dst false c) ∗ arA 0 (adst 0 c) ∗ arA 1 (nxt c) ∗ atPos ER (barCell c) 1 ∅ 0) -∗ Φ ⟨c, r1, r2, r3⟩)
        -∗ wp frame (wpE (defs₀ (F := F)) 𝒱₀ (c : Thread nD τ) none) Set.univ (k0_part25 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16) Φ) := by
  simp only [k0_part25_eq_skeleton]; unfold k0_part25_skel
  simp only [semSignalWord, semWaitWord, Prog.lift, Prog.bind_op, Prog.bind_ret, Prog.pure_eq_ret, wp_deviceId]
  unfold BarS
  iintro ⟨#HC, ⟨⟨%W, HO⟩, Ht1, Ht2, Hat, Hc⟩, D0, D1, D2, D3, E0, E1, E2, A0, A1, A2⟩ Hk
  ihave #HI := (Ctx_bar m ρ c) $$ HC
  icases HI with ⟨⟨%κ, #HI0⟩, -⟩
  ihave #HIp := (Ctx_bar m ρ (prv c)) $$ HC
  icases HIp with ⟨⟨%κp, #HIp0⟩, #HRp⟩
  ihave #HIn := (Ctx_bar m ρ (nxt c)) $$ HC
  icases HIn with ⟨⟨%κn, #HIn0⟩, #HRn⟩
  ihave #Hlev := (Ctx_lev m ρ) $$ HC
  simp only [dev1_eq c, dev2_eq c]
  iapply (Rounds.wp_signal 𝒱₀ ER (Rd m ρ) (c : Thread nD τ) none (dst := (prv c : Thread nD τ)) (sem := barS) (κ := κp)
      (r := 0) (d := true) (by rw [duties_bar]; exact Finset.mem_univ _) (show (Rd m ρ).amount (barCell (prv c)) 0 true = _ by rfl) 0 (owed c 0 + tallyAt (barCell (nxt c)) 0 1) rfl)
    $$ [HO Ht1 D0 D1 D2 D3 A0 A1]
  · isplitr; · iexact HIp0
    isplitl [HO]; · iexact HO
    isplitl [Ht1]; · iexact Ht1
    isplitr []
    · iapply (show (barPay true (prv c) : sProp 𝕄) ⊢ (Rd m ρ).payload (barCell (prv c)) 0 true from .rfl)
      iapply (show (iprop(DG false 0 0 c ∗ DG false 1 0 c ∗ DG false 2 0 c ∗ DG false 3 0 c ∗ arA 0 c ∗ arA 1 c) : sProp 𝕄) ⊢ barPay true (prv c) from
        Entails.of_eq (by unfold barPay; rw [nxt_prv]; rfl))
      isplitl [D0]; · iexact D0
      isplitl [D1]; · iexact D1
      isplitl [D2]; · iexact D2
      isplitl [D3]; · iexact D3
      isplitl [A0]; · iexact A0
      iexact A1
    iexact HRp
  iintro HO
  iapply (Rounds.wp_signal 𝒱₀ ER (Rd m ρ) (c : Thread nD τ) none (dst := (nxt c : Thread nD τ)) (sem := barS) (κ := κn)
      (r := 0) (d := false) (by rw [duties_bar]; exact Finset.mem_univ _) (show (Rd m ρ).amount (barCell (nxt c)) 0 false = _ by rfl) 0 (owed c 0) rfl)
    $$ [HO Ht2 E0 E1 E2 A2]
  · isplitr; · iexact HIn0
    isplitl [HO]; · iexact HO
    isplitl [Ht2]; · iexact Ht2
    isplitr []
    · iapply (show (barPay false (nxt c) : sProp 𝕄) ⊢ (Rd m ρ).payload (barCell (nxt c)) 0 false from .rfl)
      iapply (show (iprop(DG true 0 0 c ∗ DG true 1 0 c ∗ DG true 2 0 c ∗ arA 2 c) : sProp 𝕄) ⊢ barPay false (nxt c) from
        Entails.of_eq (by unfold barPay; rw [prv_nxt]; rfl))
      isplitl [E0]; · iexact E0
      isplitl [E1]; · iexact E1
      isplitl [E2]; · iexact E2
      iexact A2
    iexact HRn
  iintro HO
  iapply (Rounds.wp_wait_rest_token 𝒱₀ ER (Rd m ρ) (c : Thread nD τ) none (κ := κ)
      (wpE_semWait_eq 𝒱₀ (c : Thread nD τ) none Set.univ) (Set.mem_univ _) 0 (O := owed c 0) (W := W) (R := 0) (m := 0) (T := ∅)
      (by rw [expect_bar]; decide)) $$ [Hc HO Hat]
  · isplitr; · iexact HI0
    isplitl [Hc]; · iexact Hc
    isplitl [HO]; · iexact HO
    isplitr
    · iapply (mayWait c (.reg barS) 0 0 (by decide) (by rw [show lv ((c : Thread nD τ), .reg barS) 0 = 1 from rfl]; decide))
      iexact Hlev
    iexact Hat
  iintro ⟨HO, Hat, -, Hpay⟩
  ihave Hp := (Entails.of_eq (rest_bar m ρ c)) $$ Hpay
  ihave Hp := (show (iprop(barPay false c ∗ barPay true c) : sProp 𝕄) ⊢ iprop((DG true 0 0 (dst true c) ∗ DG true 1 0 (dst true c) ∗ DG true 2 0 (dst true c) ∗ arA 2 (adst 2 c))
    ∗ (DG false 0 0 (dst false c) ∗ DG false 1 0 (dst false c) ∗ DG false 2 0 (dst false c) ∗ DG false 3 0 (dst false c) ∗ arA 0 (adst 0 c) ∗ arA 1 (nxt c))) from
      Entails.of_eq (by
        rw [show adst 0 c = nxt c from by revert c; decide, show adst 2 c = prv c from by revert c; decide]; rfl)) $$ Hp
  icases Hp with ⟨⟨P0, P1, P2, P3⟩, Q0, Q1, Q2, Q3, Q4, Q5⟩
  rw [wp_ret]
  imodintro
  iapply Hk
  isplitl [HO]; · unfold Own; iexists _; iexact HO
  isplitl [P0]; · iexact P0
  isplitl [P1]; · iexact P1
  isplitl [P2]; · iexact P2
  isplitl [P3]; · iexact P3
  isplitl [Q0]; · iexact Q0
  isplitl [Q1]; · iexact Q1
  isplitl [Q2]; · iexact Q2
  isplitl [Q3]; · iexact Q3
  isplitl [Q4]; · iexact Q4
  isplitl [Q5]; · iexact Q5
  iexact Hat

/-- What the body starts from. -/
def Start (c : Dev nD) : sProp 𝕄 :=
  iprop(BarS c
    ∗ DG false 0 0 c
    ∗ DG false 1 0 c
    ∗ DG false 2 0 c
    ∗ DG false 3 0 c
    ∗ DG true 0 0 c
    ∗ DG true 1 0 c
    ∗ DG true 2 0 c
    ∗ arA 0 c
    ∗ arA 1 c
    ∗ arA 2 c
    ∗ XH m ρ fullShare.left c
    ∗ stA 0 c
    ∗ lv0 0 c
    ∗ XH m ρ fullShare.right c
    ∗ stA 1 c
    ∗ lv0 1 c
    ∗ XP m ρ (fun _ => False) c
    ∗ WH m ρ fullShare c
    ∗ WP m ρ (fun _ => False) c
    ∗ SI false 0 0 c
    ∗ SI false 1 0 c
    ∗ SI false 2 0 c
    ∗ SI false 3 0 c
    ∗ SI false 4 0 c
    ∗ SI false 5 0 c
    ∗ SI true 0 0 c
    ∗ SI true 1 0 c
    ∗ SI true 2 0 c
    ∗ SI true 3 0 c
    ∗ SI true 4 0 c
    ∗ SI true 5 0 c
    ∗ RI false 0 0 c
    ∗ RI false 1 0 c
    ∗ RI false 2 0 c
    ∗ RI false 3 0 c
    ∗ RI false 4 0 c
    ∗ RI false 5 0 c
    ∗ RI true 0 0 c
    ∗ RI true 1 0 c
    ∗ RI true 2 0 c
    ∗ RI true 3 0 c
    ∗ RI true 4 0 c
    ∗ RI true 5 0 c
    ∗ DG true 3 0 c
    ∗ DG true 4 0 c
    ∗ DG true 5 0 c
    ∗ DG false 4 0 c
    ∗ DG false 5 0 c
    ∗ oA 0 c
    ∗ oA 1 c
    ∗ oA 2 c
    ∗ oA 3 c
    ∗ oA 4 c
    ∗ oA 5 c
    ∗ oA 6 c
    ∗ oA 7 c
    ∗ lv0 2 c
    ∗ lv0 3 c
    ∗ asA c
    ∗ AS 0 c
    ∗ AS 1 c
    ∗ AS 2 c
    ∗ AR 0 c
    ∗ AR 1 c
    ∗ AR 2 c)

/-- What the body holds but for its last wait. -/
def Near (c : Dev nD) : sProp 𝕄 :=
  iprop(atPos ER (barCell c) 1 ∅ 0
    ∗ XH m ρ fullShare.left c
    ∗ XH m ρ fullShare.right c
    ∗ WH m ρ fullShare c
    ∗ slotA (sM false) 0 c
    ∗ SR false 0 4 c
    ∗ RI false 0 4 c
    ∗ RI false 1 4 c
    ∗ RI false 2 4 c
    ∗ RI false 3 4 c
    ∗ RI false 4 4 c
    ∗ RI false 5 4 c
    ∗ RI true 0 4 c
    ∗ RI true 1 4 c
    ∗ RI true 2 4 c
    ∗ RI true 3 4 c
    ∗ RI true 4 4 c
    ∗ RI true 5 4 c
    ∗ slotA (rM false) 0 c
    ∗ slotA (rM false) 1 c
    ∗ slotA (rM false) 2 c
    ∗ slotA (rM false) 3 c
    ∗ slotA (rM false) 4 c
    ∗ slotA (rM false) 5 c
    ∗ slotA (rM true) 0 c
    ∗ slotA (rM true) 1 c
    ∗ slotA (rM true) 2 c
    ∗ slotA (rM true) 3 c
    ∗ slotA (rM true) 4 c
    ∗ slotA (rM true) 5 c
    ∗ XB m ρ c
    ∗ WB m ρ 4 c
    ∗ slotA (sM false) 2 c
    ∗ SR false 2 4 c
    ∗ slotA (sM false) 4 c
    ∗ SR false 4 4 c
    ∗ slotA (sM true) 0 c
    ∗ SR true 0 4 c
    ∗ slotA (sM true) 2 c
    ∗ SR true 2 4 c
    ∗ slotA (sM true) 4 c
    ∗ SR true 4 4 c
    ∗ slotA (sM false) 1 c
    ∗ SR false 1 4 c
    ∗ slotA (sM false) 3 c
    ∗ SR false 3 4 c
    ∗ slotA (sM false) 5 c
    ∗ SR false 5 4 c
    ∗ slotA (sM true) 1 c
    ∗ SR true 1 4 c
    ∗ slotA (sM true) 3 c
    ∗ SR true 3 4 c
    ∗ slotA (sM true) 5 c
    ∗ SR true 5 4 c
    ∗ atPos ER (ascell 0 c) 1 ∅ 0
    ∗ atPos ER (arcell 0 c) 1 ∅ 0
    ∗ atPos ER (ascell 1 c) 1 ∅ 0
    ∗ atPos ER (arcell 1 c) 1 ∅ 0
    ∗ atPos ER (ascell 2 c) 1 ∅ 0
    ∗ atPos ER (arcell 2 c) 1 ∅ 0
    ∗ owns (c : Thread nD τ) asM fullShare (amx m ρ c)
    ∗ owns (c : Thread nD τ) arM fullShare (amR m ρ c)
    ∗ oQ 0 c (qtT m ρ c 0)
    ∗ oQ 1 c (qtT m ρ c 1)
    ∗ oQ 2 c (qtT m ρ c 2)
    ∗ oQ 3 c (qtT m ρ c 3)
    ∗ oQ 4 c (qtT m ρ c 4)
    ∗ oQ 5 c (qtT m ρ c 5)
    ∗ lv0 0 c
    ∗ lv0 1 c
    ∗ OF 1 7 3 c (qtT m ρ c 7)
    ∗ stA 0 c
    ∗ oQ 6 c (qtT m ρ c 6)
    ∗ lv0 2 c
    ∗ Own 51 c)

set_option maxHeartbeats 8000000 in
/-- The body up to its last wait. -/
theorem part44_run (c : Dev nD) {Φ : PUnit → sProp (MT nD τ sig ℕ (Elt F) ℕ UU ℕ)} :
    iprop(Ctx m ρ ∗ Start m ρ c)
      ⊢ iprop((Near m ρ c -∗ Φ ⟨⟩)
        -∗ wp frame (wpE (defs₀ (F := F)) 𝒱₀ (c : Thread nD τ) none) Set.univ (k0_part44 xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16) Φ) := by
  unfold Start Near
  iintro ⟨#HC, H1, H2, H3, H4, H5, H6, H7, H8, H9, H10, H11, H24, H25, H26, H27, H28, H29, H30, H41, H42, H52, H53, H54, H55, H56, H57, H58, H59, H60, H61, H62, H63, H64, H65, H66, H67, H68, H69, H70, H71, H72, H73, H74, H75, H76, H77, H78, H79, H80, H81, H82, H83, H84, H85, H86, H87, H88, H90, H91, H165, H176, H181, H182, H188, H189, H190⟩ Hk
  unfold k0_part44
  rw [wp_bind]
  iapply (part25_run m ρ c) $$ [H1 H2 H3 H4 H5 H6 H7 H8 H9 H10 H11]
  · isplitr; · iexact HC
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %q1 %q2 %q3 ⟨H12, H13, H14, H15, H16, H17, H18, H19, H20, H21, H22, H23⟩
  dsimp only
  rw [wp_bind]
  iapply (part26_run m ρ c) $$ [H24 H25 H26 H27 H28 H29 H12 H30]
  · isplitr; · iexact HC
    isplitl [H24]; · iexact H24
    isplitl [H25]; · iexact H25
    isplitl [H26]; · iexact H26
    isplitl [H27]; · iexact H27
    isplitl [H28]; · iexact H28
    isplitl [H29]; · iexact H29
    isplitl [H12]; · iexact H12
    iexact H30
  iintro ⟨H31, H32, H33, H34⟩
  rw [wp_bind]
  iapply (part27_run m ρ c) $$ [H31 H32 H33 H34]
  · isplitr; · iexact HC
    isplitl [H31]; · iexact H31
    isplitl [H32]; · iexact H32
    isplitl [H33]; · iexact H33
    iexact H34
  iintro ⟨H35, H36, H37, H38, H39, H40⟩
  rw [wp_bind]
  iapply (part28_run m ρ c) $$ [H35 H38 H39 H41 H40 H37 H42]
  · isplitr; · iexact HC
    isplitl [H35]; · iexact H35
    isplitl [H38]; · iexact H38
    isplitl [H39]; · iexact H39
    isplitl [H41]; · iexact H41
    isplitl [H40]; · iexact H40
    isplitl [H37]; · iexact H37
    iexact H42
  iintro ⟨H43, H44, H45, H46, H47, H48, H49, H50, H51⟩
  ihave H89 := (show iprop(SI false 0 0 c ∗ SI false 1 0 c ∗ SI false 2 0 c ∗ SI false 3 0 c ∗ SI false 4 0 c ∗ SI false 5 0 c ∗ SI true 0 0 c ∗ SI true 1 0 c ∗ SI true 2 0 c ∗ SI true 3 0 c ∗ SI true 4 0 c ∗ SI true 5 0 c ∗ RI false 0 0 c ∗ RI false 1 0 c ∗ RI false 2 0 c ∗ RI false 3 0 c ∗ RI false 4 0 c ∗ RI false 5 0 c ∗ RI true 0 0 c ∗ RI true 1 0 c ∗ RI true 2 0 c ∗ RI true 3 0 c ∗ RI true 4 0 c ∗ RI true 5 0 c ∗ DG true 3 0 c ∗ DG true 4 0 c ∗ DG true 5 0 c ∗ DG false 4 0 c ∗ DG false 5 0 c ∗ DG false 0 0 (dst false c) ∗ DG false 1 0 (dst false c) ∗ DG false 2 0 (dst false c) ∗ DG false 3 0 (dst false c) ∗ DG true 0 0 (dst true c) ∗ DG true 1 0 (dst true c) ∗ DG true 2 0 (dst true c) ∗ arA 1 (nxt c) ∗ oA 0 c ∗ oA 1 c ∗ oA 2 c ∗ oA 3 c ∗ oA 4 c ∗ oA 5 c ∗ oA 6 c ∗ oA 7 c : sProp 𝕄) ⊢ InvAt c from .rfl) $$ [H52 H53 H54 H55 H56 H57 H58 H59 H60 H61 H62 H63 H64 H65 H66 H67 H68 H69 H70 H71 H72 H73 H74 H75 H76 H77 H78 H79 H80 H17 H18 H19 H20 H13 H14 H15 H22 H81 H82 H83 H84 H85 H86 H87 H88]
  · isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    isplitl [H60]; · iexact H60
    isplitl [H61]; · iexact H61
    isplitl [H62]; · iexact H62
    isplitl [H63]; · iexact H63
    isplitl [H64]; · iexact H64
    isplitl [H65]; · iexact H65
    isplitl [H66]; · iexact H66
    isplitl [H67]; · iexact H67
    isplitl [H68]; · iexact H68
    isplitl [H69]; · iexact H69
    isplitl [H70]; · iexact H70
    isplitl [H71]; · iexact H71
    isplitl [H72]; · iexact H72
    isplitl [H73]; · iexact H73
    isplitl [H74]; · iexact H74
    isplitl [H75]; · iexact H75
    isplitl [H76]; · iexact H76
    isplitl [H77]; · iexact H77
    isplitl [H78]; · iexact H78
    isplitl [H79]; · iexact H79
    isplitl [H80]; · iexact H80
    isplitl [H17]; · iexact H17
    isplitl [H18]; · iexact H18
    isplitl [H19]; · iexact H19
    isplitl [H20]; · iexact H20
    isplitl [H13]; · iexact H13
    isplitl [H14]; · iexact H14
    isplitl [H15]; · iexact H15
    isplitl [H22]; · iexact H22
    isplitl [H81]; · iexact H81
    isplitl [H82]; · iexact H82
    isplitl [H83]; · iexact H83
    isplitl [H84]; · iexact H84
    isplitl [H85]; · iexact H85
    isplitl [H86]; · iexact H86
    isplitl [H87]; · iexact H87
    iexact H88
  rw [wp_bind]
  iapply (part29_run m ρ c q1 q2 q3) $$ [H47 H46 H44 H49 H50 H89 H48 H90 H91 H51 H45]
  · isplitr; · iexact HC
    isplitl [H47]; · iexact H47
    isplitl [H46]; · iexact H46
    isplitl [H44]; · iexact H44
    isplitl [H49]; · iexact H49
    isplitl [H50]; · iexact H50
    isplitl [H89]; · iexact H89
    isplitl [H48]; · iexact H48
    isplitl [H90]; · iexact H90
    isplitl [H91]; · iexact H91
    isplitl [H51]; · iexact H51
    iexact H45
  iintro ⟨H92, H93, H94, H95, H96, H97, H98, H99, H100, H101, H102, H103, H104, H105, H106, H107, H108, H109, H110, H111, H112, H113⟩
  unfold InvEnd
  icases H92 with ⟨H114, H115, H116, H117, H118, H119, H120, H121, H122, H123, H124, H125, H126, H127, H128, H129, H130, H131, H132, H133, H134, H135, H136, H137, H138, H139, H140, H141, H142, H143, H144, H145, H146, H147, H148⟩
  rw [wp_bind]
  iapply (part30_run m ρ c) $$ [H94 H113 H96 H98]
  · isplitr; · iexact HC
    isplitl [H94]; · iexact H94
    isplitl [H113]; · iexact H113
    isplitl [H96]; · iexact H96
    iexact H98
  iintro ⟨H149, H150, H151, H152, H153, H154, H155⟩
  rw [wp_bind]
  iapply (part31_run m ρ c) $$ [H100 H155 H102 H93 H95]
  · isplitr; · iexact HC
    isplitl [H100]; · iexact H100
    isplitl [H155]; · iexact H155
    isplitl [H102]; · iexact H102
    isplitl [H93]; · iexact H93
    iexact H95
  iintro ⟨H156, H157, H158, H159, H160, H161, H162, H163, H164⟩
  rw [wp_bind]
  iapply (part32_run m ρ c) $$ [H97 H164 H99 H101 H103 H165]
  · isplitr; · iexact HC
    isplitl [H97]; · iexact H97
    isplitl [H164]; · iexact H164
    isplitl [H99]; · iexact H99
    isplitl [H101]; · iexact H101
    isplitl [H103]; · iexact H103
    iexact H165
  iintro ⟨H166, H167, H168, H169, H170, H171, H172, H173, H174, H175⟩
  rw [wp_bind]
  iapply (part33_run m ρ c q1) $$ [H175 H176 H21 H174]
  · isplitr; · iexact HC
    isplitl [H175]; · iexact H175
    isplitl [H176]; · iexact H176
    isplitl [H21]; · iexact H21
    iexact H174
  iintro %r1 %r2 ⟨H177, H178, H179, H180⟩
  dsimp only
  rw [wp_bind]
  iapply (part34_run m ρ c q1 r1) $$ [H177 H181 H138 H180 H178 H182 H16 H179]
  · isplitr; · iexact HC
    isplitl [H177]; · iexact H177
    isplitl [H181]; · iexact H181
    isplitl [H138]; · iexact H138
    isplitl [H180]; · iexact H180
    isplitl [H178]; · iexact H178
    isplitl [H182]; · iexact H182
    isplitl [H16]; · iexact H16
    iexact H179
  iintro %r3 ⟨H183, H184, H185, H186, H187⟩
  rw [wp_bind]
  iapply (part35_run m ρ c r2 r3) $$ [H188 H187 H183 H189 H184 H190 H185]
  · isplitr; · iexact HC
    isplitl [H188]; · iexact H188
    isplitl [H187]; · iexact H187
    isplitl [H183]; · iexact H183
    isplitl [H189]; · iexact H189
    isplitl [H184]; · iexact H184
    isplitl [H190]; · iexact H190
    iexact H185
  iintro ⟨H191, H192, H193, H194, H195, H196, H197, H198⟩
  rw [wp_bind]
  iapply (part36_run m ρ c) $$ [H198 H141 H108 H104 H142 H109 H105 H196]
  · isplitr; · iexact HC
    isplitl [H198]; · iexact H198
    isplitl [H141]; · iexact H141
    isplitl [H108]; · iexact H108
    isplitl [H104]; · iexact H104
    isplitl [H142]; · iexact H142
    isplitl [H109]; · iexact H109
    isplitl [H105]; · iexact H105
    iexact H196
  iintro ⟨H199, H200, H201, H202, H203, H204⟩
  dsimp only
  rw [wp_bind]
  iapply (part37_run m ρ c) $$ [H201 H202 H106 H204 H143 H203 H200]
  · isplitr; · iexact HC
    isplitl [H201]; · iexact H201
    isplitl [H202]; · iexact H202
    isplitl [H106]; · iexact H106
    isplitl [H204]; · iexact H204
    isplitl [H143]; · iexact H143
    isplitl [H203]; · iexact H203
    iexact H200
  iintro ⟨H205, H206, H207, H208, H209, H210, H211⟩
  rw [wp_bind]
  iapply (part38_run m ρ c) $$ [H208 H209 H107 H211 H144 H210 H207]
  · isplitr; · iexact HC
    isplitl [H208]; · iexact H208
    isplitl [H209]; · iexact H209
    isplitl [H107]; · iexact H107
    isplitl [H211]; · iexact H211
    isplitl [H144]; · iexact H144
    isplitl [H210]; · iexact H210
    iexact H207
  iintro ⟨H212, H213, H214, H215, H216, H217, H218⟩
  rw [wp_bind]
  iapply (part39_run m ρ c) $$ [H215 H216 H206 H218 H145 H217]
  · isplitr; · iexact HC
    isplitl [H215]; · iexact H215
    isplitl [H216]; · iexact H216
    isplitl [H206]; · iexact H206
    isplitl [H218]; · iexact H218
    isplitl [H145]; · iexact H145
    iexact H217
  iintro ⟨H219, H220, H221, H222⟩
  rw [wp_bind]
  iapply (part40_run m ρ c) $$ [H214 H221 H213 H146]
  · isplitr; · iexact HC
    isplitl [H214]; · iexact H214
    isplitl [H221]; · iexact H221
    isplitl [H213]; · iexact H213
    iexact H146
  iintro ⟨H223, H224, H225, H226⟩
  rw [wp_bind]
  iapply (part41_run m ρ c) $$ [H222 H225 H220 H147]
  · isplitr; · iexact HC
    isplitl [H222]; · iexact H222
    isplitl [H225]; · iexact H225
    isplitl [H220]; · iexact H220
    iexact H147
  iintro ⟨H227, H228, H229, H230⟩
  rw [wp_bind]
  iapply (part42_run m ρ c) $$ [H226 H229 H224]
  · isplitr; · iexact HC
    isplitl [H226]; · iexact H226
    isplitl [H229]; · iexact H229
    iexact H224
  iintro ⟨H231, H232, H233, H234, H235⟩
  rw [wp_bind]
  iapply (part43_run m ρ c) $$ [H148 H232 H231 H230 H235 H228]
  · isplitr; · iexact HC
    isplitl [H148]; · iexact H148
    isplitl [H232]; · iexact H232
    isplitl [H231]; · iexact H231
    isplitl [H230]; · iexact H230
    isplitl [H235]; · iexact H235
    iexact H228
  iintro ⟨H236, H237, H238, H239, H240, H241⟩
  simp only [Prog.lift, Prog.bind_op, Prog.bind_ret, Prog.pure_eq_ret]
  iapply (ldst_step c (s := 1)) $$ H238
  iintro H238
  ihave H238 := (stQ_any 1 c) $$ H238
  iapply (putst_step c (s := 1) (qtT m ρ c 7) (by simp only [cast_there_back]; rfl)) $$ H238
  iintro H242
  iapply (o_start 1 7 3 c (qtT m ρ c 7) (by rfl) (by rfl)) $$ [H242 H239 H234]
  · isplitl [H242]; · iexact H242
    isplitl [H239]; · iexact H239
    iexact H234
  iintro H243
  iapply (o_wait m ρ 2 c (by rfl) (by rfl)) $$ [H237 H241]
  · isplitr; · iexact HC
    isplitl [H237]; · iexact H237
    iexact H241
  iintro ⟨H244, H245, H246, H247⟩
  iapply (ret_as c (b := (⟨⟩ : PUnit)) (by rfl))
  iapply Hk
  isplitl [H23]; · iexact H23
  isplitl [H36]; · iexact H36
  isplitl [H43]; · iexact H43
  isplitl [H110]; · iexact H110
  isplitl [H111]; · iexact H111
  isplitl [H112]; · iexact H112
  isplitl [H114]; · iexact H114
  isplitl [H115]; · iexact H115
  isplitl [H116]; · iexact H116
  isplitl [H117]; · iexact H117
  isplitl [H118]; · iexact H118
  isplitl [H119]; · iexact H119
  isplitl [H120]; · iexact H120
  isplitl [H121]; · iexact H121
  isplitl [H122]; · iexact H122
  isplitl [H123]; · iexact H123
  isplitl [H124]; · iexact H124
  isplitl [H125]; · iexact H125
  isplitl [H126]; · iexact H126
  isplitl [H127]; · iexact H127
  isplitl [H128]; · iexact H128
  isplitl [H129]; · iexact H129
  isplitl [H130]; · iexact H130
  isplitl [H131]; · iexact H131
  isplitl [H132]; · iexact H132
  isplitl [H133]; · iexact H133
  isplitl [H134]; · iexact H134
  isplitl [H135]; · iexact H135
  isplitl [H136]; · iexact H136
  isplitl [H137]; · iexact H137
  isplitl [H139]; · iexact H139
  isplitl [H140]; · iexact H140
  isplitl [H149]; · iexact H149
  isplitl [H150]; · iexact H150
  isplitl [H151]; · iexact H151
  isplitl [H152]; · iexact H152
  isplitl [H153]; · iexact H153
  isplitl [H154]; · iexact H154
  isplitl [H156]; · iexact H156
  isplitl [H157]; · iexact H157
  isplitl [H158]; · iexact H158
  isplitl [H159]; · iexact H159
  isplitl [H160]; · iexact H160
  isplitl [H161]; · iexact H161
  isplitl [H162]; · iexact H162
  isplitl [H163]; · iexact H163
  isplitl [H166]; · iexact H166
  isplitl [H167]; · iexact H167
  isplitl [H168]; · iexact H168
  isplitl [H169]; · iexact H169
  isplitl [H170]; · iexact H170
  isplitl [H171]; · iexact H171
  isplitl [H172]; · iexact H172
  isplitl [H173]; · iexact H173
  isplitl [H186]; · iexact H186
  isplitl [H191]; · iexact H191
  isplitl [H192]; · iexact H192
  isplitl [H193]; · iexact H193
  isplitl [H194]; · iexact H194
  isplitl [H195]; · iexact H195
  isplitl [H197]; · iexact H197
  isplitl [H199]; · iexact H199
  isplitl [H205]; · iexact H205
  isplitl [H212]; · iexact H212
  isplitl [H219]; · iexact H219
  isplitl [H223]; · iexact H223
  isplitl [H227]; · iexact H227
  isplitl [H233]; · iexact H233
  isplitl [H236]; · iexact H236
  isplitl [H240]; · iexact H240
  isplitl [H243]; · iexact H243
  isplitl [H244]; · iexact H244
  isplitl [H245]; · iexact H245
  isplitl [H246]; · iexact H246
  iexact H247

/-- What the body ends with. -/
def Done (c : Dev nD) : sProp 𝕄 :=
  iprop(Own 51 c
    ∗ atPos ER (barCell c) 1 ∅ 0
    ∗ SR false 0 4 c
    ∗ SR false 1 4 c
    ∗ SR false 2 4 c
    ∗ SR false 3 4 c
    ∗ SR false 4 4 c
    ∗ SR false 5 4 c
    ∗ SR true 0 4 c
    ∗ SR true 1 4 c
    ∗ SR true 2 4 c
    ∗ SR true 3 4 c
    ∗ SR true 4 4 c
    ∗ SR true 5 4 c
    ∗ RI false 0 4 c
    ∗ RI false 1 4 c
    ∗ RI false 2 4 c
    ∗ RI false 3 4 c
    ∗ RI false 4 4 c
    ∗ RI false 5 4 c
    ∗ RI true 0 4 c
    ∗ RI true 1 4 c
    ∗ RI true 2 4 c
    ∗ RI true 3 4 c
    ∗ RI true 4 4 c
    ∗ RI true 5 4 c
    ∗ atPos ER (ascell 0 c) 1 ∅ 0
    ∗ atPos ER (ascell 1 c) 1 ∅ 0
    ∗ atPos ER (ascell 2 c) 1 ∅ 0
    ∗ atPos ER (arcell 0 c) 1 ∅ 0
    ∗ atPos ER (arcell 1 c) 1 ∅ 0
    ∗ atPos ER (arcell 2 c) 1 ∅ 0
    ∗ lv0 0 c
    ∗ lv0 1 c
    ∗ lv0 2 c
    ∗ lv0 3 c
    ∗ slotA (sM false) 0 c
    ∗ slotA (sM false) 1 c
    ∗ slotA (sM false) 2 c
    ∗ slotA (sM false) 3 c
    ∗ slotA (sM false) 4 c
    ∗ slotA (sM false) 5 c
    ∗ slotA (sM true) 0 c
    ∗ slotA (sM true) 1 c
    ∗ slotA (sM true) 2 c
    ∗ slotA (sM true) 3 c
    ∗ slotA (sM true) 4 c
    ∗ slotA (sM true) 5 c
    ∗ slotA (rM false) 0 c
    ∗ slotA (rM false) 1 c
    ∗ slotA (rM false) 2 c
    ∗ slotA (rM false) 3 c
    ∗ slotA (rM false) 4 c
    ∗ slotA (rM false) 5 c
    ∗ slotA (rM true) 0 c
    ∗ slotA (rM true) 1 c
    ∗ slotA (rM true) 2 c
    ∗ slotA (rM true) 3 c
    ∗ slotA (rM true) 4 c
    ∗ slotA (rM true) 5 c
    ∗ XB m ρ c
    ∗ WB m ρ 4 c
    ∗ stA 0 c
    ∗ stA 1 c
    ∗ owns (c : Thread nD τ) asM fullShare (amx m ρ c)
    ∗ owns (c : Thread nD τ) arM fullShare (amR m ρ c)
    ∗ XH m ρ fullShare.left c
    ∗ XH m ρ fullShare.right c
    ∗ WH m ρ fullShare c
    ∗ oQ 0 c (qtT m ρ c 0)
    ∗ oQ 1 c (qtT m ρ c 1)
    ∗ oQ 2 c (qtT m ρ c 2)
    ∗ oQ 3 c (qtT m ρ c 3)
    ∗ oQ 4 c (qtT m ρ c 4)
    ∗ oQ 5 c (qtT m ρ c 5)
    ∗ oQ 6 c (qtT m ρ c 6)
    ∗ oQ 7 c (qtT m ρ c 7))

set_option maxHeartbeats 4000000 in
/-- The body. -/
theorem body_run (c : Dev nD) {Φ : PUnit → sProp (MT nD τ sig ℕ (Elt F) ℕ UU ℕ)} :
    iprop(Ctx m ρ ∗ Start m ρ c)
      ⊢ iprop((Done m ρ c -∗ |={Set.univ}=> Φ ⟨⟩)
        -∗ wp frame (wpE (defs₀ (F := F)) 𝒱₀ (c : Thread nD τ) none) Set.univ (cc0_body xM (Memref.isWhole_whole _) wM (Memref.isWhole_whole _) oM (Memref.isWhole_whole _) xbM (Memref.isWhole_whole _) wbM (Memref.isWhole_whole _) stM (Memref.isWhole_whole _) (sM false) (Memref.isWhole_whole _) (sM true) (Memref.isWhole_whole _) (rM false) (Memref.isWhole_whole _) (rM true) (Memref.isWhole_whole _) asM (Memref.isWhole_whole _) arM (Memref.isWhole_whole _) cc0_scratch9 cc0_scratch10 cc0_scratch11 cc0_scratch12 cc0_scratch13 cc0_scratch14 cc0_scratch15 cc0_scratch16) Φ) := by
  simp only [cc0_body_eq_skeleton]; unfold cc0_body_skel
  simp only [Prog.lift, Prog.bind_op, Prog.bind_ret, Prog.pure_eq_ret]
  iintro ⟨#HC, HS⟩ Hk
  rw [wp_bind]
  iapply (part44_run m ρ c) $$ [HS]
  · isplitr; · iexact HC
    iexact HS
  iintro HN
  unfold Near
  icases HN with ⟨H23, H36, H43, H110, H111, H112, H114, H115, H116, H117, H118, H119, H120, H121, H122, H123, H124, H125, H126, H127, H128, H129, H130, H131, H132, H133, H134, H135, H136, H137, H139, H140, H149, H150, H151, H152, H153, H154, H156, H157, H158, H159, H160, H161, H162, H163, H166, H167, H168, H169, H170, H171, H172, H173, H186, H191, H192, H193, H194, H195, H197, H199, H205, H212, H219, H223, H227, H233, H236, H240, H243, H244, H245, H246, H247⟩
  iapply (o_wait m ρ 3 c (by rfl) (by rfl)) $$ [H243 H247]
  · isplitr; · iexact HC
    isplitl [H243]; · iexact H243
    iexact H247
  iintro ⟨H248, H249, H250, H251⟩
  rw [wp_ret]
  iapply Hk
  unfold Done
  isplitl [H251]; · iexact H251
  isplitl [H23]; · iexact H23
  isplitl [H112]; · iexact H112
  isplitl [H161]; · iexact H161
  isplitl [H150]; · iexact H150
  isplitl [H163]; · iexact H163
  isplitl [H152]; · iexact H152
  isplitl [H167]; · iexact H167
  isplitl [H154]; · iexact H154
  isplitl [H169]; · iexact H169
  isplitl [H157]; · iexact H157
  isplitl [H171]; · iexact H171
  isplitl [H159]; · iexact H159
  isplitl [H173]; · iexact H173
  isplitl [H114]; · iexact H114
  isplitl [H115]; · iexact H115
  isplitl [H116]; · iexact H116
  isplitl [H117]; · iexact H117
  isplitl [H118]; · iexact H118
  isplitl [H119]; · iexact H119
  isplitl [H120]; · iexact H120
  isplitl [H121]; · iexact H121
  isplitl [H122]; · iexact H122
  isplitl [H123]; · iexact H123
  isplitl [H124]; · iexact H124
  isplitl [H125]; · iexact H125
  isplitl [H186]; · iexact H186
  isplitl [H192]; · iexact H192
  isplitl [H194]; · iexact H194
  isplitl [H191]; · iexact H191
  isplitl [H193]; · iexact H193
  isplitl [H195]; · iexact H195
  isplitl [H236]; · iexact H236
  isplitl [H240]; · iexact H240
  isplitl [H246]; · iexact H246
  isplitl [H250]; · iexact H250
  isplitl [H111]; · iexact H111
  isplitl [H160]; · iexact H160
  isplitl [H149]; · iexact H149
  isplitl [H162]; · iexact H162
  isplitl [H151]; · iexact H151
  isplitl [H166]; · iexact H166
  isplitl [H153]; · iexact H153
  isplitl [H168]; · iexact H168
  isplitl [H156]; · iexact H156
  isplitl [H170]; · iexact H170
  isplitl [H158]; · iexact H158
  isplitl [H172]; · iexact H172
  isplitl [H126]; · iexact H126
  isplitl [H127]; · iexact H127
  isplitl [H128]; · iexact H128
  isplitl [H129]; · iexact H129
  isplitl [H130]; · iexact H130
  isplitl [H131]; · iexact H131
  isplitl [H132]; · iexact H132
  isplitl [H133]; · iexact H133
  isplitl [H134]; · iexact H134
  isplitl [H135]; · iexact H135
  isplitl [H136]; · iexact H136
  isplitl [H137]; · iexact H137
  isplitl [H139]; · iexact H139
  isplitl [H140]; · iexact H140
  isplitl [H244]; · iexact H244
  isplitl [H248]; · iexact H248
  isplitl [H197]; · iexact H197
  isplitl [H199]; · iexact H199
  isplitl [H36]; · iexact H36
  isplitl [H43]; · iexact H43
  isplitl [H110]; · iexact H110
  isplitl [H205]; · iexact H205
  isplitl [H212]; · iexact H212
  isplitl [H219]; · iexact H219
  isplitl [H223]; · iexact H223
  isplitl [H227]; · iexact H227
  isplitl [H233]; · iexact H233
  isplitl [H245]; · iexact H245
  iexact H249

end Cert.TwoRings

end
-- ==== Proof.Buffers.lean ====
/-
The buffers at both ends of the run: each cut into the pieces the protocol moves about, and put together again.
-/
module

public import proofs.«01_k».proof.Proof.Body

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The slices of a buffer -/

section Pieces
variable {κ : Type} [Fintype κ] [DecidableEq κ] {sp : Space} {s : Shape} {e : EltTy} {r : κ → Rect s}

/-- A memref at some contents, cut into slices at some contents. -/
theorem any_cut (h : OwnSteps.Fills r) (M : Memref sig .tc sp s e) (c : Dev nD) :
    iprop(∃ X : s.Idx → Elt F e, owns (c : Thread nD τ) M fullShare X)
      ⊢ (bigSep Finset.univ fun k => iprop(∃ Z : (r k).shape.Idx → Elt F e, owns (c : Thread nD τ) (M.slice (r k) (h.stride k)) fullShare Z) : sProp 𝕄) := by
  iintro ⟨%X, H⟩
  ihave H := (OwnSteps.owns_cut (Ix := ℕ) (Name := ℕ) (U := UU) (Lvl := ℕ) (Val := Elt F) (c := (c : Thread nD τ)) h M fullShare X) $$ H
  iapply (show (bigSep Finset.univ (fun k => owns (c : Thread nD τ) (M.slice (r k) (h.stride k)) fullShare (fun j => X ((r k).emb j))) : sProp 𝕄) ⊢ _ from
    bigSep_mono fun k _ => (show (owns (c : Thread nD τ) (M.slice (r k) (h.stride k)) fullShare (fun j => X ((r k).emb j)) : sProp 𝕄) ⊢ iprop(∃ Z : (r k).shape.Idx → Elt F e, owns (c : Thread nD τ) (M.slice (r k) (h.stride k)) fullShare Z) from by
      iintro H; iexists _; iexact H)) $$ H

/-- The slices, put together. -/
theorem any_join (h : OwnSteps.Fills r) (M : Memref sig .tc sp s e) (c : Dev nD) :
    (bigSep Finset.univ fun k => iprop(∃ Z : (r k).shape.Idx → Elt F e, owns (c : Thread nD τ) (M.slice (r k) (h.stride k)) fullShare Z) : sProp 𝕄)
      ⊢ iprop(∃ X : s.Idx → Elt F e, owns (c : Thread nD τ) M fullShare X) := by
  haveI : ∀ k : κ, Nonempty ((r k).shape.Idx → Elt F e) := fun _ => inferInstance
  iintro H
  ihave H := (bigSep_exists_pi Finset.univ fun (k : κ) (Z : (r k).shape.Idx → Elt F e) => (owns (c : Thread nD τ) (M.slice (r k) (h.stride k)) fullShare Z : sProp 𝕄)) $$ H
  icases H with ⟨%Z, H⟩
  ihave H := (OwnSteps.owns_join (Ix := ℕ) (Name := ℕ) (U := UU) (Lvl := ℕ) (Val := Elt F) (c := (c : Thread nD τ)) h M fullShare Z) $$ H
  icases H with ⟨%X, -, H⟩
  iexists X
  iexact H

end Pieces

abbrev krow (k : Fin 6) : Rect S6x1024x512 := Rect.unit (s := S6x1024x512) ![k.val, 0, 0] S1x1024x512.size (slot_inb k)
theorem krow_fills : OwnSteps.Fills krow where
  stride _ _ := rfl
  apart k k' hk i j h := by
    have h0 : k.val + 1 * (i 0).val = k'.val + 1 * (j 0).val := congrArg (fun x : S6x1024x512.Idx => (x 0).val) h
    have h1 : (i 0).val < 1 := (i 0).isLt
    have h2 : (j 0).val < 1 := (j 0).isLt
    exact hk (Fin.ext (by omega))
  cover x := by
    refine ⟨x 0, fun a => match a with | 0 => (⟨0, by decide⟩ : Fin 1) | 1 => x 1 | 2 => x 2, ?_⟩
    funext a; apply Fin.ext; fin_cases a
    · show (x 0).val + 1 * 0 = (x 0).val; omega
    · show 0 + 1 * (x 1).val = (x 1).val; omega
    · show 0 + 1 * (x 2).val = (x 2).val; omega

abbrev strow (k : Fin 2) : Rect S2x1024x1024 := Rect.unit (s := S2x1024x1024) ![k.val, 0, 0] S1x1024x1024.size (stslot_inb k)
theorem strow_fills : OwnSteps.Fills strow where
  stride _ _ := rfl
  apart k k' hk i j h := by
    have h0 : k.val + 1 * (i 0).val = k'.val + 1 * (j 0).val := congrArg (fun x : S2x1024x1024.Idx => (x 0).val) h
    have h1 : (i 0).val < 1 := (i 0).isLt
    have h2 : (j 0).val < 1 := (j 0).isLt
    exact hk (Fin.ext (by omega))
  cover x := by
    refine ⟨x 0, fun a => match a with | 0 => (⟨0, by decide⟩ : Fin 1) | 1 => x 1 | 2 => x 2, ?_⟩
    funext a; apply Fin.ext; fin_cases a
    · show (x 0).val + 1 * 0 = (x 0).val; omega
    · show 0 + 1 * (x 1).val = (x 1).val; omega
    · show 0 + 1 * (x 2).val = (x 2).val; omega

set_option backward.proofsInPublic true in
/-- The tile a column of the result lies in; -/
def tOf (x : S1024x8192.Idx) : Fin 8 := ⟨(x 1).val / 1024, by have h : (x 1).val < 8192 := (x 1).isLt; omega⟩
set_option backward.proofsInPublic true in
/-- and where in that tile an index lies. -/
def jIn (x : S1024x8192.Idx) : S1024x1024.Idx :=
  fun a => match a with | 0 => ⟨(x 0).val, (x 0).isLt⟩ | 1 => ⟨(x 1).val % 1024, Nat.mod_lt _ (by decide)⟩
theorem tcols_jIn (x : S1024x8192.Idx) : (tcols (tOf x)).emb (jIn x) = x := by
  funext a; apply Fin.ext; fin_cases a
  · show 0 + 1 * (x 0).val = (x 0).val; omega
  · show 1024 * ((x 1).val / 1024) + 1 * ((x 1).val % 1024) = (x 1).val; omega
theorem tcols_fills : OwnSteps.Fills tcols where
  stride _ _ := rfl
  apart k k' hk i j := tcols_ne hk i j
  cover x := ⟨tOf x, jIn x, tcols_jIn x⟩

/-! ## Whole buffers -/

/-- A whole buffer at some contents. -/
def anyB (b : Ref sig .tc) (c : Dev nD) : sProp 𝕄 := iprop(∃ f : Buf (Elt F) ((c : Thread nD τ).loc b), ((c : Thread nD τ).loc b) ↦{fullShare} f)

theorem anyB_owns (b : Ref sig .tc) (c : Dev nD) :
    (anyB b c : sProp 𝕄) = iprop(∃ X : b.ty.Contents (Elt F), owns (c : Thread nD τ) (Memref.whole b) fullShare X) := by
  unfold anyB
  simp only [owns_whole]

/-- A slot buffer is its six slots. -/
theorem slots_cut {b : Ref sig .tc} (M : Memref sig .tc .vmem S6x1024x512 .bf16) (c : Dev nD)
    (h : (anyB b c : sProp 𝕄) = iprop(∃ X : S6x1024x512.Idx → Elt F .bf16, owns (c : Thread nD τ) M fullShare X)) :
    (anyB b c : sProp 𝕄) ⊢ bigSep Finset.univ fun k => slotA M k c := by
  rw [h]
  exact any_cut krow_fills M c
theorem slots_join {b : Ref sig .tc} (M : Memref sig .tc .vmem S6x1024x512 .bf16) (c : Dev nD)
    (h : (anyB b c : sProp 𝕄) = iprop(∃ X : S6x1024x512.Idx → Elt F .bf16, owns (c : Thread nD τ) M fullShare X)) :
    (bigSep Finset.univ fun k => slotA M k c) ⊢ (anyB b c : sProp 𝕄) := by
  rw [h]
  exact any_join krow_fills M c

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin2 (Φ : Fin 2 → sProp 𝕄) : bigSep Finset.univ Φ = iprop(Φ 0 ∗ Φ 1) :=
  bigSep_univ_eq_bigSepL [0, 1] (by decide) (by decide) Φ

theorem stage_cut (c : Dev nD) : (anyB cc0_scratch2 c : sProp 𝕄) ⊢ iprop(stA 0 c ∗ stA 1 c) := by
  rw [anyB_owns, ← bigSep_fin2 (fun s => stA s c)]
  refine (any_cut strow_fills stM c).trans (bigSep_mono fun s _ => ?_)
  show iprop(∃ Z : S1x1024x1024.Idx → Elt F .f32, owns (c : Thread nD τ) (stslot s) fullShare Z) ⊢ (stA s c : sProp 𝕄)
  unfold stA
  iintro ⟨%Z, H⟩
  iexists _
  iapply (show (owns (c : Thread nD τ) (stslot s) fullShare Z : sProp 𝕄) ⊢ _ from Entails.of_eq (stQ_slot s c Z)) $$ H
theorem stage_join (c : Dev nD) : iprop(stA 0 c ∗ stA 1 c) ⊢ (anyB cc0_scratch2 c : sProp 𝕄) := by
  rw [anyB_owns, ← bigSep_fin2 (fun s => stA s c)]
  refine (bigSep_mono fun s _ => ?_).trans (any_join strow_fills stM c)
  show (stA s c : sProp 𝕄) ⊢ iprop(∃ Z : S1x1024x1024.Idx → Elt F .f32, owns (c : Thread nD τ) (stslot s) fullShare Z)
  unfold stA
  iintro ⟨%Y, H⟩
  iexists _
  iapply (show (stQ s c Y : sProp 𝕄) ⊢ _ from Entails.of_eq (slot_stQ s c Y)) $$ H

/-- The landed maxima's buffer is its three rows. -/
theorem arrows_cut (c : Dev nD) : (anyB cc0_scratch8 c : sProp 𝕄) ⊢ iprop(arA 0 c ∗ arA 1 c ∗ arA 2 c) := by
  rw [anyB_owns, ← bigSep_fin3 (fun k => arA k c)]
  exact any_cut arow_fills arM c

/-- The result's buffer is its eight tiles. -/
theorem result_cut (c : Dev nD) : (anyB main_v1 c : sProp 𝕄) ⊢ iprop(oA 0 c ∗ oA 1 c ∗ oA 2 c ∗ oA 3 c ∗ oA 4 c ∗ oA 5 c ∗ oA 6 c ∗ oA 7 c) := by
  rw [anyB_owns, ← bigSep_fin8 (fun t => oA t c)]
  exact any_cut tcols_fills oM c

/-- What the result holds in the end: in tile `t` what the last pass wrote there. -/
def outV (c : Dev nD) : FVec F S1024x8192 .f32 := fun x => qtT m ρ c (tOf x) (jIn x)

theorem result_join (c : Dev nD) :
    iprop(oQ 0 c (qtT m ρ c 0) ∗ oQ 1 c (qtT m ρ c 1) ∗ oQ 2 c (qtT m ρ c 2) ∗ oQ 3 c (qtT m ρ c 3)
      ∗ oQ 4 c (qtT m ρ c 4) ∗ oQ 5 c (qtT m ρ c 5) ∗ oQ 6 c (qtT m ρ c 6) ∗ oQ 7 c (qtT m ρ c 7))
      ⊢ (((c : Thread nD τ).loc main_v1) ↦{fullShare} outV m ρ c : sProp 𝕄) := by
  rw [← bigSep_fin8 (fun t => oQ t c (qtT m ρ c t))]
  iintro H
  ihave H := (show (bigSep Finset.univ fun t => oQ t c (qtT m ρ c t)) ⊢ iprop(∃ X : S1024x8192.Idx → Elt F .f32, ⌜∀ t j, X ((tcols t).emb j) = qtT m ρ c t j⌝ ∗ owns (c : Thread nD τ) oM fullShare X) from
    OwnSteps.owns_join (Ix := ℕ) (Name := ℕ) (U := UU) (Lvl := ℕ) (Val := Elt F) (c := (c : Thread nD τ)) tcols_fills oM fullShare (fun t => qtT m ρ c t)) $$ H
  icases H with ⟨%X, %hX, H⟩
  have hE : X = outV m ρ c := by
    funext x
    have h := hX (tOf x) (jIn x)
    rw [tcols_jIn] at h
    exact h
  subst hE
  iapply (show (owns (c : Thread nD τ) oM fullShare (outV m ρ c) : sProp 𝕄) ⊢ _ from Entails.of_eq (owns_whole _ _ _ _)) $$ H

/-- The activations, in two halves; -/
theorem x_cut (c : Dev nD) : (((c : Thread nD τ).loc main_arg0) ↦{fullShare} m ((c : Thread nD τ).loc main_arg0) : sProp 𝕄)
    ⊢ iprop(XH m ρ fullShare.left c ∗ XH m ρ fullShare.right c) := by
  unfold XH
  iintro H
  ihave H := (show (((c : Thread nD τ).loc main_arg0) ↦{fullShare} m ((c : Thread nD τ).loc main_arg0) : sProp 𝕄) ⊢ (owns (c : Thread nD τ) xM fullShare (xC m ρ c) : sProp 𝕄) from Entails.of_eq (owns_whole _ _ _ _).symm) $$ H
  iapply (show _ ⊢ _ from (owns_halves (c : Thread nD τ) xM fullShare (xC m ρ c)).1) $$ H
theorem x_join (c : Dev nD) : iprop(XH m ρ fullShare.left c ∗ XH m ρ fullShare.right c)
    ⊢ (((c : Thread nD τ).loc main_arg0) ↦{fullShare} m ((c : Thread nD τ).loc main_arg0) : sProp 𝕄) := by
  unfold XH
  iintro H
  ihave H := (show _ ⊢ _ from (owns_halves (c : Thread nD τ) xM fullShare (xC m ρ c)).2) $$ H
  iapply (show (owns (c : Thread nD τ) xM fullShare (xC m ρ c) : sProp 𝕄) ⊢ _ from Entails.of_eq (owns_whole _ _ _ _)) $$ H
/-- the weights. -/
theorem w_eq (c : Dev nD) : (((c : Thread nD τ).loc main_arg1) ↦{fullShare} m ((c : Thread nD τ).loc main_arg1) : sProp 𝕄) = WH m ρ fullShare c := by
  unfold WH
  exact (owns_whole _ _ _ _).symm

/-- The narrowed copies' buffers, holding nothing yet. -/
theorem xp_intro (c : Dev nD) : (anyB cc0_scratch0 c : sProp 𝕄) ⊢ XP m ρ (fun _ => False) c := by
  rw [anyB_owns]; unfold XP
  iintro ⟨%X, H⟩
  iexists X
  isplitr; · ipureintro; intro d hd; exact hd.elim
  iexact H
theorem wp_intro (c : Dev nD) : (anyB cc0_scratch1 c : sProp 𝕄) ⊢ WP m ρ (fun _ => False) c := by
  rw [anyB_owns]; unfold WP
  iintro ⟨%X, H⟩
  iexists X
  isplitr; · ipureintro; intro d hd; exact hd.elim
  iexact H
theorem xb_back (c : Dev nD) : XB m ρ c ⊢ (anyB cc0_scratch0 c : sProp 𝕄) := by
  rw [anyB_owns]; unfold XB
  iintro H; iexists _; iexact H
theorem wb_back (c : Dev nD) : WB m ρ 4 c ⊢ (anyB cc0_scratch1 c : sProp 𝕄) := by
  rw [anyB_owns]; unfold WB WP
  iintro ⟨%Z, -, H⟩; iexists _; iexact H
theorem as_intro (c : Dev nD) : (anyB cc0_scratch7 c : sProp 𝕄) ⊢ asA c := by
  rw [anyB_owns]; unfold asA
  iintro H; iexact H
theorem as_back (c : Dev nD) : (owns (c : Thread nD τ) asM fullShare (amx m ρ c) : sProp 𝕄) ⊢ anyB cc0_scratch7 c := by
  rw [anyB_owns]
  iintro H; iexists _; iexact H
theorem ar_back (c : Dev nD) : (owns (c : Thread nD τ) arM fullShare (amR m ρ c) : sProp 𝕄) ⊢ anyB cc0_scratch8 c := by
  rw [anyB_owns]
  iintro H; iexists _; iexact H

theorem anyB_s (b : Bool) (c : Dev nD) : (anyB (bif b then cc0_scratch4 else cc0_scratch3) c : sProp 𝕄) = iprop(∃ X : S6x1024x512.Idx → Elt F .bf16, owns (c : Thread nD τ) (sM b) fullShare X) := by
  cases b <;> exact anyB_owns _ c
theorem anyB_r (b : Bool) (c : Dev nD) : (anyB (bif b then cc0_scratch6 else cc0_scratch5) c : sProp 𝕄) = iprop(∃ X : S6x1024x512.Idx → Elt F .bf16, owns (c : Thread nD τ) (rM b) fullShare X) := by
  cases b <;> exact anyB_owns _ c

end Cert.TwoRings

end
-- ==== Proof.Cells.lean ====
/-
The ghost side of the launch: every semaphore of the protocol made a cell, the tokens of its duties minted and
dealt to the devices that pay them, and what each device is owed turned into credits.
-/
module

public import proofs.«01_k».proof.Proof.Body
public import proofs.«01_k».proof.Proof.Gen.KernelIdeal.Launch
public import Idealize.ShloMosaic.Lib.Pipeline.CollectiveSegs
public import Idealize.ShloMosaic.Lib.Pipeline.BigSepL

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The cells by kind -/

/-- A slot of one of the two rings. -/
abbrev BK : Type := Bool × Fin 6

theorem bigSep_bk (Φ : BK → sProp 𝕄) : bigSep Finset.univ Φ
    = bigSepL [(false, 0), (false, 1), (false, 2), (false, 3), (false, 4), (false, 5), (true, 0), (true, 1), (true, 2), (true, 3), (true, 4), (true, 5)] Φ :=
  bigSep_univ_eq_bigSepL _ (by decide) (by decide) Φ

theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

theorem cells_by_kind (Φ : SemLoc sig → sProp 𝕄) : (bigSep Finset.univ fun i : Fin 31 => Φ (csem i))
    = iprop((bigSep Finset.univ fun x : BK => Φ (.dma (sS x.1 x.2))) ∗ (bigSep Finset.univ fun x : BK => Φ (.dma (rS x.1 x.2)))
        ∗ (bigSep Finset.univ fun k : Fin 3 => Φ (.dma (asS k))) ∗ (bigSep Finset.univ fun k : Fin 3 => Φ (.dma (arS k))) ∗ Φ (.reg barS)) := by
  rw [bigSep_univ_eq_bigSepL (([0, 1, 2, 3, 4, 5, 12, 13, 14, 15, 16, 17] : List (Fin 31)) ++ ([6, 7, 8, 9, 10, 11, 18, 19, 20, 21, 22, 23] ++ ([24, 25, 26] ++ ([27, 28, 29] ++ [30]))))
      (by decide) (by decide), bigSepL_append, bigSepL_append, bigSepL_append, bigSepL_append,
    bigSep_bk, bigSep_bk, bigSep_univ_eq_bigSepL [0, 1, 2] (by decide) (by decide), bigSep_univ_eq_bigSepL [0, 1, 2] (by decide) (by decide)]
  rfl

/-- The semaphores the kernel brings: all but the barrier. -/
def osem (i : Fin 34) : SemLoc sig := .dma i
theorem ownSemFacts : Pipeline.OwnSemFacts cfg0.spec osem := by decide

/-- The local copies' counters. -/
def lvs (c : Dev nD) : sProp 𝕄 := iprop(lv0 0 c ∗ lv0 1 c ∗ lv0 2 c ∗ lv0 3 c)

theorem ownSems_by_kind (c : Dev nD) : (Pipeline.ownSems0 (Ix := ℕ) (Name := ℕ) (U := UU) (Lvl := ℕ) (Val := Elt F) (τ := τ) osem c : sProp 𝕄)
    = iprop((bigSep Finset.univ fun x : BK => semVal (scell x.1 x.2 c) 0) ∗ (bigSep Finset.univ fun x : BK => semVal (rcell x.1 x.2 c) 0)
        ∗ (bigSep Finset.univ fun k : Fin 3 => semVal (ascell k c) 0) ∗ (bigSep Finset.univ fun k : Fin 3 => semVal (arcell k c) 0) ∗ lvs c) := by
  rw [Pipeline.ownSems0_eq_of_list c osem (([4, 5, 6, 7, 8, 9, 16, 17, 18, 19, 20, 21] : List (Fin 34)) ++ ([10, 11, 12, 13, 14, 15, 22, 23, 24, 25, 26, 27] ++ ([28, 29, 30] ++ ([31, 32, 33] ++ [0, 1, 2, 3]))))
      (by decide) (by decide), bigSepL_append, bigSepL_append, bigSepL_append, bigSepL_append,
    bigSep_bk, bigSep_bk, bigSep_univ_eq_bigSepL [0, 1, 2] (by decide) (by decide), bigSep_univ_eq_bigSepL [0, 1, 2] (by decide) (by decide)]
  rfl

theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := ℕ) (Name := ℕ) (U := UU) (Lvl := ℕ) (Val := Elt F) (τ := τ) osem c ∗ unscopedSems0 c)
      ⊢ (iprop((bigSep Finset.univ fun i : Fin 31 => semVal (kcell (c, i)) 0) ∗ lvs c) : sProp 𝕄) := by
  rw [ownSems_by_kind, unscopedSems_eq, cells_by_kind (fun sm => semVal ((c : Thread nD τ), sm) 0)]
  iintro ⟨⟨H1, H2, H3, H4, H5⟩, H6⟩
  isplitr [H5]
  · isplitl [H1]; · iexact H1
    isplitl [H2]; · iexact H2
    isplitl [H3]; · iexact H3
    isplitl [H4]; · iexact H4
    iexact H6
  iexact H5

theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-! ## The tokens -/

abbrev TokIx : Type := (BK × Fin 4) ⊕ ((BK × Fin 4) ⊕ (Fin 3 ⊕ (Fin 3 ⊕ Bool)))

/-- A device's tokens as minted: for its own cells. -/
def tokOf (x : Dev nD × TokIx) : GSem nD τ sig × ℕ × Bool :=
  match x.2 with
  | .inl y => (scell y.1.1 y.1.2 x.1, y.2.val, false)
  | .inr (.inl y) => (rcell y.1.1 y.1.2 x.1, y.2.val, false)
  | .inr (.inr (.inl k)) => (ascell k x.1, 0, false)
  | .inr (.inr (.inr (.inl k))) => (arcell k x.1, 0, false)
  | .inr (.inr (.inr (.inr d))) => (barCell x.1, 0, d)

/-- What kind of cell a semaphore is. -/
def kindOf (s : SemLoc sig) : Option Role := match s with | .reg _ => none | .dma q => some (role q)

theorem tokOf_injective : Function.Injective tokOf := by
  rintro ⟨c, j⟩ ⟨c', j'⟩ h
  have h1 : c = c' := by
    have h0 := congrArg (fun x : GSem nD τ sig × ℕ × Bool => x.1.1.1) h
    rcases j with y | y | k | k | d <;> rcases j' with y' | y' | k' | k' | d' <;> exact h0
  subst h1
  have h2 := congrArg (fun x : GSem nD τ sig × ℕ × Bool => kindOf x.1.2) h
  have h3 := congrArg (fun x : GSem nD τ sig × ℕ × Bool => x.2.1) h
  have h4 := congrArg (fun x : GSem nD τ sig × ℕ × Bool => x.2.2) h
  rcases j with ⟨⟨b, k⟩, r⟩ | ⟨⟨b, k⟩, r⟩ | k | k | d <;> rcases j' with ⟨⟨b', k'⟩, r'⟩ | ⟨⟨b', k'⟩, r'⟩ | k' | k' | d' <;>
    simp only [tokOf, kindOf, role_sS, role_rS, role_asS, role_arS, Option.some.injEq, reduceCtorEq, Role.snd.injEq, Role.rcv.injEq, Role.asn.injEq, Role.arc.injEq] at h2 h3 h4
  · obtain ⟨rfl, rfl⟩ := h2; rw [Fin.ext h3]
  · obtain ⟨rfl, rfl⟩ := h2; rw [Fin.ext h3]
  · rw [h2]
  · rw [h2]
  · rw [h4]
def ringToks : Finset (GSem nD τ sig × ℕ × Bool) := Finset.univ.map ⟨tokOf, tokOf_injective⟩

/-- The tokens of a device's own cells; -/
def toks (c : Dev nD) : sProp 𝕄 :=
  iprop((bigSep Finset.univ fun y : BK × Fin 4 => dutyTok ER (scell y.1.1 y.1.2 c) y.2.val false)
    ∗ (bigSep Finset.univ fun y : BK × Fin 4 => dutyTok ER (rcell y.1.1 y.1.2 c) y.2.val false)
    ∗ (bigSep Finset.univ fun k : Fin 3 => dutyTok ER (ascell k c) 0 false)
    ∗ (bigSep Finset.univ fun k : Fin 3 => dutyTok ER (arcell k c) 0 false)
    ∗ bigSep Finset.univ fun d : Bool => dutyTok ER (barCell c) 0 d)
/-- of the duties it pays. -/
def payToks (c : Dev nD) : sProp 𝕄 :=
  iprop((bigSep Finset.univ fun y : BK × Fin 4 => dutyTok ER (scell y.1.1 y.1.2 c) y.2.val false)
    ∗ (bigSep Finset.univ fun y : BK × Fin 4 => dutyTok ER (rcell y.1.1 y.1.2 (dst y.1.1 c)) y.2.val false)
    ∗ (bigSep Finset.univ fun k : Fin 3 => dutyTok ER (ascell k c) 0 false)
    ∗ (bigSep Finset.univ fun k : Fin 3 => dutyTok ER (arcell k (adst k c)) 0 false)
    ∗ bigSep Finset.univ fun d : Bool => dutyTok ER (barCell (dst d c)) 0 d)

theorem toks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks
  rw [bigSep_sum, bigSep_sum, bigSep_sum, bigSep_sum]
  rfl

/-- Cells shifted from device to device, each by its own shift. -/
theorem shift {I : Type} [Fintype I] [DecidableEq I] (f g : I → Dev nD → Dev nD) (h1 : ∀ i c, g i (f i c) = c) (h2 : ∀ i c, f i (g i c) = c) (Φ : I → Dev nD → sProp 𝕄) :
    (bigSep Finset.univ fun c : Dev nD => bigSep Finset.univ fun i => Φ i c) = bigSep Finset.univ fun c : Dev nD => bigSep Finset.univ fun i => Φ i (f i c) := by
  rw [bigSep_univ_comm (fun (c : Dev nD) (i : I) => Φ i c), bigSep_univ_comm (fun (c : Dev nD) (i : I) => Φ i (f i c))]
  exact bigSep_congr fun i _ => bigSep_univ_equiv (⟨f i, g i, h1 i, h2 i⟩ : Dev nD ≃ Dev nD) (Φ i)

/-- Every token dealt to the device that pays the duty. -/
theorem toks_around : (bigSep Finset.univ fun c : Dev nD => (toks c : sProp 𝕄)) = bigSep Finset.univ fun c : Dev nD => payToks c := by
  unfold toks payToks
  simp only [bigSep_sep']
  rw [shift (F := F) (fun (y : BK × Fin 4) c => dst y.1.1 c) (fun y c => src y.1.1 c) (fun y c => src_dst _ c) (fun y c => dst_src _ c) (fun y c => dutyTok ER (rcell y.1.1 y.1.2 c) y.2.val false),
    shift (F := F) (fun (k : Fin 3) c => adst k c) (fun k c => asrc k c) (fun k c => asrc_adst k c) (fun k c => adst_asrc k c) (fun k c => dutyTok ER (arcell k c) 0 false),
    shift (F := F) (fun (d : Bool) c => dst d c) (fun d c => src d c) (fun d c => src_dst d c) (fun d c => dst_src d c) (fun d c => dutyTok ER (barCell c) 0 d)]

/-! ## Every semaphore made a cell -/

def u₀ : UU := (initOf (Pipeline.cells cfgs cellOf_inj) (Pipeline.launchToks cfgs cellOf_inj), (initOf ringCells ringToks, 1))

/-- What the launch element deals device `c`; -/
def G (c : Dev nD) : sProp 𝕄 :=
  iprop((bigSep Finset.univ fun i : Fin 31 => roundState ER (Rd m ρ) (kcell (c, i)) 0)
    ∗ (bigSep Finset.univ fun i : Fin 31 => iprop(atPos ER (kcell (c, i)) 0 ∅ 0 ∗ reached ER (kcell (c, i)) 0)) ∗ toks c)

/-- every cell's invariant, and that its first round is reached; -/
def allCells : sProp 𝕄 :=
  bigSep Finset.univ (fun ci : Dev nD × Fin 31 => iprop((∃ κ, cellInv ER (Rd m ρ) κ (kcell ci)) ∗ reached ER (kcell ci) 0))
instance allCells_persistent : BI.Persistent (allCells (F := F) m ρ) := by unfold allCells; infer_instance
/-- a device's positions, the tokens of its duties and its local counters; -/
def ghost (c : Dev nD) : sProp 𝕄 := iprop((bigSep Finset.univ fun i : Fin 31 => atPos ER (kcell (c, i)) 0 ∅ 0) ∗ payToks c ∗ lvs c)
/-- what the device starts from. -/
def G' (c : Dev nD) : sProp 𝕄 := iprop(allCells m ρ ∗ ghost c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Fin 31 => Φ (kcell (c, i)) := by
    unfold ringCells; rw [bigSep_map, bigSep_univ_prod]; rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat Hr]
  · isplitl [Hat]; · iexact Hat
    iexact Hr
  iexact Htok

/-- One device's cells opened. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ (|={Set.univ}=> iprop((bigSep Finset.univ fun i : Fin 31 => iprop((∃ κ : ℕ, cellInv ER (Rd m ρ) κ (kcell (c, i))) ∗ reached ER (kcell (c, i)) 0))
          ∗ ((bigSep Finset.univ fun i : Fin 31 => atPos ER (kcell (c, i)) 0 ∅ 0) ∗ toks c ∗ lvs c)) : sProp 𝕄) := by
  unfold G
  rw [bigSep_sep', bigSep_sep']
  iintro ⟨Hos, Hus, Hst, ⟨Hat, Hr⟩, Htok⟩
  ihave Hv := (sems_eq (F := F) c) $$ [Hos Hus]
  · isplitl [Hos]; · iexact Hos
    iexact Hus
  icases Hv with ⟨Hv, Hl⟩
  imod (show iprop((bigSep Finset.univ fun i : Fin 31 => semVal (kcell (c, i)) 0) ∗ bigSep Finset.univ fun i : Fin 31 => roundState ER (Rd m ρ) (kcell (c, i)) 0)
      ⊢ (|={Set.univ}=> bigSep Finset.univ fun i : Fin 31 => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv]; · iexact Hv
    iexact Hst
  imodintro
  isplitl [Hinv Hr]
  · isplitl [Hinv]; · iexact Hinv
    iexact Hr
  isplitl [Hat]; · iexact Hat
  isplitl [Htok]; · iexact Htok
  iexact Hl

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' _ _ _).symm)

/-- The step the devices take together: every cell opened, every token dealt. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) := by
  refine ((bigSep_mono fun c _ => core_alloc m ρ c).trans (bigSep_fupd _ _)).trans (show _ ⊢ (_ : sProp 𝕄) from BI.fupd_mono ?_)
  rw [bigSep_sep', bigSep_sep', bigSep_sep', toks_around,
    ← bigSep_univ_prod (fun ci : Dev nD × Fin 31 => iprop((∃ κ : ℕ, cellInv ER (Rd m ρ) κ (kcell ci)) ∗ reached ER (kcell ci) 0))]
  iintro ⟨HI, Hat, Htok, Hl⟩
  iapply (show iprop(allCells m ρ ∗ bigSep Finset.univ fun c => ghost c) ⊢ bigSep Finset.univ (G' m ρ) from with_persistent)
  isplitl [HI]; · unfold allCells; iexact HI
  unfold ghost
  simp only [bigSep_sep']
  isplitl [Hat]; · iexact Hat
  isplitl [Htok]; · iexact Htok
  iexact Hl

/-! ## The credits -/

/-- What device `c` owes at entry: its transfers, and a signal to each neighbour. -/
def O₀ (c : Dev nD) : CellTallies nD τ sig ℕ := (owed c 0 + tallyAt (barCell (nxt c)) 0 1) + tallyAt (barCell (prv c)) 0 1

/-- What it is owed. -/
def creds (c : Dev nD) : sProp 𝕄 :=
  iprop((bigSep Finset.univ fun y : BK × Fin 4 => cred (tallyAt (rcell y.1.1 y.1.2 c) y.2.val N))
    ∗ (bigSep Finset.univ fun k : Fin 3 => cred (tallyAt (arcell k c) 0 NA)) ∗ cred (tallyAt (barCell c) 0 2))

set_option backward.proofsInPublic true in
/-- The transfers, numbered. -/
def nOf (y : (BK × Fin 4) ⊕ Fin 3) : ℕ := match y with | .inl y => 12 * y.2.val + jOf y.1.1 y.1.2 | .inr k => 48 + k.val
theorem nOf_injective : Function.Injective nOf := by decide
theorem nOf_image : Finset.Ico 0 51 = Finset.univ.map ⟨nOf, nOf_injective⟩ := by decide

theorem creds_intro (c : Dev nD) : (Pipeline.launchCred O₀ c : sProp 𝕄) ⊢ creds c := by
  have hO : (O₀ : Dev nD → CellTallies nD τ sig ℕ) = fun d => ((∑ i ∈ Finset.Ico 0 51, tl d i) + tallyAt (barCell (nxt d)) 0 1) + tallyAt (barCell (prv d)) 0 1 := rfl
  rw [hO, Pipeline.launchCred_add, Pipeline.launchCred_add, Pipeline.launchCred_sum (Finset.Ico 0 51) (fun i d => tl d i), nOf_image, bigSep_map, bigSep_sum]
  unfold creds
  iintro ⟨⟨⟨H1, H2⟩, H3⟩, H4⟩
  isplitl [H1]
  · iapply (show (bigSep Finset.univ fun y : BK × Fin 4 => Pipeline.launchCred (fun d => tl d (nOf (.inl y))) c : sProp 𝕄) ⊢ _ from bigSep_mono fun y _ => by
      rw [show (fun d => tl d (nOf (.inl y))) = fun d => tallyAt (rcell y.1.1 y.1.2 (dst y.1.1 d)) y.2.val N from funext fun d => tl_ring d y.1.1 y.1.2 y.2.isLt]
      exact Pipeline.launchCred_tallyAt (.dma (rS y.1.1 y.1.2)) (dst y.1.1) (src y.1.1) (dst_src _) (src_dst _) _ _ c) $$ H1
  isplitl [H2]
  · iapply (show (bigSep Finset.univ fun k : Fin 3 => Pipeline.launchCred (fun d => tl d (nOf (.inr k))) c : sProp 𝕄) ⊢ _ from bigSep_mono fun k _ => by
      rw [show (fun d => tl d (nOf (.inr k))) = fun d => tallyAt (arcell k (adst k d)) 0 NA from funext fun d => tl_max d k]
      exact Pipeline.launchCred_tallyAt (.dma (arS k)) (adst k) (asrc k) (adst_asrc k) (asrc_adst k) _ _ c) $$ H2
  ihave H3 := (Pipeline.launchCred_tallyAt (.reg barS) nxt prv nxt_prv prv_nxt 0 1 c) $$ H3
  ihave H4 := (Pipeline.launchCred_tallyAt (.reg barS) prv nxt prv_nxt nxt_prv 0 1 c) $$ H4
  iapply (show iprop(cred (tallyAt (barCell c) 0 1) ∗ cred (tallyAt (barCell c) 0 1)) ⊢ (cred (tallyAt (barCell c) 0 2) : sProp 𝕄) from
    ((cred_add _ _).2).trans (Entails.of_eq (by rw [tallyAt_add])))
  isplitl [H3]; · iexact H3
  iexact H4

end Cert.TwoRings

end
-- ==== Proof.Launch.lean ====
/-
The launch: each device's resources as the body wants them, the body's obligation, what the exit gives back, and the
run of the whole program on every device.
-/
module

public import proofs.«01_k».proof.Proof.Buffers
public import proofs.«01_k».proof.Proof.Cells
public import proofs.«01_k».proof.Proof.Gen.KernelIdeal.Points

@[expose] public section

noncomputable section

namespace Cert.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ) (ρ : Dev nD → PrngReg)

/-! ## The families, slot by slot -/

theorem bk_eq (Φ : BK → sProp 𝕄) : bigSep Finset.univ Φ = iprop(Φ (false, 0) ∗ Φ (false, 1) ∗ Φ (false, 2) ∗ Φ (false, 3) ∗ Φ (false, 4) ∗ Φ (false, 5) ∗ Φ (true, 0) ∗ Φ (true, 1) ∗ Φ (true, 2) ∗ Φ (true, 3) ∗ Φ (true, 4) ∗ Φ (true, 5)) :=
  bigSep_univ_eq_bigSepL [(false, 0), (false, 1), (false, 2), (false, 3), (false, 4), (false, 5), (true, 0), (true, 1), (true, 2), (true, 3), (true, 4), (true, 5)] (by decide) (by decide) Φ
theorem bk_intro (Φ : BK → sProp 𝕄) : iprop(Φ (false, 0) ∗ Φ (false, 1) ∗ Φ (false, 2) ∗ Φ (false, 3) ∗ Φ (false, 4) ∗ Φ (false, 5) ∗ Φ (true, 0) ∗ Φ (true, 1) ∗ Φ (true, 2) ∗ Φ (true, 3) ∗ Φ (true, 4) ∗ Φ (true, 5)) ⊢ bigSep Finset.univ Φ := Entails.of_eq (bk_eq Φ).symm
theorem bk_elim (Φ : BK → sProp 𝕄) : bigSep Finset.univ Φ ⊢ iprop(Φ (false, 0) ∗ Φ (false, 1) ∗ Φ (false, 2) ∗ Φ (false, 3) ∗ Φ (false, 4) ∗ Φ (false, 5) ∗ Φ (true, 0) ∗ Φ (true, 1) ∗ Φ (true, 2) ∗ Φ (true, 3) ∗ Φ (true, 4) ∗ Φ (true, 5)) := Entails.of_eq (bk_eq Φ)
theorem k3_intro (Φ : Fin 3 → sProp 𝕄) : iprop(Φ 0 ∗ Φ 1 ∗ Φ 2) ⊢ bigSep Finset.univ Φ := Entails.of_eq (bigSep_fin3 Φ).symm
theorem k3_elim (Φ : Fin 3 → sProp 𝕄) : bigSep Finset.univ Φ ⊢ iprop(Φ 0 ∗ Φ 1 ∗ Φ 2) := Entails.of_eq (bigSep_fin3 Φ)

theorem ico_eq (Φ : ℕ → sProp 𝕄) : bigSep (Finset.Ico 0 4) Φ = bigSep Finset.univ fun r : Fin 4 => Φ r.val := by
  rw [bigSep_eq_bigSepL_of_eq [0, 1, 2, 3] (by decide) (by decide), bigSep_univ_eq_bigSepL [0, 1, 2, 3] (by decide) (by decide)]
  rfl

theorem split4 (Φ : BK → Fin 4 → sProp 𝕄) :
    (bigSep Finset.univ fun y : BK × Fin 4 => Φ y.1 y.2) = bigSep Finset.univ fun x : BK => bigSep Finset.univ fun r : Fin 4 => Φ x r := bigSep_univ_prod _
theorem rings_eq (Φ : BK → sProp 𝕄) :
    bigSep Finset.univ Φ = iprop((bigSep Finset.univ fun k : Fin 6 => Φ (false, k)) ∗ (bigSep Finset.univ fun k : Fin 6 => Φ (true, k))) := by
  refine (bigSep_univ_prod Φ).trans ((bigSep_univ_eq_bigSepL [false, true] (by decide) (by decide) _).trans ?_)
  rfl
theorem sep_eq {I : Type} [Fintype I] (Φ Ψ : I → sProp 𝕄) :
    iprop((bigSep Finset.univ Φ) ∗ bigSep Finset.univ Ψ) = bigSep Finset.univ fun i => iprop(Φ i ∗ Ψ i) := (bigSep_sep' _ _ _).symm

/-- The send slots at entry. -/
theorem si_intro (c : Dev nD) :
    iprop(Ctx m ρ ∗ (bigSep Finset.univ fun x : BK => slotA (sM x.1) x.2 c) ∗ (bigSep Finset.univ fun x : BK => atPos ER (scell x.1 x.2 c) 0 ∅ 0)
        ∗ (bigSep Finset.univ fun y : BK × Fin 4 => dutyTok ER (scell y.1.1 y.1.2 c) y.2.val false)
        ∗ (bigSep Finset.univ fun y : BK × Fin 4 => dutyTok ER (rcell y.1.1 y.1.2 (dst y.1.1 c)) y.2.val false))
      ⊢ (bigSep Finset.univ fun x : BK => SI x.1 x.2 0 c : sProp 𝕄) := by
  rw [split4 (fun x r => dutyTok ER (scell x.1 x.2 c) r.val false), split4 (fun x r => dutyTok ER (rcell x.1 x.2 (dst x.1 c)) r.val false), sep_eq, sep_eq, sep_eq]
  refine (with_persistent (R := Ctx m ρ)).trans (bigSep_mono fun x _ => ?_)
  show iprop(Ctx m ρ ∗ slotA (sM x.1) x.2 c ∗ atPos ER (scell x.1 x.2 c) 0 ∅ 0 ∗ (bigSep Finset.univ fun r : Fin 4 => dutyTok ER (scell x.1 x.2 c) r.val false)
    ∗ (bigSep Finset.univ fun r : Fin 4 => dutyTok ER (rcell x.1 x.2 (dst x.1 c)) r.val false)) ⊢ (SI x.1 x.2 0 c : sProp 𝕄)
  unfold SI SR TS
  rw [if_pos rfl, ico_eq, bigSep_sep']
  iintro ⟨HC, H1, H2, H3, H4⟩
  ihave HC := (Ctx_s m ρ x.1 x.2 c) $$ HC
  icases HC with ⟨-, HR⟩
  isplitl [H1]; · iexact H1
  isplitl [H2]; · iexact H2
  isplitl [HR]; · iexact HR
  isplitl [H3]; · iexact H3
  iexact H4

/-- The landing slots' positions and credits at entry; -/
theorem ri_intro (c : Dev nD) :
    iprop((bigSep Finset.univ fun x : BK => atPos ER (rcell x.1 x.2 c) 0 ∅ 0)
        ∗ (bigSep Finset.univ fun y : BK × Fin 4 => cred (tallyAt (rcell y.1.1 y.1.2 c) y.2.val N)))
      ⊢ (bigSep Finset.univ fun x : BK => RI x.1 x.2 0 c : sProp 𝕄) := by
  rw [split4 (fun x r => cred (tallyAt (rcell x.1 x.2 c) r.val N)), sep_eq]
  refine bigSep_mono fun x _ => ?_
  unfold RI CR
  rw [ico_eq]
  exact show iprop(atPos ER (rcell x.1 x.2 c) 0 ∅ 0 ∗ bigSep Finset.univ fun r : Fin 4 => cred (tallyAt (rcell x.1 x.2 c) r.val N)) ⊢ (_ : sProp 𝕄) from .rfl
/-- and their buffers, to be given away. -/
theorem dg_intro (c : Dev nD) :
    iprop(Ctx m ρ ∗ bigSep Finset.univ fun x : BK => slotA (rM x.1) x.2 c) ⊢ (bigSep Finset.univ fun x : BK => DG x.1 x.2 0 c : sProp 𝕄) := by
  refine (with_persistent (R := Ctx m ρ)).trans (bigSep_mono fun x _ => ?_)
  show iprop(Ctx m ρ ∗ slotA (rM x.1) x.2 c) ⊢ (DG x.1 x.2 0 c : sProp 𝕄)
  unfold DG
  iintro ⟨HC, H1⟩
  ihave HC := (Ctx_r m ρ x.1 x.2 c) $$ HC
  icases HC with ⟨-, HR⟩
  isplitl [H1]; · iexact H1
  iexact HR
theorem as_all (c : Dev nD) :
    iprop((bigSep Finset.univ fun k : Fin 3 => atPos ER (ascell k c) 0 ∅ 0) ∗ (bigSep Finset.univ fun k : Fin 3 => dutyTok ER (ascell k c) 0 false)
        ∗ (bigSep Finset.univ fun k : Fin 3 => dutyTok ER (arcell k (adst k c)) 0 false))
      ⊢ (bigSep Finset.univ fun k : Fin 3 => AS k c : sProp 𝕄) := by
  rw [sep_eq, sep_eq]
  exact .rfl
theorem ar_all (c : Dev nD) :
    iprop((bigSep Finset.univ fun k : Fin 3 => atPos ER (arcell k c) 0 ∅ 0) ∗ (bigSep Finset.univ fun k : Fin 3 => cred (tallyAt (arcell k c) 0 NA)))
      ⊢ (bigSep Finset.univ fun k : Fin 3 => AR k c : sProp 𝕄) := by
  rw [sep_eq]
  exact .rfl

theorem bool_elim (Φ : Bool → sProp 𝕄) : bigSep Finset.univ Φ ⊢ iprop(Φ false ∗ Φ true) :=
  Entails.of_eq (bigSep_univ_eq_bigSepL [false, true] (by decide) (by decide) Φ)

/-- The send buffers of the two rings, slot by slot; -/
theorem sm_cut (c : Dev nD) : iprop(anyB cc0_scratch3 c ∗ anyB cc0_scratch4 c) ⊢ (bigSep Finset.univ fun x : BK => slotA (sM x.1) x.2 c : sProp 𝕄) := by
  rw [rings_eq]
  iintro ⟨H1, H2⟩
  isplitl [H1]
  · iapply (slots_cut (b := cc0_scratch3) (sM false) c (anyB_s false c)) $$ H1
  · iapply (slots_cut (b := cc0_scratch4) (sM true) c (anyB_s true c)) $$ H2
theorem sm_join (c : Dev nD) : (bigSep Finset.univ fun x : BK => slotA (sM x.1) x.2 c : sProp 𝕄) ⊢ iprop(anyB cc0_scratch3 c ∗ anyB cc0_scratch4 c) := by
  rw [rings_eq]
  iintro ⟨H1, H2⟩
  isplitl [H1]
  · iapply (slots_join (b := cc0_scratch3) (sM false) c (anyB_s false c)) $$ H1
  · iapply (slots_join (b := cc0_scratch4) (sM true) c (anyB_s true c)) $$ H2
/-- the landing buffers. -/
theorem rm_cut (c : Dev nD) : iprop(anyB cc0_scratch5 c ∗ anyB cc0_scratch6 c) ⊢ (bigSep Finset.univ fun x : BK => slotA (rM x.1) x.2 c : sProp 𝕄) := by
  rw [rings_eq]
  iintro ⟨H1, H2⟩
  isplitl [H1]
  · iapply (slots_cut (b := cc0_scratch5) (rM false) c (anyB_r false c)) $$ H1
  · iapply (slots_cut (b := cc0_scratch6) (rM true) c (anyB_r true c)) $$ H2
theorem rm_join (c : Dev nD) : (bigSep Finset.univ fun x : BK => slotA (rM x.1) x.2 c : sProp 𝕄) ⊢ iprop(anyB cc0_scratch5 c ∗ anyB cc0_scratch6 c) := by
  rw [rings_eq]
  iintro ⟨H1, H2⟩
  isplitl [H1]
  · iapply (slots_join (b := cc0_scratch5) (rM false) c (anyB_r false c)) $$ H1
  · iapply (slots_join (b := cc0_scratch6) (rM true) c (anyB_r true c)) $$ H2

/-! ## Into the body -/

/-- What device `c` brings to its body, the scratch buffers apart. -/
def Xs (c : Dev nD) : sProp 𝕄 :=
  iprop(Ctx m ρ ∗ ghost c ∗ creds c ∗ (((c : Thread nD τ).loc main_arg0) ↦{fullShare} m ((c : Thread nD τ).loc main_arg0))
    ∗ (((c : Thread nD τ).loc main_arg1) ↦{fullShare} m ((c : Thread nD τ).loc main_arg1)) ∗ anyB main_v1 c)

/-- The scratch buffers. -/
def scr (c : Dev nD) : sProp 𝕄 :=
  iprop(anyB cc0_scratch0 c ∗ anyB cc0_scratch1 c ∗ anyB cc0_scratch2 c ∗ anyB cc0_scratch3 c ∗ anyB cc0_scratch4 c ∗ anyB cc0_scratch5 c ∗ anyB cc0_scratch6 c
    ∗ anyB cc0_scratch7 c ∗ anyB cc0_scratch8 c)
theorem scr_eq (c : Dev nD) : (Pipeline.scopedRest cfg0.spec c : sProp 𝕄) = scr c := scopedRest0_eq c

set_option maxHeartbeats 4000000 in
theorem enter (c : Dev nD) : iprop(Xs m ρ c ∗ scr c ∗ ∃ W, owes (c : Thread nD τ) (O₀ c) W) ⊢ iprop(Ctx m ρ ∗ Start m ρ c) := by
  unfold Xs ghost creds payToks lvs scr
  rw [cells_by_kind (fun sm => atPos ER ((c : Thread nD τ), sm) 0 ∅ 0)]
  iintro ⟨⟨#HC, ⟨⟨Ps, Pr, Pas, Par, Pb⟩, ⟨Ts, Tr, Tas, Tar, Tb⟩, ⟨HL0, HL1, HL2, HL3⟩⟩, ⟨Cr, Car, Cb⟩, Hx, Hw, Ho⟩, ⟨B0, B1, B2, B3, B4, B5, B6, B7, B8⟩, HO⟩
  isplitr; · iexact HC
  ihave Hs := (sm_cut (F := F) c) $$ [B3 B4]
  · isplitl [B3]; · iexact B3
    iexact B4
  ihave Hs := (si_intro m ρ c) $$ [Hs Ps Ts Tr]
  · isplitr; · iexact HC
    isplitl [Hs]; · iexact Hs
    isplitl [Ps]; · iexact Ps
    isplitl [Ts]; · iexact Ts
    iexact Tr
  ihave Hs := (bk_elim (fun x : BK => SI x.1 x.2 0 c)) $$ Hs
  icases Hs with ⟨HSf0, HSf1, HSf2, HSf3, HSf4, HSf5, HSt0, HSt1, HSt2, HSt3, HSt4, HSt5⟩
  ihave Hr := (ri_intro (F := F) c) $$ [Pr Cr]
  · isplitl [Pr]; · iexact Pr
    iexact Cr
  ihave Hr := (bk_elim (fun x : BK => RI x.1 x.2 0 c)) $$ Hr
  icases Hr with ⟨HRf0, HRf1, HRf2, HRf3, HRf4, HRf5, HRt0, HRt1, HRt2, HRt3, HRt4, HRt5⟩
  ihave Hd := (rm_cut (F := F) c) $$ [B5 B6]
  · isplitl [B5]; · iexact B5
    iexact B6
  ihave Hd := (dg_intro m ρ c) $$ [Hd]
  · isplitr; · iexact HC
    iexact Hd
  ihave Hd := (bk_elim (fun x : BK => DG x.1 x.2 0 c)) $$ Hd
  icases Hd with ⟨HDf0, HDf1, HDf2, HDf3, HDf4, HDf5, HDt0, HDt1, HDt2, HDt3, HDt4, HDt5⟩
  ihave Ha := (as_all (F := F) c) $$ [Pas Tas Tar]
  · isplitl [Pas]; · iexact Pas
    isplitl [Tas]; · iexact Tas
    iexact Tar
  ihave Ha := (k3_elim (fun k => AS k c)) $$ Ha
  icases Ha with ⟨HAS0, HAS1, HAS2⟩
  ihave Ha := (ar_all (F := F) c) $$ [Par Car]
  · isplitl [Par]; · iexact Par
    iexact Car
  ihave Ha := (k3_elim (fun k => AR k c)) $$ Ha
  icases Ha with ⟨HAR0, HAR1, HAR2⟩
  ihave Ha := (arrows_cut (F := F) c) $$ B8
  icases Ha with ⟨HA0, HA1, HA2⟩
  ihave Has := (as_intro (F := F) c) $$ B7
  ihave Ht := (stage_cut (F := F) c) $$ B2
  icases Ht with ⟨HT0, HT1⟩
  ihave HXP := (xp_intro m ρ c) $$ B0
  ihave HWP := (wp_intro m ρ c) $$ B1
  ihave Hx := (x_cut m ρ c) $$ Hx
  icases Hx with ⟨HX0, HX1⟩
  ihave HW := (Entails.of_eq (w_eq m ρ c)) $$ Hw
  ihave Ho := (result_cut (F := F) c) $$ Ho
  icases Ho with ⟨HO0, HO1, HO2, HO3, HO4, HO5, HO6, HO7⟩
  ihave Tb := (bool_elim (fun d : Bool => dutyTok ER (barCell (dst d c)) 0 d)) $$ Tb
  icases Tb with ⟨Tb0, Tb1⟩
  ihave HB := (show iprop((∃ W, owes (c : Thread nD τ) (O₀ c) W) ∗ dutyTok ER (barCell (prv c)) 0 true ∗ dutyTok ER (barCell (nxt c)) 0 false
      ∗ atPos ER (barCell c) 0 ∅ 0 ∗ cred (tallyAt (barCell c) 0 2)) ⊢ (BarS c : sProp 𝕄) from .rfl) $$ [HO Tb0 Tb1 Pb Cb]
  · isplitl [HO]; · iexact HO
    isplitl [Tb1]; · iexact Tb1
    isplitl [Tb0]; · iexact Tb0
    isplitl [Pb]; · iexact Pb
    iexact Cb
  unfold Start
  isplitl [HB]; · iexact HB
  isplitl [HDf0]; · iexact HDf0
  isplitl [HDf1]; · iexact HDf1
  isplitl [HDf2]; · iexact HDf2
  isplitl [HDf3]; · iexact HDf3
  isplitl [HDt0]; · iexact HDt0
  isplitl [HDt1]; · iexact HDt1
  isplitl [HDt2]; · iexact HDt2
  isplitl [HA0]; · iexact HA0
  isplitl [HA1]; · iexact HA1
  isplitl [HA2]; · iexact HA2
  isplitl [HX0]; · iexact HX0
  isplitl [HT0]; · iexact HT0
  isplitl [HL0]; · iexact HL0
  isplitl [HX1]; · iexact HX1
  isplitl [HT1]; · iexact HT1
  isplitl [HL1]; · iexact HL1
  isplitl [HXP]; · iexact HXP
  isplitl [HW]; · iexact HW
  isplitl [HWP]; · iexact HWP
  isplitl [HSf0]; · iexact HSf0
  isplitl [HSf1]; · iexact HSf1
  isplitl [HSf2]; · iexact HSf2
  isplitl [HSf3]; · iexact HSf3
  isplitl [HSf4]; · iexact HSf4
  isplitl [HSf5]; · iexact HSf5
  isplitl [HSt0]; · iexact HSt0
  isplitl [HSt1]; · iexact HSt1
  isplitl [HSt2]; · iexact HSt2
  isplitl [HSt3]; · iexact HSt3
  isplitl [HSt4]; · iexact HSt4
  isplitl [HSt5]; · iexact HSt5
  isplitl [HRf0]; · iexact HRf0
  isplitl [HRf1]; · iexact HRf1
  isplitl [HRf2]; · iexact HRf2
  isplitl [HRf3]; · iexact HRf3
  isplitl [HRf4]; · iexact HRf4
  isplitl [HRf5]; · iexact HRf5
  isplitl [HRt0]; · iexact HRt0
  isplitl [HRt1]; · iexact HRt1
  isplitl [HRt2]; · iexact HRt2
  isplitl [HRt3]; · iexact HRt3
  isplitl [HRt4]; · iexact HRt4
  isplitl [HRt5]; · iexact HRt5
  isplitl [HDt3]; · iexact HDt3
  isplitl [HDt4]; · iexact HDt4
  isplitl [HDt5]; · iexact HDt5
  isplitl [HDf4]; · iexact HDf4
  isplitl [HDf5]; · iexact HDf5
  isplitl [HO0]; · iexact HO0
  isplitl [HO1]; · iexact HO1
  isplitl [HO2]; · iexact HO2
  isplitl [HO3]; · iexact HO3
  isplitl [HO4]; · iexact HO4
  isplitl [HO5]; · iexact HO5
  isplitl [HO6]; · iexact HO6
  isplitl [HO7]; · iexact HO7
  isplitl [HL2]; · iexact HL2
  isplitl [HL3]; · iexact HL3
  isplitl [Has]; · iexact Has
  isplitl [HAS0]; · iexact HAS0
  isplitl [HAS1]; · iexact HAS1
  isplitl [HAS2]; · iexact HAS2
  isplitl [HAR0]; · iexact HAR0
  isplitl [HAR1]; · iexact HAR1
  iexact HAR2

/-! ## Out of the body -/

theorem duties_bar_later (c : Dev nD) : ∀ r, 1 ≤ r → (Rd (F := F) m ρ).duties (barCell c) r = ∅ := fun r hr => if_neg (by omega)

/-- A cell whose rounds are over gives its counter back at zero. -/
theorem close_cell {g : GSem nD τ sig} {R : ℕ} (hR : ∀ r, R ≤ r → (Rd (F := F) m ρ).duties g r = ∅) :
    iprop((∃ κ, cellInv ER (Rd m ρ) κ g) ∗ atPos ER g R ∅ 0) ⊢ (|={Set.univ}=> semVal g 0 : sProp 𝕄) := by
  iintro ⟨⟨%κ, HI⟩, Hat⟩
  imod (Rounds.cell_close ER (Rd m ρ) (Set.mem_univ κ) (fun h => h) (R := R) hR) $$ [HI Hat] with Hz
  · isplitl [HI]; · iexact HI
    iexact Hat
  imodintro
  iexact Hz

theorem close_s (c : Dev nD) : iprop(Ctx m ρ ∗ bigSep Finset.univ fun x : BK => SR x.1 x.2 4 c)
    ⊢ (|={Set.univ}=> bigSep Finset.univ fun x : BK => semVal (scell x.1 x.2 c) 0 : sProp 𝕄) := by
  refine ((with_persistent (R := Ctx m ρ)).trans (bigSep_mono fun x _ => ?_)).trans (bigSep_fupd _ _)
  show iprop(Ctx m ρ ∗ SR x.1 x.2 4 c) ⊢ (|={Set.univ}=> semVal (scell x.1 x.2 c) 0 : sProp 𝕄)
  unfold SR
  iintro ⟨HC, Hat, -, -⟩
  ihave HC := (Ctx_s m ρ x.1 x.2 c) $$ HC
  icases HC with ⟨HI, -⟩
  iapply (close_cell m ρ (duties_s_later m ρ c x.1 x.2))
  isplitl [HI]; · iexact HI
  iexact Hat
theorem close_r (c : Dev nD) : iprop(Ctx m ρ ∗ bigSep Finset.univ fun x : BK => RI x.1 x.2 4 c)
    ⊢ (|={Set.univ}=> bigSep Finset.univ fun x : BK => semVal (rcell x.1 x.2 c) 0 : sProp 𝕄) := by
  refine ((with_persistent (R := Ctx m ρ)).trans (bigSep_mono fun x _ => ?_)).trans (bigSep_fupd _ _)
  show iprop(Ctx m ρ ∗ RI x.1 x.2 4 c) ⊢ (|={Set.univ}=> semVal (rcell x.1 x.2 c) 0 : sProp 𝕄)
  unfold RI
  iintro ⟨HC, Hat, -⟩
  ihave HC := (Ctx_r m ρ x.1 x.2 c) $$ HC
  icases HC with ⟨HI, -⟩
  iapply (close_cell m ρ (duties_r_later m ρ c x.1 x.2))
  isplitl [HI]; · iexact HI
  iexact Hat
theorem close_as (c : Dev nD) : iprop(Ctx m ρ ∗ bigSep Finset.univ fun k : Fin 3 => atPos ER (ascell k c) 1 ∅ 0)
    ⊢ (|={Set.univ}=> bigSep Finset.univ fun k : Fin 3 => semVal (ascell k c) 0 : sProp 𝕄) := by
  refine ((with_persistent (R := Ctx m ρ)).trans (bigSep_mono fun k _ => ?_)).trans (bigSep_fupd _ _)
  show iprop(Ctx m ρ ∗ atPos ER (ascell k c) 1 ∅ 0) ⊢ (|={Set.univ}=> semVal (ascell k c) 0 : sProp 𝕄)
  iintro ⟨HC, Hat⟩
  ihave HC := (Ctx_as m ρ k c) $$ HC
  icases HC with ⟨HI, -⟩
  iapply (close_cell m ρ (duties_as_later m ρ c k))
  isplitl [HI]; · iexact HI
  iexact Hat
theorem close_ar (c : Dev nD) : iprop(Ctx m ρ ∗ bigSep Finset.univ fun k : Fin 3 => atPos ER (arcell k c) 1 ∅ 0)
    ⊢ (|={Set.univ}=> bigSep Finset.univ fun k : Fin 3 => semVal (arcell k c) 0 : sProp 𝕄) := by
  refine ((with_persistent (R := Ctx m ρ)).trans (bigSep_mono fun k _ => ?_)).trans (bigSep_fupd _ _)
  show iprop(Ctx m ρ ∗ atPos ER (arcell k c) 1 ∅ 0) ⊢ (|={Set.univ}=> semVal (arcell k c) 0 : sProp 𝕄)
  iintro ⟨HC, Hat⟩
  ihave HC := (Ctx_ar m ρ k c) $$ HC
  icases HC with ⟨HI, -⟩
  iapply (close_cell m ρ (duties_ar_later m ρ c k))
  isplitl [HI]; · iexact HI
  iexact Hat

/-- What a device holds in the end: the barrier's counter at zero, its arguments as they were, its result. -/
def Ys (c : Dev nD) : sProp 𝕄 :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1)) ∗ (((c : Thread nD τ).loc main_v1) ↦{fullShare} outV m ρ c))

set_option maxHeartbeats 4000000 in
theorem leave (c : Dev nD) : iprop(Ctx m ρ ∗ Done m ρ c)
    ⊢ (|={Set.univ}=> iprop(Own 51 c ∗ Ys m ρ c ∗ Pipeline.ownSems0 (Ix := ℕ) (Name := ℕ) (U := UU) (Lvl := ℕ) (Val := Elt F) (τ := τ) osem c ∗ scr c) : sProp 𝕄) := by
  unfold Done Ys scr
  iintro ⟨#HC, HO, Pb, HSf0, HSf1, HSf2, HSf3, HSf4, HSf5, HSt0, HSt1, HSt2, HSt3, HSt4, HSt5, HRf0, HRf1, HRf2, HRf3, HRf4, HRf5, HRt0, HRt1, HRt2, HRt3, HRt4, HRt5, As0, As1, As2, Ar0, Ar1, Ar2, HL0, HL1, HL2, HL3, Lsf0, Lsf1, Lsf2, Lsf3, Lsf4, Lsf5, Lst0, Lst1, Lst2, Lst3, Lst4, Lst5, Lrf0, Lrf1, Lrf2, Lrf3, Lrf4, Lrf5, Lrt0, Lrt1, Lrt2, Lrt3, Lrt4, Lrt5, HXB, HWB, HT0, HT1, Has, Har, HX0, HX1, HW, HO0, HO1, HO2, HO3, HO4, HO5, HO6, HO7⟩
  ihave Hs := (bk_intro (fun x : BK => SR x.1 x.2 4 c)) $$ [HSf0 HSf1 HSf2 HSf3 HSf4 HSf5 HSt0 HSt1 HSt2 HSt3 HSt4 HSt5]
  · isplitl [HSf0]; · iexact HSf0
    isplitl [HSf1]; · iexact HSf1
    isplitl [HSf2]; · iexact HSf2
    isplitl [HSf3]; · iexact HSf3
    isplitl [HSf4]; · iexact HSf4
    isplitl [HSf5]; · iexact HSf5
    isplitl [HSt0]; · iexact HSt0
    isplitl [HSt1]; · iexact HSt1
    isplitl [HSt2]; · iexact HSt2
    isplitl [HSt3]; · iexact HSt3
    isplitl [HSt4]; · iexact HSt4
    iexact HSt5
  imod (close_s m ρ c) $$ [Hs] with Zs
  · isplitr; · iexact HC
    iexact Hs
  ihave Hr := (bk_intro (fun x : BK => RI x.1 x.2 4 c)) $$ [HRf0 HRf1 HRf2 HRf3 HRf4 HRf5 HRt0 HRt1 HRt2 HRt3 HRt4 HRt5]
  · isplitl [HRf0]; · iexact HRf0
    isplitl [HRf1]; · iexact HRf1
    isplitl [HRf2]; · iexact HRf2
    isplitl [HRf3]; · iexact HRf3
    isplitl [HRf4]; · iexact HRf4
    isplitl [HRf5]; · iexact HRf5
    isplitl [HRt0]; · iexact HRt0
    isplitl [HRt1]; · iexact HRt1
    isplitl [HRt2]; · iexact HRt2
    isplitl [HRt3]; · iexact HRt3
    isplitl [HRt4]; · iexact HRt4
    iexact HRt5
  imod (close_r m ρ c) $$ [Hr] with Zr
  · isplitr; · iexact HC
    iexact Hr
  ihave Ha := (k3_intro (fun k => atPos ER (ascell k c) 1 ∅ 0)) $$ [As0 As1 As2]
  · isplitl [As0]; · iexact As0
    isplitl [As1]; · iexact As1
    iexact As2
  imod (close_as m ρ c) $$ [Ha] with Zas
  · isplitr; · iexact HC
    iexact Ha
  ihave Ha := (k3_intro (fun k => atPos ER (arcell k c) 1 ∅ 0)) $$ [Ar0 Ar1 Ar2]
  · isplitl [Ar0]; · iexact Ar0
    isplitl [Ar1]; · iexact Ar1
    iexact Ar2
  imod (close_ar m ρ c) $$ [Ha] with Zar
  · isplitr; · iexact HC
    iexact Ha
  ihave HI := (Ctx_bar m ρ c) $$ HC
  icases HI with ⟨HI, -⟩
  imod (close_cell m ρ (duties_bar_later m ρ c)) $$ [HI Pb] with Zb
  · isplitl [HI]; · iexact HI
    iexact Pb
  ihave Hs := (bk_intro (fun x : BK => slotA (sM x.1) x.2 c)) $$ [Lsf0 Lsf1 Lsf2 Lsf3 Lsf4 Lsf5 Lst0 Lst1 Lst2 Lst3 Lst4 Lst5]
  · isplitl [Lsf0]; · iexact Lsf0
    isplitl [Lsf1]; · iexact Lsf1
    isplitl [Lsf2]; · iexact Lsf2
    isplitl [Lsf3]; · iexact Lsf3
    isplitl [Lsf4]; · iexact Lsf4
    isplitl [Lsf5]; · iexact Lsf5
    isplitl [Lst0]; · iexact Lst0
    isplitl [Lst1]; · iexact Lst1
    isplitl [Lst2]; · iexact Lst2
    isplitl [Lst3]; · iexact Lst3
    isplitl [Lst4]; · iexact Lst4
    iexact Lst5
  ihave Hr := (bk_intro (fun x : BK => slotA (rM x.1) x.2 c)) $$ [Lrf0 Lrf1 Lrf2 Lrf3 Lrf4 Lrf5 Lrt0 Lrt1 Lrt2 Lrt3 Lrt4 Lrt5]
  · isplitl [Lrf0]; · iexact Lrf0
    isplitl [Lrf1]; · iexact Lrf1
    isplitl [Lrf2]; · iexact Lrf2
    isplitl [Lrf3]; · iexact Lrf3
    isplitl [Lrf4]; · iexact Lrf4
    isplitl [Lrf5]; · iexact Lrf5
    isplitl [Lrt0]; · iexact Lrt0
    isplitl [Lrt1]; · iexact Lrt1
    isplitl [Lrt2]; · iexact Lrt2
    isplitl [Lrt3]; · iexact Lrt3
    isplitl [Lrt4]; · iexact Lrt4
    iexact Lrt5
  ihave Hs := (sm_join (F := F) c) $$ Hs
  icases Hs with ⟨B3, B4⟩
  ihave Hr := (rm_join (F := F) c) $$ Hr
  icases Hr with ⟨B5, B6⟩
  ihave B0 := (xb_back m ρ c) $$ HXB
  ihave B1 := (wb_back m ρ c) $$ HWB
  ihave B2 := (stage_join (F := F) c) $$ [HT0 HT1]
  · isplitl [HT0]; · iexact HT0
    iexact HT1
  ihave B7 := (as_back m ρ c) $$ Has
  ihave B8 := (ar_back m ρ c) $$ Har
  ihave Hx := (x_join m ρ c) $$ [HX0 HX1]
  · isplitl [HX0]; · iexact HX0
    iexact HX1
  ihave Hw := (Entails.of_eq (w_eq m ρ c).symm) $$ HW
  ihave Ho := (result_join m ρ c) $$ [HO0 HO1 HO2 HO3 HO4 HO5 HO6 HO7]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  imodintro
  rw [ownSems_by_kind, unscopedSems_eq]
  unfold lvs
  isplitl [HO]; · iexact HO
  isplitl [Zb Hx Hw Ho]
  · isplitl [Zb]; · iexact Zb
    isplitl [Hx]; · iexact Hx
    isplitl [Hw]; · iexact Hw
    iexact Ho
  isplitl [Zs Zr Zas Zar HL0 HL1 HL2 HL3]
  · isplitl [Zs]; · iexact Zs
    isplitl [Zr]; · iexact Zr
    isplitl [Zas]; · iexact Zas
    isplitl [Zar]; · iexact Zar
    isplitl [HL0]; · iexact HL0
    isplitl [HL1]; · iexact HL1
    isplitl [HL2]; · iexact HL2
    iexact HL3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-! ## The library's obligations -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(Xs m ρ c ∗ scr c)
def Φ₁ (c : Dev nD) : sProp 𝕄 :=
  iprop(Ys m ρ c ∗ Pipeline.ownSems0 (Ix := ℕ) (Name := ℕ) (U := UU) (Lvl := ℕ) (Val := Elt F) (τ := τ) osem c ∗ scr c)

def dats (_ : Fin 1) (c : Dev nD) : Dat τ (Elt F) ℕ ℕ UU ℕ cfg0 c where
  A w := w.elim0
  after w _ := w.elim0
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

def bodyPre (c : Dev nD) : sProp 𝕄 := iprop(Φ₀ m ρ c ∗ (dats m ρ 0 c).owesAt 0 t₀.castSucc ∗ emp)
def bodyPost (c : Dev nD) : sProp 𝕄 := iprop(Φ₁ m ρ c ∗ (dats m ρ 0 c).owesAt 0 t₀.succ ∗ emp)

theorem body_sound (c : Dev nD) :
    bodyPre m ρ c ⊢ wp frame (wpE (defs₀ (F := F)) 𝒱₀ (c : Thread nD τ) none) Set.univ (Gen.bodyAt0 t₀) (fun _ => bodyPost m ρ c) := by
  unfold bodyPre Φ₀ Dat.owesAt Pipeline.owesWithin
  rw [show (dats m ρ 0 c).owed t₀.castSucc = O₀ c from rfl]
  iintro ⟨⟨HX, HB⟩, ⟨%W, -, HO⟩, -⟩
  ihave HS := (enter m ρ c) $$ [HX HB HO]
  · isplitl [HX]; · iexact HX
    isplitl [HB]; · iexact HB
    iexists W; iexact HO
  icases HS with ⟨#HC, HS⟩
  iapply (body_run m ρ c (Φ := fun _ => bodyPost m ρ c)) $$ [HS]
  · isplitr; · iexact HC
    iexact HS
  iintro HD
  imod (leave m ρ c) $$ [HD] with ⟨HO, HY, HZ, HB⟩
  · isplitr; · iexact HC
    iexact HD
  imodintro
  unfold bodyPost Φ₁ Dat.owesAt Pipeline.owesWithin Own
  rw [show (dats m ρ 0 c).owed t₀.succ = 0 from rfl, owed_end]
  isplitl [HY HZ HB]
  · isplitl [HY]; · iexact HY
    isplitl [HZ]; · iexact HZ
    iexact HB
  isplitl [HO]
  · icases HO with ⟨%W', HO⟩
    iexists W'
    isplitr; · ipureintro; exact fun _ _ => Or.inl trivial
    iexact HO
  iempintro

set_option maxRecDepth 4000 in
theorem body_obligation (c : Dev nD) : Pipeline.BodyObligation (dats (F := F) m ρ 0 c) (defs₀ (F := F)) 𝒱₀ 0 Set.univ := fun t => by
  rw [fin_N t]
  rw [show (Finset.univ : Finset (Fin cfg0.W)) = ∅ from rfl, bigSep_empty, bigSep_empty]
  exact body_sound m ρ c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Xs m ρ c ∗ emp) := by
  rw [Pipeline.unscopedRestP_none, unscopedRest0_eq]
  iintro ⟨⟨Hx, Hw, Ho⟩, Hlev, Hcr, -, HG⟩
  ihave Hc := (creds_intro (F := F) c) $$ Hcr
  imodintro
  unfold Xs G' Ctx allCells
  icases HG with ⟨HI, Hg⟩
  isplitl
  · isplitl [HI Hlev]
    · isplitl [HI]; · iexact HI
      iexact Hlev
    isplitl [Hg]; · iexact Hg
    isplitl [Hc]; · iexact Hc
    isplitl [Hx]; · iexact Hx
    isplitl [Hw]; · iexact Hw
    unfold anyB
    iexists _; iexact Ho
  · iempintro

theorem enter_phi (c : Dev nD) :
    iprop(Xs m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs]; · iexact Hs
  iexact Hr

theorem leave_phi (c : Dev nD) :
    (dats m ρ 0 c).Φ (Fin.last cfg0.N) ⊢ iprop(Ys m ρ c ∗ Pipeline.ownSems0 osem c ∗ Pipeline.scopedRest cfg0.spec c) := by
  rw [show (dats m ρ 0 c).Φ (Fin.last cfg0.N) = Φ₁ m ρ c from rfl, scr_eq]
  exact .rfl

theorem waits (c : Dev nD) : (levAts L lv : sProp 𝕄) ⊢ Pipeline.cellsWaits cfgs (dats m ρ) 0 0 c :=
  Pipeline.cellsWaits_intro cfgs (dats m ρ) 0 0 c fun w s t => w.elim0

/-! ## The run -/

/-- What is known of the memory on device `c` in the end. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outV m ρ c)
  ∧ ∀ sm : SemLoc sig, sm.isScoped .tc = false → s.sem ((c.tc : Thread nD τ), sm) = 0

theorem read_one (c : Dev nD) (b : Ref sig .tc) (f : Buf (Elt F) ((c : Thread nD τ).loc b)) (s' : Phys nD τ sig (Elt F)) :
    iprop((((c : Thread nD τ).loc b) ↦{fullShare} f) ∗ Idealize.ShloMosaic.SI s') ⊢ (⌜s'.mem.mem ((c : Thread nD τ).loc b) = f⌝ : sProp 𝕄) := by
  iintro ⟨Hx, HSI⟩
  ihave H := (SI_pointsTo_agree (st := s') (ℓ := (c : Thread nD τ).loc b) (I := Finset.univ) (q := fullShare) (f := f)) $$ [HSI Hx]
  · isplitl [HSI]; · iexact HSI
    iexact Hx
  icases H with %hx
  ipureintro; exact funext fun i => hx i (Finset.mem_univ i)

theorem read_end (c : Dev nD) (s' : Phys nD τ sig (Elt F)) : iprop(Ys m ρ c ∗ emp ∗ Idealize.ShloMosaic.SI s') ⊢ |={Set.univ}=> iprop(⌜QY m ρ c s'.mem⌝ ∗ Idealize.ShloMosaic.SI s') := by
  unfold Ys
  iintro ⟨⟨Hu, Hx, Hw, Ho⟩, -, HSI⟩
  ihave H := (persistent_entails_right (read_one (F := F) c main_arg0 _ s')) $$ [Hx HSI]
  · isplitl [Hx]; · iexact Hx
    iexact HSI
  icases H with ⟨%h0, -, HSI⟩
  ihave H := (persistent_entails_right (read_one (F := F) c main_arg1 _ s')) $$ [Hw HSI]
  · isplitl [Hw]; · iexact Hw
    iexact HSI
  icases H with ⟨%h1, -, HSI⟩
  ihave H := (persistent_entails_right (read_one (F := F) c main_v1 _ s')) $$ [Ho HSI]
  · isplitl [Ho]; · iexact Ho
    iexact HSI
  icases H with ⟨%h2, -, HSI⟩
  imod (Pipeline.unscopedSems0_read (X := unscopedSems0 c) (c := c) fupd_intro s') $$ [Hu HSI] with ⟨%h3, HSI⟩
  · isplitl [Hu]; · iexact Hu
    iexact HSI
  imodintro
  isplitr
  · ipureintro; exact ⟨⟨h0, h1, h2⟩, h3⟩
  iexact HSI

theorem ownU_split (a : UR sig nD τ) (b : UX) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- What the program's run ends with: on every device the arguments as they were and the result, and every counter at zero. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outV m ρ c) ∧ r.2.sem = fun _ => 0

set_option maxRecDepth 8000 in
/-- On four devices, for any float values, from any memory with counters at zero: every run of the program ends, with each
    device's result as computed, its arguments unchanged and every semaphore counter at zero. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_ring m ρ) $$ HX with HG
      imodintro
      isplitl [HP]; · iexact HP
      iexact HG)
    (hglob := glob m ρ)
    (hA := fun _ w => w.elim0) (hpf := fun _ k => k.elim0)
    (X := Xs m ρ) (Y := Ys m ρ) (Z := fun _ => iprop(emp))
    (hX := start_intro m ρ) (hin := enter_phi m ρ) (hout := leave_phi m ρ)
    (QY := QY m ρ) (hY := read_end m ρ)
    (hQ := fun _ h hs => ⟨fun c => (h c).2.2.1, sem_eq_zero hs fun c => (h c).2.2.2⟩)

end Cert.TwoRings

end
-- ==== Proof.Quant.lean ====
/-
The rounding of one number, at the extended reals: the kernel multiplies by `127 / g` and rounds, the reference divides by
`g / 127`, rounds and clips; scaled back by `g / 127` the two agree for every number no larger than `g` in absolute value.
-/
module

public import Idealize.ShloMosaic.PureOps.Ideal.Laws

@[expose] public section

noncomputable section

namespace Cert.TwoRings

open Idealize.ShloMosaic

/-- A number between two integers rounds to one between them. -/
theorem even_between {r : ℝ} {a b : ℤ} (ha : (a : ℝ) ≤ r) (hb : r ≤ b) : a ≤ Ideal.roundHalfEven r ∧ Ideal.roundHalfEven r ≤ b := by
  have h1 : a ≤ ⌊r⌋ := Int.le_floor.mpr ha
  have h2 : ⌊r⌋ ≤ b := by exact_mod_cast (Int.floor_le r).trans hb
  have h3 : ¬ r - ⌊r⌋ < 1 / 2 → ⌊r⌋ + 1 ≤ b := by
    intro h
    have : (⌊r⌋ : ℝ) < b := by linarith
    exact_mod_cast this
  unfold Ideal.roundHalfEven
  dsimp only
  split_ifs with h h' h'' <;> constructor <;> first | omega | (have := h3 h; omega)

/-- The word of 127. -/
theorem w127 : Ideal.ofBits .f32 0x42FE0000#32 = ((127 : ℝ) : EReal) := by
  simp [Ideal.ofBits, Ideal.ieee, -EReal.coe_mul]; norm_num
/-- The word of -127. -/
theorem wm127 : Ideal.ofBits .f32 0xC2FE0000#32 = ((-127 : ℝ) : EReal) := by
  simp [Ideal.ofBits, Ideal.ieee, -EReal.coe_mul]; norm_num
/-- The word of the least number. -/
theorem wbot : Ideal.ofBits .f32 0xFF800000#32 = (⊥ : EReal) := by
  simp [Ideal.ofBits, Ideal.ieee]

/-- An absolute value is not negative. -/
theorem abs_nn (y : EReal) : 0 ≤ max y (-y) := by
  rcases le_total 0 y with h | h
  · exact h.trans (le_max_left _ _)
  · exact (by simpa using EReal.neg_le_neg_iff.mpr h : (0 : EReal) ≤ -y).trans (le_max_right _ _)

/-- The two roundings agree. -/
theorem quant_eq {g y : EReal} (h : max y (-y) ≤ g) :
    Ideal.liftRound Ideal.roundHalfEven (y * Ideal.div ((127 : ℝ) : EReal) g) * Ideal.div g ((127 : ℝ) : EReal)
      = min ((127 : ℝ) : EReal) (max ((-127 : ℝ) : EReal) (Ideal.liftRound Ideal.roundHalfEven (Ideal.div y (Ideal.div g ((127 : ℝ) : EReal)))))
        * Ideal.div g ((127 : ℝ) : EReal) := by
  have h0 : 0 ≤ g := (abs_nn y).trans h
  have hy : y ≤ g := (le_max_left _ _).trans h
  have hn : -y ≤ g := (le_max_right _ _).trans h
  have r0 : Ideal.roundHalfEven 0 = 0 := by
    have := even_between (r := 0) (a := 0) (b := 0) (by simp) (by simp); omega
  induction g using EReal.rec with
  | bot => exact absurd h0 (by simp)
  | top =>
    have e1 : Ideal.div ((127 : ℝ) : EReal) ⊤ = 0 := by simp [Ideal.div]
    have e2 : Ideal.div (⊤ : EReal) ((127 : ℝ) : EReal) = ⊤ := by
      rw [Ideal.div_coe (by norm_num)]; exact EReal.top_mul_coe_of_pos (by norm_num)
    have e3 : Ideal.div y ⊤ = 0 := by simp [Ideal.div]
    have e4 : Ideal.liftRound Ideal.roundHalfEven (0 : EReal) = 0 := by
      have : Ideal.liftRound Ideal.roundHalfEven ((0 : ℝ) : EReal) = ((0 : ℝ) : EReal) := by rw [Ideal.liftRound_coe, r0]; simp
      simpa using this
    have e5 : min ((127 : ℝ) : EReal) (max ((-127 : ℝ) : EReal) 0) = 0 := by
      rw [max_eq_right (by exact_mod_cast (by norm_num : (-127 : ℝ) ≤ 0)), min_eq_right (by exact_mod_cast (by norm_num : (0 : ℝ) ≤ 127))]
    rw [e1, e2, e3, mul_zero, e4, e5]
  | coe g =>
    have hg : 0 ≤ g := by exact_mod_cast h0
    induction y using EReal.rec with
    | bot => exact absurd hn (by simp)
    | top => exact absurd hy (by simp)
    | coe y =>
      have hy' : y ≤ g := by exact_mod_cast hy
      have hn' : -y ≤ g := by exact_mod_cast hn
      have es : Ideal.div (g : EReal) ((127 : ℝ) : EReal) = ((g / 127 : ℝ) : EReal) := by
        rw [Ideal.div_coe (by norm_num), ← EReal.coe_mul]; congr 1; ring
      rcases hg.eq_or_lt with rfl | hp
      · have : y = 0 := by linarith
        subst this
        rw [es]; simp
      · have ei : Ideal.div ((127 : ℝ) : EReal) (g : EReal) = ((127 / g : ℝ) : EReal) := by
          rw [Ideal.div_coe hp.ne', ← EReal.coe_mul]; congr 1; ring
        have eq : Ideal.div (y : EReal) ((g / 127 : ℝ) : EReal) = ((y * (127 / g) : ℝ) : EReal) := by
          rw [Ideal.div_coe (by positivity), ← EReal.coe_mul]; congr 1; field_simp
        have b1 : ((-127 : ℤ) : ℝ) ≤ y * (127 / g) := by
          rw [mul_div_assoc', le_div_iff₀ hp]; push_cast; nlinarith
        have b2 : y * (127 / g) ≤ ((127 : ℤ) : ℝ) := by
          rw [mul_div_assoc', div_le_iff₀ hp]; push_cast; nlinarith
        obtain ⟨c1, c2⟩ := even_between b1 b2
        rw [es, ei, eq, ← EReal.coe_mul, Ideal.liftRound_coe, max_eq_right, min_eq_right]
        · exact_mod_cast c2
        · exact_mod_cast c1

end Cert.TwoRings

end
-- ==== Proof.Sums.lean ====
/-
What the finished half-tiles hold at the extended reals: the four devices' contributions add up to the whole product.
-/
module

public import proofs.«01_k».proof.Proof.Finish
public import proofs.«01_k».proof.Proof.Quant
public import Idealize.ShloMosaic.Lib.MatmulPlain
public import Idealize.ShloMosaic.Lib.Layout
public import Idealize.ShloMosaic.Lib.Pipeline.Value

@[expose] public section

noncomputable section

namespace Cert.TwoRings

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)
variable (X : FVec Ideal ⟨2, ![4096, 4096]⟩ .f32) (W : FVec Ideal ⟨2, ![4096, 8192]⟩ .f32)

/-- The launch's arguments are the blocks of two whole arrays. -/
structure Agree : Prop where
  x : ∀ c, xC m ρ c = Layout.block ⟨2, ![4096, 1024]⟩ ⟨2, ![4096, 4096]⟩ 1 4 c X
  w : ∀ c, wC m ρ c = Layout.block ⟨2, ![1024, 8192]⟩ ⟨2, ![4096, 8192]⟩ 0 4 c W

/-- Row or column `a` of block `e`. -/
def inBlk (e : Fin 4) (a : Fin 1024) : Fin 4096 := ⟨1024 * e.val + a.val, by omega⟩
/-- Column `a` of tile `t`. -/
def inTile (t : Fin 8) (a : Fin 1024) : Fin 8192 := ⟨1024 * t.val + a.val, by omega⟩
/-- Column `a` of half `u`. -/
def inHalf (u : Fin 2) (a : Fin 512) : Fin 1024 := ⟨512 * u.val + a.val, by omega⟩

/-- The whole product. -/
def whole (r : Fin 4096) (q : Fin 8192) : EReal := ∑ k : Fin 4096, X (ix2 r k) * W (ix2 k q)
/-- Device `e`'s share of it. -/
def share (e : Fin 4) (r : Fin 4096) (q : Fin 8192) : EReal := ∑ k : Fin 1024, X (ix2 r (inBlk e k)) * W (ix2 (inBlk e k) q)

/-- The shares add up. -/
theorem shares_add (r : Fin 4096) (q : Fin 8192) : ∑ e, share X W e r q = whole X W r q := by
  unfold share whole
  rw [← Fintype.sum_prod_type' (f := fun (e : Fin 4) (k : Fin 1024) => X (ix2 r (inBlk e k)) * W (ix2 (inBlk e k) q)),
    ← Equiv.sum_comp (finProdFinEquiv (m := 4) (n := 1024))]
  refine Finset.sum_congr rfl fun p _ => ?_
  have : inBlk p.1 p.2 = (finProdFinEquiv p : Fin (4 * 1024)) := Fin.ext (by show 1024 * p.1.val + p.2.val = p.2.val + 1024 * p.1.val; omega)
  rw [this]

variable {m ρ X W}

theorem xC_at (h : Agree m ρ X W) (c : Fin 4) (r : Fin 4096) (k : Fin 1024) : xC m ρ c (ix2 r k) = X (ix2 r (inBlk c k)) := by
  rw [h.x c]
  refine congrArg X (funext fun a => Fin.ext ?_)
  match a with
  | ⟨0, _⟩ => rfl
  | ⟨1, _⟩ => show c.val * 1024 + k.val = 1024 * c.val + k.val; omega

theorem wC_at (h : Agree m ρ X W) (c : Fin 4) (k : Fin 1024) (q : Fin 8192) : wC m ρ c (ix2 k q) = W (ix2 (inBlk c k) q) := by
  rw [h.w c]
  refine congrArg W (funext fun a => Fin.ext ?_)
  match a with
  | ⟨0, _⟩ => show c.val * 1024 + k.val = 1024 * c.val + k.val; omega
  | ⟨1, _⟩ => rfl

theorem xch_at (h : Agree m ρ X W) (c d : Fin 4) (i k : Fin 1024) : xch m ρ c d (ix2 i k) = X (ix2 (inBlk d i) (inBlk c k)) := by
  rw [← xC_at h]
  show xC m ρ c _ = xC m ρ c _
  refine congrArg (xC m ρ c) (funext fun a => Fin.ext ?_)
  match a with
  | ⟨0, _⟩ => show 1024 * d.val + 1 * i.val = 1024 * d.val + i.val; omega
  | ⟨1, _⟩ => show 0 + 1 * k.val = k.val; omega

theorem wcl_at (h : Agree m ρ X W) (c : Fin 4) (t : Fin 8) (u : Fin 2) (k : Fin 1024) (j : Fin 512) :
    wcl m ρ c t u (ix2 k j) = W (ix2 (inBlk c k) (inTile t (inHalf u j))) := by
  rw [← wC_at h]
  show wC m ρ c _ = wC m ρ c _
  refine congrArg (wC m ρ c) (funext fun a => Fin.ext ?_)
  match a with
  | ⟨0, _⟩ => show 0 + 1 * k.val = k.val; omega
  | ⟨1, _⟩ => show (1024 * t.val + 512 * u.val) + 1 * j.val = 1024 * t.val + (512 * u.val + j.val); omega

/-- One device's contribution. -/
theorem prt_at (h : Agree m ρ X W) (c d : Fin 4) (t : Fin 8) (u : Fin 2) (i : Fin 1024) (j : Fin 512) :
    prt m ρ c d t u (ix2 i j) = share X W c (inBlk d i) (inTile t (inHalf u j)) := by
  have e := Ideal.matmul_plain_apply (M := 1024) (K := 1024) (N := 512) none (xch m ρ c d) (wcl m ρ c t u)
    (constant S1024x512 .f32 0x00000000#32) i j
  refine (show prt m ρ c d t u (ix2 i j) = _ from e).trans ?_
  have z : (constant (F := Ideal) S1024x512 .f32 0x00000000#32 : FVec Ideal S1024x512 .f32) (ix2 i j) = (0 : EReal) := Ideal.ofBits_zero_f32
  rw [z, zero_add]
  exact Finset.sum_congr rfl fun k _ => by rw [xch_at h, wcl_at h]

/-- What a message holds, as a half-tile. -/
def mat (m : (ℓ : Loc nD τ sig) → Buf (Elt Ideal) ℓ) (ρ : Dev nD → PrngReg) (b : Bool) (p : ℕ) (u : Fin 2) (n : ℕ) (c : Dev nD) : FVec Ideal S1024x512 .bf16 :=
  shapeCast S1024x512 (msg m ρ b p u n c) shapeCasts_S1x1024x512_S1024x512

theorem cast_first (A : FVec Ideal S1024x512 .f32) :
    shapeCast S1024x512 (k0_pay4 A) shapeCasts_S1x1024x512_S1024x512 = truncf .bf16 A bitsLt_bf16_f32 := by
  unfold k0_pay4
  exact shapeCast_shapeCast _ _ _

theorem cast_next (A : FVec Ideal S1024x512 .f32) (M : FVec Ideal S1x1024x512 .bf16) :
    shapeCast S1024x512 (k0_pay9 A M) shapeCasts_S1x1024x512_S1024x512
      = truncf .bf16 (addf (extf .f32 (shapeCast S1024x512 M shapeCasts_S1x1024x512_S1024x512) bitsLt_bf16_f32) A) bitsLt_bf16_f32 := by
  unfold k0_pay9
  exact shapeCast_shapeCast _ _ _

theorem mat_zero (b : Bool) (p : ℕ) (u : Fin 2) (c : Dev nD) (j : S1024x512.Idx) :
    mat m ρ b p u 0 c j = prt m ρ c (chk b c 0) (tile b p) u j := by
  unfold mat msg
  rw [cast_first]; rfl

theorem mat_succ (b : Bool) (p : ℕ) (u : Fin 2) (n : ℕ) (c : Dev nD) (j : S1024x512.Idx) :
    mat m ρ b p u (n + 1) c j = (mat m ρ b p u n (src b c) j : EReal) + (prt m ρ c (chk b c (n + 1)) (tile b p) u j : EReal) := by
  unfold mat
  rw [msg, cast_next]; rfl

/-- The chunk the last hop reaches is the device's own, and one device back the hop before worked on the same chunk. -/
theorem chk_back (b : Bool) (c : Dev nD) : chk b c 3 = c ∧ chk b (src b c) 2 = c ∧ chk b (src b (src b c)) 1 = c
    ∧ chk b (src b (src b (src b c))) 0 = c := by
  revert b c; decide

/-- Four devices back along a ring is all four. -/
theorem around (b : Bool) (c : Dev nD) (f : Dev nD → EReal) : f (src b (src b (src b c))) + f (src b (src b c)) + f (src b c) + f c = ∑ e, f e := by
  rw [show ∑ e : Dev nD, f e = f 0 + f 1 + f 2 + f 3 from Fin.sum_univ_four f]
  have aux : ∀ w x y z w' x' y' z' : Dev nD, [w, x, y, z].Perm [w', x', y', z'] → f w + f x + f y + f z = f w' + f x' + f y' + f z' := by
    intro w x y z w' x' y' z' hp
    have := (hp.map f).sum_eq
    simpa [add_assoc] using this
  apply aux
  revert b c; decide

/-- A finished half-tile is the whole product's. -/
theorem acc_at (h : Agree m ρ X W) (b : Bool) (p : ℕ) (u : Fin 2) (c : Dev nD) (i : Fin 1024) (j : Fin 512) :
    acc m ρ b p u c (ix2 i j) = whole X W (inBlk c i) (inTile (tile b p) (inHalf u j)) := by
  obtain ⟨h3, h2, h1, h0⟩ := chk_back b c
  have e : acc m ρ b p u c (ix2 i j) = (mat m ρ b p u 2 (src b c) (ix2 i j) : EReal) + (prt m ρ c (chk b c 3) (tile b p) u (ix2 i j) : EReal) := rfl
  rw [e, mat_succ, mat_succ, mat_zero, h3, h2, h1, h0, prt_at h, prt_at h, prt_at h, prt_at h, ← shares_add]
  exact around b c fun e => share X W e (inBlk c i) (inTile (tile b p) (inHalf u j))

/-- A finished tile is the whole product's. -/
theorem ot_at (h : Agree m ρ X W) (c : Dev nD) (t : Fin 8) (i j : Fin 1024) : otT m ρ c t (ix2 i j) = whole X W (inBlk c i) (inTile t j) := by
  have ht : tile (decide (4 ≤ t.val)) (t.val % 4) = t := by revert t; decide
  unfold otT otl glue
  split
  · rename_i hj
    have hj' : j.val < 512 := hj
    refine (congrArg _ (eq_ix2 _)).trans ((acc_at h _ _ 0 c i ⟨j.val, hj'⟩).trans ?_)
    rw [ht]; congr 2; exact Fin.ext (by show 512 * 0 + j.val = j.val; omega)
  · rename_i hj
    have hj' : ¬ j.val < 512 := hj
    refine (congrArg _ (eq_ix2 _)).trans ((acc_at h _ _ 1 c i ⟨j.val - 512, by omega⟩).trans ?_)
    rw [ht]; congr 2; exact Fin.ext (by show 512 * 1 + (j.val - 512) = j.val; omega)

end Cert.TwoRings

end
-- ==== Proof.Peak.lean ====
/-
The largest absolute value at the extended reals: what the devices find between them and what the reference finds are the
same number, since each is the least bound of the whole product's absolute values.
-/
module

public import proofs.«01_k».proof.Proof.Sums

@[expose] public section

noncomputable section

namespace Cert.TwoRings

open Cert.KernelIdeal Cert.KernelIdeal.Gen

open Idealize.ShloMosaic
open Idealize.ShloMosaic.TcCoe
open Idealize.ShloMosaic.ValueIdx

variable {m : (ℓ : Loc nD τ sig) → Buf (Elt Ideal) ℓ} {ρ : Dev nD → PrngReg}
variable {X : FVec Ideal ⟨2, ![4096, 4096]⟩ .f32} {W : FVec Ideal ⟨2, ![4096, 8192]⟩ .f32}

/-- The larger of two, below a bound. -/
theorem fmax_le (x y B : EReal) : (FloatOps.maximumf (F := Ideal) (φ := .f32) x y : EReal) ≤ B ↔ x ≤ B ∧ y ≤ B := by
  show max x y ≤ B ↔ _
  exact max_le_iff

/-- A fold of maxima, below a bound. -/
theorem fold_le {ι : Type} (S : Finset ι) (b : EReal) (f : ι → EReal) (B : EReal) :
    (S.fold (FloatOps.maximumf (F := Ideal) (φ := .f32)) b f : EReal) ≤ B ↔ b ≤ B ∧ ∀ i ∈ S, f i ≤ B := by
  induction S using Finset.cons_induction with
  | empty => simp
  | cons a S ha ih =>
    rw [Finset.fold_cons, fmax_le, ih]
    constructor
    · rintro ⟨h1, h2, h3⟩
      exact ⟨h2, fun i hi => (Finset.mem_cons.mp hi).elim (fun e => e ▸ h1) (h3 i)⟩
    · rintro ⟨h1, h2⟩
      exact ⟨h2 a (Finset.mem_cons_self _ _), h1, fun i hi => h2 i (Finset.mem_cons_of_mem hi)⟩

theorem one_size : ∀ a, S1.size a = 1 := by decide

/-- A maximum over all axes but a unit one, read anywhere, below a bound. -/
theorem red_le {s : Shape} {axes : List (Fin s.rank)} (src : FVec Ideal s .f32) (h : s.Reduces axes S1)
    (hφ : FKind.Formats .f32) (hacc : 0xFF800000#32 = FKind.maximumf.neutral .f32 hφ) (j : S1.Idx) (B : EReal) :
    (multiReduction .maximumf axes S1 src 0xFF800000#32 h hφ hacc j : EReal) ≤ B ↔ ∀ i, (src i : EReal) ≤ B := by
  rw [multiReduction_maximumf_eq_fold, fold_le]
  have e : (FloatOps.ofBits (F := Ideal) .f32 0xFF800000#32 : EReal) = ⊥ := wbot
  rw [e]
  constructor
  · rintro ⟨-, H⟩ i
    exact H i (Finset.mem_filter.mpr ⟨Finset.mem_univ _, funext fun a => Fin.ext (by
      have h1 : ((h.drop i) a).val < S1.size a := ((h.drop i) a).isLt
      have h2 : (j a).val < S1.size a := (j a).isLt
      have h3 : S1.size a = 1 := one_size a
      omega)⟩)
  · exact fun H => ⟨bot_le, fun i _ => H i⟩

/-- A reshaped vector has the same bounds. -/
theorem cast_le {s t : Shape} (v : FVec Ideal s .f32) (h : s.ShapeCasts t) (B : EReal) :
    (∀ i, (shapeCast t v h i : EReal) ≤ B) ↔ ∀ j, (v j : EReal) ≤ B := by
  constructor
  · intro H j
    have := H ((Shape.reshapeEquiv h).symm j)
    unfold shapeCast at this
    rwa [Equiv.apply_symm_apply] at this
  · exact fun H i => H _

/-- The running maximum after one more half-tile, below a bound. -/
theorem mxs_le (g : EReal) (A : FVec Ideal S1024x512 .f32) (B : EReal) :
    (mxs (F := Ideal) g A : EReal) ≤ B ↔ g ≤ B ∧ ∀ j, max (A j : EReal) (-(A j : EReal)) ≤ B := by
  unfold mxs
  refine (fmax_le _ _ _).trans (and_congr_right fun _ => ?_)
  refine (red_le _ _ (.inl rfl) rfl _ _).trans ((cast_le _ _ _).trans ?_)
  exact Iff.rfl

/-- All absolute values of the whole product's rows on device `c`, tile `t`, below a bound. -/
def under (X : FVec Ideal ⟨2, ![4096, 4096]⟩ .f32) (W : FVec Ideal ⟨2, ![4096, 8192]⟩ .f32) (c : Fin 4) (t : Fin 8) (B : EReal) : Prop :=
  ∀ i j : Fin 1024, max (whole X W (inBlk c i) (inTile t j)) (-(whole X W (inBlk c i) (inTile t j))) ≤ B

/-- Two finished halves below a bound are a tile below it. -/
theorem halves_le (h : Agree m ρ X W) (b : Bool) (p : ℕ) (c : Dev nD) (B : EReal) :
    ((∀ j, max (acc m ρ b p 0 c j : EReal) (-(acc m ρ b p 0 c j : EReal)) ≤ B) ∧ ∀ j, max (acc m ρ b p 1 c j : EReal) (-(acc m ρ b p 1 c j : EReal)) ≤ B)
      ↔ under X W c (tile b p) B := by
  have cut : ∀ j : Fin 1024, (∃ k, j = inHalf 0 k) ∨ ∃ k, j = inHalf 1 k := by
    intro j
    by_cases hj : j.val < 512
    · exact .inl ⟨⟨j.val, hj⟩, Fin.ext (by show j.val = 512 * 0 + j.val; omega)⟩
    · exact .inr ⟨⟨j.val - 512, by omega⟩, Fin.ext (by show j.val = 512 * 1 + (j.val - 512); omega)⟩
  constructor
  · rintro ⟨H0, H1⟩ i j
    rcases cut j with ⟨k, rfl⟩ | ⟨k, rfl⟩
    · have := H0 (ix2 i k); rwa [acc_at h] at this
    · have := H1 (ix2 i k); rwa [acc_at h] at this
  · intro H
    have at_ix : ∀ j : S1024x512.Idx, ∃ (i : Fin 1024) (k : Fin 512), j = ix2 i k := fun j => ⟨j 0, j 1, eq_ix2 j⟩
    constructor <;> intro j <;> obtain ⟨i, k, rfl⟩ := at_ix j <;> rw [acc_at h] <;> exact H _ _

/-- The running maximum after four more half-tiles, below a bound. -/
theorem mxs4_le (g : EReal) (A₁ A₂ A₃ A₄ : FVec Ideal S1024x512 .f32) (B : EReal) :
    (mxs (F := Ideal) (mxs (mxs (mxs g A₁) A₂) A₃) A₄ : EReal) ≤ B ↔ g ≤ B
      ∧ ((∀ j, max (A₁ j : EReal) (-(A₁ j : EReal)) ≤ B) ∧ ∀ j, max (A₃ j : EReal) (-(A₃ j : EReal)) ≤ B)
      ∧ ((∀ j, max (A₂ j : EReal) (-(A₂ j : EReal)) ≤ B) ∧ ∀ j, max (A₄ j : EReal) (-(A₄ j : EReal)) ≤ B) := by
  rw [mxs_le, mxs_le, mxs_le, mxs_le]
  constructor
  · rintro ⟨⟨⟨⟨h0, h1⟩, h2⟩, h3⟩, h4⟩
    exact ⟨h0, ⟨h1, h3⟩, h2, h4⟩
  · rintro ⟨h0, ⟨h1, h3⟩, h2, h4⟩
    exact ⟨⟨⟨⟨h0, h1⟩, h2⟩, h3⟩, h4⟩

theorem lmx_step (h : Agree m ρ X W) (c : Dev nD) (p : ℕ) (B : EReal) :
    (lmx m ρ c (p + 1) : EReal) ≤ B ↔ (lmx m ρ c p : EReal) ≤ B ∧ under X W c (tile false p) B ∧ under X W c (tile true p) B := by
  rw [← halves_le h false, ← halves_le h true, lmx]
  exact mxs4_le _ _ _ _ _ _

/-- A device's maximum, below a bound. -/
theorem lmx_le (h : Agree m ρ X W) (c : Dev nD) (B : EReal) :
    (lmx m ρ c 4 : EReal) ≤ B ↔ 0 ≤ B ∧ ∀ t, under X W c t B := by
  have e : (lmx m ρ c 0 : EReal) = 0 := Ideal.ofBits_zero_f32
  rw [lmx_step h, lmx_step h, lmx_step h, lmx_step h, e]
  have tl : ∀ t : Fin 8, t = tile false 0 ∨ t = tile true 0 ∨ t = tile false 1 ∨ t = tile true 1 ∨ t = tile false 2 ∨ t = tile true 2 ∨ t = tile false 3 ∨ t = tile true 3 := by
    decide
  constructor
  · rintro ⟨⟨⟨⟨hB, h0, h1⟩, h2, h3⟩, h4, h5⟩, h6, h7⟩
    refine ⟨hB, fun t => ?_⟩
    rcases tl t with e | e | e | e | e | e | e | e <;> rw [e] <;> assumption
  · rintro ⟨hB, H⟩
    exact ⟨⟨⟨⟨hB, H _, H _⟩, H _, H _⟩, H _, H _⟩, H _, H _⟩

/-- The maximum over what arrived and the device's own, below a bound. -/
theorem pay43_le (g : EReal) (v : FVec Ideal S3x8x128 .f32) (B : EReal) :
    (k0_pay43 (F := Ideal) g v : EReal) ≤ B ↔ g ≤ B ∧ ∀ i, (v i : EReal) ≤ B := by
  unfold k0_pay43
  exact (fmax_le _ _ _).trans (and_congr_right fun _ => (red_le _ _ (.inl rfl) rfl _ _).trans (cast_le _ _ _))

theorem all_met (c d : Dev nD) : d = c ∨ ∃ k, d = asrc k c := by revert d c; decide

/-- The device's own and the three that arrived are the four devices'. -/
theorem four_le (L : Dev nD → EReal) (c : Dev nD) (B : EReal) :
    (L c ≤ B ∧ ∀ i : S3x8x128.Idx, L (asrc (i 0) c) ≤ B) ↔ ∀ d, L d ≤ B := by
  constructor
  · rintro ⟨H0, H1⟩ d
    rcases all_met c d with e | ⟨k, e⟩
    · rw [e]; exact H0
    · rw [e]; exact H1 (ix3 k (0 : Fin 8) (0 : Fin 128))
  · exact fun H => ⟨H c, fun i => H _⟩

/-- Every place of the whole product is on one device and in one tile of it. -/
theorem under_all (B : EReal) : (∀ c t, under X W c t B) ↔ ∀ r q, max (whole X W r q) (-(whole X W r q)) ≤ B := by
  constructor
  · intro H r q
    have hr : r = inBlk ⟨r.val / 1024, by omega⟩ ⟨r.val % 1024, Nat.mod_lt _ (by decide)⟩ :=
      Fin.ext (by show r.val = 1024 * (r.val / 1024) + r.val % 1024; omega)
    have hq : q = inTile ⟨q.val / 1024, by omega⟩ ⟨q.val % 1024, Nat.mod_lt _ (by decide)⟩ :=
      Fin.ext (by show q.val = 1024 * (q.val / 1024) + q.val % 1024; omega)
    rw [hr, hq]
    exact H _ _ _ _
  · exact fun H c t i j => H _ _

/-- The largest of the four devices' maxima, below a bound. -/
theorem gmx_le (h : Agree m ρ X W) (c : Dev nD) (B : EReal) :
    (k0_pay43 (lmx m ρ c 4) (amR m ρ c) : EReal) ≤ B ↔ ∀ r q, max (whole X W r q) (-(whole X W r q)) ≤ B := by
  refine (pay43_le _ _ _).trans ((four_le (fun d => lmx m ρ d 4) c B).trans ?_)
  rw [← under_all]
  constructor
  · exact fun H d => ((lmx_le h d B).mp (H d)).2
  · intro H d
    exact (lmx_le h d B).mpr ⟨(abs_nn _).trans (H 0 0 0 0), H d⟩

end Cert.TwoRings

end
-- ==== Proof.Value.lean ====
/-
The value claim at the extended reals: the reference's result, read at an index, and each device's block of it.
-/
module

public import proofs.«01_k».proof.Proof.Peak
public import proofs.«01_k».proof.Proof.Launch
public import proofs.«01_k».proof.Proof.Gen.ReferenceIdeal.Run
public import Idealize.ShloMosaic.Lib.StackMember
public import Idealize.ShloMosaic.Lib.IdealHost

@[expose] public section

noncomputable section

namespace Cert.TwoRings

open Idealize.ShloMosaic
open Idealize.ShloMosaic.TcCoe
open Idealize.ShloMosaic.ValueIdx

/-! ## The reference -/

section Reference

open Cert.ReferenceIdeal Cert.ReferenceIdeal.Gen

variable (X : FVec Ideal S4096x4096 .f32) (W : FVec Ideal S4096x8192 .f32)

/-- The reference's product. -/
def refY : FVec Ideal S4096x8192 .f32 := Host.dotGeneral (F := Ideal) dot_S4096x4096_S4096x8192_S4096x8192_1_0_0_1_n_n none X W
/-- Its largest absolute value. -/
def refG : FVec Ideal S_ .f32 := Host.reduce FloatOps.maximumf (Host.absf (refY X W)) (constant S_ .f32 0xFF800000#32) reducesTo_S4096x8192_S_d0_1 h_S_
/-- Its step. -/
def refS : FVec Ideal S_ .f32 := Host.divf (refG X W) (constant S_ .f32 0x42FE0000#32)
/-- Its result. -/
def refV : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (refY X W) (broadcastInDim S4096x8192 ![] bcast_S_S4096x8192 (refS X W))))))
    (broadcastInDim S4096x8192 ![] bcast_S_S4096x8192 (refS X W))

theorem refY_at (r : Fin 4096) (q : Fin 8192) : refY X W (ix2 r q) = whole X W r q := by
  unfold refY whole
  exact StackMember.dotGeneral_plain_apply none X W r q

/-- The reference's largest absolute value, below a bound. -/
theorem refG_le (B : EReal) : (refG X W ix0 : EReal) ≤ B ↔ ∀ r q, max (whole X W r q) (-(whole X W r q)) ≤ B := by
  unfold refG
  rw [Host.reduce_eq_fold, fold_le]
  have e : ∀ i, ((constant (F := Ideal) S_ .f32 0xFF800000#32 : FVec Ideal S_ .f32) i : EReal) = ⊥ := fun _ => wbot
  rw [e]
  constructor
  · rintro ⟨-, H⟩ r q
    have := H (ix2 r q) (Finset.mem_filter.mpr ⟨Finset.mem_univ _, funext fun a => a.elim0⟩)
    rw [← refY_at]; exact this
  · intro H
    refine ⟨bot_le, fun i _ => ?_⟩
    obtain ⟨r, q, rfl⟩ : ∃ (r : Fin 4096) (q : Fin 8192), i = ix2 r q := ⟨i 0, i 1, eq_ix2 i⟩
    have := H r q
    rw [← refY_at] at this
    exact this

theorem refS_at : refS X W ix0 = Ideal.div (refG X W ix0) ((127 : ℝ) : EReal) := by
  rw [← w127]; rfl

theorem refV_at (r : Fin 4096) (q : Fin 8192) : refV X W (ix2 r q)
    = (min ((127 : ℝ) : EReal) (max ((-127 : ℝ) : EReal) (Ideal.liftRound Ideal.roundHalfEven
        (Ideal.div (whole X W r q) (Ideal.div (refG X W ix0) ((127 : ℝ) : EReal)))))) * Ideal.div (refG X W ix0) ((127 : ℝ) : EReal) := by
  rw [← refS_at, ← refY_at, ← w127, ← wm127, ← broadcastInDim_scalar_apply bcast_S_S4096x8192 (refS X W) (ix2 r q)]
  rfl

end Reference

/-! ## The kernel -/

section Kernel

open Cert.KernelIdeal Cert.KernelIdeal.Gen

variable {m : (ℓ : Loc nD τ sig) → Buf (Elt Ideal) ℓ} {ρ : Dev nD → PrngReg}
variable {X : FVec Ideal ⟨2, ![4096, 4096]⟩ .f32} {W : FVec Ideal ⟨2, ![4096, 8192]⟩ .f32}

/-- The two largest absolute values are one. -/
theorem peak_eq (h : Agree m ρ X W) (c : Dev nD) : (k0_pay43 (lmx m ρ c 4) (amR m ρ c) : EReal) = refG X W ix0 :=
  eq_of_forall_ge_iff fun B => (gmx_le h c B).trans (refG_le X W B).symm

theorem qz_at (a b : EReal) (Y : FVec Ideal S1024x1024 .f32) (i : S1024x1024.Idx) :
    qz (F := Ideal) a b Y i = (Ideal.liftRound Ideal.roundHalfEven ((Y i : EReal) * b) * a : EReal) := rfl
theorem pay44_eq (g : EReal) (v : FVec Ideal S3x8x128 .f32) :
    k0_pay44 (F := Ideal) g v = Ideal.div (k0_pay43 (F := Ideal) g v) ((127 : ℝ) : EReal) := by
  rw [← w127]; unfold k0_pay44; rfl
theorem pay45_eq (g : EReal) (v : FVec Ideal S3x8x128 .f32) :
    k0_pay45 (F := Ideal) g v = Ideal.div ((127 : ℝ) : EReal) (k0_pay43 (F := Ideal) g v) := by
  rw [← w127]; unfold k0_pay45; rfl

/-- A place of a device's result is the reference's. -/
theorem qt_at (h : Agree m ρ X W) (c : Dev nD) (t : Fin 8) (i j : Fin 1024) :
    qtT m ρ c t (ix2 i j) = refV X W (ix2 (inBlk c i) (inTile t j)) := by
  have hle := (refG_le X W (refG X W ix0)).mp le_rfl (inBlk c i) (inTile t j)
  rw [refV_at, ← quant_eq hle, qtT, qz_at, pay44_eq, pay45_eq, peak_eq h c, ot_at h]

/-- Each device's result is its block of the reference's. -/
theorem out_block (h : Agree m ρ X W) (c : Dev nD) : outV m ρ c = Layout.block ⟨2, ![1024, 8192]⟩ ⟨2, ![4096, 8192]⟩ 0 4 c (refV X W) := by
  funext x
  have hx : (x 1).val < 8192 := (x 1).isLt
  refine (show outV m ρ c x = qtT m ρ c (tOf x) (jIn x) from rfl).trans ?_
  rw [eq_ix2 (jIn x)]
  refine (qt_at h c (tOf x) (jIn x 0) (jIn x 1)).trans (congrArg (refV X W) (funext fun a => Fin.ext ?_))
  match a with
  | ⟨0, _⟩ => show 1024 * c.val + (x 0).val = c.val * 1024 + (x 0).val; omega
  | ⟨1, _⟩ => show 1024 * ((x 1).val / 1024) + (x 1).val % 1024 = (x 1).val; omega

end Kernel

end Cert.TwoRings

end
-- ==== Proof.lean ====
/-
The claims, put together: the frames from the two runs, `preserves` (no operation was rewritten), and the value claim:
every device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe
open Idealize.SL.Sem

/-- The kernel as printed ends with its arguments unchanged and every counter at zero: the run of the same text. -/
theorem frame_kernel : Cert.quiescent_Kernel := fun m ρ _ =>
  (θ_run Cert.KernelIdeal.defs _ _).mono (fun _ h => ⟨fun c => ⟨(h.1 c).1, (h.1 c).2.1⟩, h.2⟩) (Cert.TwoRings.run_main (F := Bits) m ρ)

/-- So does its reading at the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.TwoRings.run_main (F := Ideal) m ρ)

/-- The reference ends with its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference compute the same function of the whole arrays. -/
theorem algebraic : Cert.algebraic_KernelIdeal_ReferenceIdeal := fun m ρ m' ρ' _ hag =>
  ⟨Cert.TwoRings.refV _ _,
    (θ_run Cert.KernelIdeal.defs _ _).mono (fun _ h c => ⟨((h.1 c).2.2).trans (Cert.TwoRings.out_block ⟨fun c => (hag c).1, fun c => (hag c).2⟩ c),
      (h.1 c).1, (h.1 c).2.1⟩) (Cert.TwoRings.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
